-- ==== Defs.lean ====
def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Moe [hPre_plan_in_range : Cert.Pre_plan_in_range.Facts] (m : (ℓ : Loc Cert.Moe.nD Cert.Moe.τ Cert.Moe.sig) → Buf (Elt Bits) ℓ) : Prop :=
  ∀ c : Dev Cert.Moe.nD,
    (Cert.Pre_plan_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_plan_in_range : Cert.Pre_plan_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_plan_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_plan_in_range [hPre_plan_in_range : Cert.Pre_plan_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_plan_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4))
      ∧ r.2.sem = fun _ => 0)

def quiescent_Moe [hMoe : Cert.Moe.Facts] [hPre_plan_in_range : Cert.Pre_plan_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_plan_in_range : Cert.Pre_plan_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_plan_in_range [hMoeRefIdeal : Cert.MoeRefIdeal.Facts] [hPre_plan_in_range : Cert.Pre_plan_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_plan_in_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7))
      ∧ r.2.sem = fun _ => 0)

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v5)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v5) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v19) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4))

def preserves_Moe_MoeIdeal : Prop :=
  True

def algebraic_MoeIdeal_MoeRefIdeal [hMoeIdeal : Cert.MoeIdeal.Facts] [hMoeRefIdeal : Cert.MoeRefIdeal.Facts] [hPre_plan_in_range : Cert.Pre_plan_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v12) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v7)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v19) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)) →
    ∃ (v0 : (c : Dev Cert.InIdeal.nD) → Buf (Elt Ideal) ((c.tc : Thread Cert.InIdeal.nD Cert.InIdeal.τ).loc Cert.InIdeal.main_v52_0)) (v1 : (c : Dev Cert.InIdeal.nD) → Buf (Elt Ideal) ((c.tc : Thread Cert.InIdeal.nD Cert.InIdeal.τ).loc Cert.InIdeal.main_v52_1)) (v2 : (c : Dev Cert.InIdeal.nD) → Buf (Elt Ideal) ((c.tc : Thread Cert.InIdeal.nD Cert.InIdeal.τ).loc Cert.InIdeal.main_v52_2)) (v3 : (c : Dev Cert.InIdeal.nD) → Buf (Elt Ideal) ((c.tc : Thread Cert.InIdeal.nD Cert.InIdeal.τ).loc Cert.InIdeal.main_v52_3)) (v4 : (c : Dev Cert.InIdeal.nD) → Buf (Elt Ideal) ((c.tc : Thread Cert.InIdeal.nD Cert.InIdeal.τ).loc Cert.InIdeal.main_v52_4)) (v5 : (c : Dev Cert.InIdeal.nD) → Buf (Elt Ideal) ((c.tc : Thread Cert.InIdeal.nD Cert.InIdeal.τ).loc Cert.InIdeal.main_v52_5)) (v6 : (c : Dev Cert.InIdeal.nD) → Buf (Elt Ideal) ((c.tc : Thread Cert.InIdeal.nD Cert.InIdeal.τ).loc Cert.InIdeal.main_v52_6)) (v7 : (c : Dev Cert.InIdeal.nD) → Buf (Elt Ideal) ((c.tc : Thread Cert.InIdeal.nD Cert.InIdeal.τ).loc Cert.InIdeal.main_v52_7)) (v8 : (c : Dev Cert.InIdeal.nD) → Buf (Elt Ideal) ((c.tc : Thread Cert.InIdeal.nD Cert.InIdeal.τ).loc Cert.InIdeal.main_v52_8)) (v9 : (c : Dev Cert.InIdeal.nD) → Buf (Elt Ideal) ((c.tc : Thread Cert.InIdeal.nD Cert.InIdeal.τ).loc Cert.InIdeal.main_v52_9)) (v10 : (c : Dev Cert.InIdeal.nD) → Buf (Elt Ideal) ((c.tc : Thread Cert.InIdeal.nD Cert.InIdeal.τ).loc Cert.InIdeal.main_v52_11)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v52_0) = v0 c
          ∧ r.2.mem ((c.tc : Thread Cert.InIdeal.nD Cert.InIdeal.τ).loc Cert.InIdeal.main_v52_1) = v1 c
          ∧ r.2.mem ((c.tc : Thread Cert.InIdeal.nD Cert.InIdeal.τ).loc Cert.InIdeal.main_v52_2) = v2 c
          ∧ r.2.mem ((c.tc : Thread Cert.InIdeal.nD Cert.InIdeal.τ).loc Cert.InIdeal.main_v52_3) = v3 c
          ∧ r.2.mem ((c.tc : Thread Cert.InIdeal.nD Cert.InIdeal.τ).loc Cert.InIdeal.main_v52_4) = v4 c
          ∧ r.2.mem ((c.tc : Thread Cert.InIdeal.nD Cert.InIdeal.τ).loc Cert.InIdeal.main_v52_5) = v5 c
          ∧ r.2.mem ((c.tc : Thread Cert.InIdeal.nD Cert.InIdeal.τ).loc Cert.InIdeal.main_v52_6) = v6 c
          ∧ r.2.mem ((c.tc : Thread Cert.InIdeal.nD Cert.InIdeal.τ).loc Cert.InIdeal.main_v52_7) = v7 c
          ∧ r.2.mem ((c.tc : Thread Cert.InIdeal.nD Cert.InIdeal.τ).loc Cert.InIdeal.main_v52_8) = v8 c
          ∧ r.2.mem ((c.tc : Thread Cert.InIdeal.nD Cert.InIdeal.τ).loc Cert.InIdeal.main_v52_9) = v9 c
          ∧ r.2.mem ((c.tc : Thread Cert.InIdeal.nD Cert.InIdeal.τ).loc Cert.InIdeal.main_v52_11) = v10 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v172) = v0 c
          ∧ r.2.mem ((c.tc : Thread Cert.InRefIdeal.nD Cert.InRefIdeal.τ).loc Cert.InRefIdeal.main_v165) = v1 c
          ∧ r.2.mem ((c.tc : Thread Cert.InRefIdeal.nD Cert.InRefIdeal.τ).loc Cert.InRefIdeal.main_v173) = v2 c
          ∧ r.2.mem ((c.tc : Thread Cert.InRefIdeal.nD Cert.InRefIdeal.τ).loc Cert.InRefIdeal.main_v174) = v3 c
          ∧ r.2.mem ((c.tc : Thread Cert.InRefIdeal.nD Cert.InRefIdeal.τ).loc Cert.InRefIdeal.main_v171) = v4 c
          ∧ r.2.mem ((c.tc : Thread Cert.InRefIdeal.nD Cert.InRefIdeal.τ).loc Cert.InRefIdeal.main_v175) = v5 c
          ∧ r.2.mem ((c.tc : Thread Cert.InRefIdeal.nD Cert.InRefIdeal.τ).loc Cert.InRefIdeal.main_v176) = v6 c
          ∧ r.2.mem ((c.tc : Thread Cert.InRefIdeal.nD Cert.InRefIdeal.τ).loc Cert.InRefIdeal.main_v177) = v7 c
          ∧ r.2.mem ((c.tc : Thread Cert.InRefIdeal.nD Cert.InRefIdeal.τ).loc Cert.InRefIdeal.main_v178) = v8 c
          ∧ r.2.mem ((c.tc : Thread Cert.InRefIdeal.nD Cert.InRefIdeal.τ).loc Cert.InRefIdeal.main_v179) = v9 c
          ∧ r.2.mem ((c.tc : Thread Cert.InRefIdeal.nD Cert.InRefIdeal.τ).loc Cert.InRefIdeal.main_v182) = v10 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7))

def Claim : Prop :=
  ∃ (hDense : Cert.Dense.Facts) (hDenseIdeal : Cert.DenseIdeal.Facts) (hDenseRefIdeal : Cert.DenseRefIdeal.Facts) (hMoe : Cert.Moe.Facts) (hMoeIdeal : Cert.MoeIdeal.Facts) (hMoeRefIdeal : Cert.MoeRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hPre_plan_in_range : Cert.Pre_plan_in_range.Facts),
    quiescent_Dense (hDense := hDense)
    ∧ quiescent_DenseIdeal (hDenseIdeal := hDenseIdeal)
    ∧ quiescent_DenseRefIdeal (hDenseRefIdeal := hDenseRefIdeal)
    ∧ quiescent_Moe (hMoe := hMoe) (hPre_plan_in_range := hPre_plan_in_range)
    ∧ quiescent_MoeIdeal (hMoeIdeal := hMoeIdeal) (hPre_plan_in_range := hPre_plan_in_range)
    ∧ quiescent_MoeRefIdeal (hMoeRefIdeal := hMoeRefIdeal)
    ∧ quiescent_MoeRefIdeal_pre_plan_in_range (hMoeRefIdeal := hMoeRefIdeal) (hPre_plan_in_range := hPre_plan_in_range)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ preserves_Dense_DenseIdeal
    ∧ algebraic_DenseIdeal_DenseRefIdeal (hDenseIdeal := hDenseIdeal) (hDenseRefIdeal := hDenseRefIdeal)
    ∧ preserves_Moe_MoeIdeal
    ∧ algebraic_MoeIdeal_MoeRefIdeal (hMoeIdeal := hMoeIdeal) (hMoeRefIdeal := hMoeRefIdeal) (hPre_plan_in_range := hPre_plan_in_range)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
-- ==== Pre_plan_in_range.lean ====
abbrev S40960x1024 : Shape := ⟨2, ![40960, 1024]⟩
abbrev S40 : Shape := ⟨1, ![40]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S40960x1024 .f32) (main_arg1 : IVec S40 32) (main_arg2 : IVec S1 32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 8#32
  let main_v2 : IVec S40 32 := broadcastInDim S40 ![] bcast_S_S40 main_c_0
  let main_v3 : IVec S40 1 := cmpi .slt main_arg1 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 40#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Dense.lean ====
abbrev S4x4096x1024 : Shape := ⟨3, ![4, 4096, 1024]⟩
abbrev S1024 : Shape := ⟨1, ![1024]⟩
abbrev S1024x3584 : Shape := ⟨2, ![1024, 3584]⟩
abbrev S3584x1024 : Shape := ⟨2, ![3584, 1024]⟩
abbrev S16384x1024 : Shape := ⟨2, ![16384, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S1024x3584, .bf16⟩
  | .hbm, ⟨6, _⟩ => ⟨S1024x3584, .bf16⟩
  | .hbm, ⟨7, _⟩ => ⟨S3584x1024, .bf16⟩
  | .hbm, ⟨8, _⟩ => ⟨S16384x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c6_i32 : BitVec 32 := 6#32
  let v28 : BitVec 1 := Scalar.cmpi .eq arg1 c6_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DenseRefIdeal.lean ====
abbrev S4x4096x1024 : Shape := ⟨3, ![4, 4096, 1024]⟩
abbrev S1024 : Shape := ⟨1, ![1024]⟩
abbrev S1024x3584 : Shape := ⟨2, ![1024, 3584]⟩
abbrev S3584x1024 : Shape := ⟨2, ![3584, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3584 : Shape := ⟨3, ![4, 4096, 3584]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x3584, .f32⟩
  | .hbm, ⟨22, _⟩ => ⟨S4x4096x3584, .f32⟩
  | .hbm, ⟨23, _⟩ => ⟨S4x4096x3584, .f32⟩
  | .hbm, ⟨24, _⟩ => ⟨S_, .f32⟩
  | .hbm, ⟨25, _⟩ => ⟨S4x4096x3584, .f32⟩
  | .hbm, ⟨26, _⟩ => ⟨S4x4096x3584, .f32⟩
  | .hbm, ⟨27, _⟩ => ⟨S_, .f32⟩
  | .hbm, ⟨28, _⟩ => ⟨S4x4096x3584, .f32⟩
  | .hbm, ⟨29, _⟩ => ⟨S4x4096x3584, .f32⟩
  | .hbm, ⟨30, _⟩ => ⟨S4x4096x3584, .f32⟩
  | .hbm, ⟨31, _⟩ => ⟨S4x4096x3584, .f32⟩
  | .hbm, ⟨32, _⟩ => ⟨S4x4096x3584, .f32⟩
  | .hbm, ⟨33, _⟩ => ⟨S4x4096x1024, .f32⟩
  | .hbm, ⟨34, _⟩ => ⟨S4x4096x1024, .f32⟩
  | .hbm, ⟨35, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Moe.lean ====
abbrev S40960x1024 : Shape := ⟨2, ![40960, 1024]⟩
abbrev S40 : Shape := ⟨1, ![40]⟩
abbrev S1 : Shape := ⟨1, ![1]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 5
  | .vmem => 12
  | .smem => 2
  | _ => 0

abbrev bufTy : (tb : Table) → Fin (tcTables nBuf tb) → BufTy
  | .hbm, ⟨0, _⟩ => ⟨S40960x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .smem, ⟨0, _⟩ => ⟨S40, .i32⟩
  | .local _ .smem, ⟨1, _⟩ => ⟨S1, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c6_i32_23 : BitVec 32 := 6#32
  let v40 : BitVec 1 := Scalar.cmpi .eq arg1 c6_i32_23
  let v41 : BitVec 32 := Scalar.extui v40
  let c0_i32_24 : BitVec 32 := 0#32
  let v42 : BitVec 1 := Scalar.cmpi .ne v41 c0_i32_24
  v42

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c6_i32 : BitVec 32 := 6#32
  let v5 : BitVec 1 := Scalar.cmpi .eq arg1 c6_i32
  let v6 : BitVec 1 := Scalar.andi v4 v5
  let v7 : BitVec 32 := Scalar.extui v6
  let c0_i32_0 : BitVec 32 := 0#32
  let v8 : BitVec 1 := Scalar.cmpi .ne v7 c0_i32_0
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S40960x1024 : Shape := ⟨2, ![40960, 1024]⟩
abbrev S40 : Shape := ⟨1, ![40]⟩
abbrev S1 : Shape := ⟨1, ![1]⟩
abbrev S8x1024x3584 : Shape := ⟨3, ![8, 1024, 3584]⟩
abbrev S8x3584x1024 : Shape := ⟨3, ![8, 3584, 1024]⟩
abbrev S40x8 : Shape := ⟨2, ![40, 8]⟩
abbrev S320 : Shape := ⟨1, ![320]⟩
abbrev S320x1x1 : Shape := ⟨3, ![320, 1, 1]⟩
abbrev S320x128x1024 : Shape := ⟨3, ![320, 128, 1024]⟩
abbrev S_ : Shape := ⟨0, ![]⟩
abbrev S1x128x1024 : Shape := ⟨3, ![1, 128, 1024]⟩
abbrev S128x1024 : Shape := ⟨2, ![128, 1024]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S128x3584 : Shape := ⟨2, ![128, 3584]⟩

abbrev nBuf : Space → Nat
  | .hbm => 127
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S40, .i32⟩
  | .hbm, ⟨2, _⟩ => ⟨S1, .i32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S40, .i32⟩
  | .hbm, ⟨7, _⟩ => ⟨S40, .i32⟩
  | .hbm, ⟨8, _⟩ => ⟨S40, .i1⟩
  | .hbm, ⟨9, _⟩ => ⟨S40x8, .i1⟩
  | .hbm, ⟨10, _⟩ => ⟨S320, .i1⟩
  | .hbm, ⟨11, _⟩ => ⟨S40x8, .i32⟩
  | .hbm, ⟨12, _⟩ => ⟨S320, .i32⟩
  | .hbm, ⟨13, _⟩ => ⟨S320x1x1, .i1⟩
  | .hbm, ⟨14, _⟩ => ⟨S320x128x1024, .f32⟩
  | .hbm, ⟨15, _⟩ => ⟨S_, .f32⟩
  | .hbm, ⟨16, _⟩ => ⟨S_, .f32⟩
  | .hbm, ⟨17, _⟩ => ⟨S320x128x1024, .i1⟩
  | .hbm, ⟨18, _⟩ => ⟨S320x128x1024, .f32⟩
  | .hbm, ⟨19, _⟩ => ⟨S320x128x1024, .f32⟩
  | .hbm, ⟨20, _⟩ => ⟨S_, .f32⟩
  | .hbm, ⟨21, _⟩ => ⟨S320x128x1024, .f32⟩
  | .hbm, ⟨22, _⟩ => ⟨S_, .i32⟩
  | .hbm, ⟨23, _⟩ => ⟨S320x128x1024, .f32⟩
  | .hbm, ⟨24, _⟩ => ⟨S320, .i32⟩
  | .hbm, ⟨25, _⟩ => ⟨S8x1024x3584, .f32⟩
  | .hbm, ⟨26, _⟩ => ⟨S8x1024x3584, .f32⟩
  | .hbm, ⟨27, _⟩ => ⟨S8x3584x1024, .f32⟩
  | .hbm, ⟨28, _⟩ => ⟨S_, .i32⟩
  | .hbm, ⟨29, _⟩ => ⟨S320x128x1024, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S1x128x1024, .f32⟩
  | .hbm, ⟨35, _⟩ => ⟨S128x1024, .f32⟩
  | .hbm, ⟨36, _⟩ => ⟨S1, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x1024x3584, .f32⟩
  | .hbm, ⟨60, _⟩ => ⟨S1024x3584, .f32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i1⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S1x1024x3584, .f32⟩
  | .hbm, ⟨83, _⟩ => ⟨S1024x3584, .f32⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i1⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i1⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S1x3584x1024, .f32⟩
  | .hbm, ⟨106, _⟩ => ⟨S3584x1024, .f32⟩
  | .hbm, ⟨107, _⟩ => ⟨S128x3584, .f32⟩
  | .hbm, ⟨108, _⟩ => ⟨S128x3584, .f32⟩
  | .hbm, ⟨109, _⟩ => ⟨S128x3584, .f32⟩
  | .hbm, ⟨110, _⟩ => ⟨S_, .f32⟩
  | .hbm, ⟨111, _⟩ => ⟨S128x3584, .f32⟩
  | .hbm, ⟨112, _⟩ => ⟨S128x3584, .f32⟩
  | .hbm, ⟨113, _⟩ => ⟨S_, .f32⟩
  | .hbm, ⟨114, _⟩ => ⟨S128x3584, .f32⟩
  | .hbm, ⟨115, _⟩ => ⟨S128x3584, .f32⟩
  | .hbm, ⟨116, _⟩ => ⟨S128x3584, .f32⟩
  | .hbm, ⟨117, _⟩ => ⟨S128x3584, .f32⟩
  | .hbm, ⟨118, _⟩ => ⟨S128x3584, .f32⟩
  | .hbm, ⟨119, _⟩ => ⟨S128x1024, .f32⟩
  | .hbm, ⟨120, _⟩ => ⟨S1x128x1024, .f32⟩
  | .hbm, ⟨121, _⟩ => ⟨S_, .i32⟩
  | .hbm, ⟨122, _⟩ => ⟨S_, .i32⟩
  | .hbm, ⟨123, _⟩ => ⟨S320x128x1024, .f32⟩
  | .hbm, ⟨124, _⟩ => ⟨S_, .i32⟩
  | .hbm, ⟨125, _⟩ => ⟨S_, .i32⟩
  | .hbm, ⟨126, _⟩ => ⟨S40960x1024, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_c : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev main_v11_6 : Ref sig .tc := ⟨.hbm, 29, rfl⟩
abbrev main_while0c_c_7 : Ref sig .tc := ⟨.hbm, 30, rfl⟩
abbrev main_while0c_v13 : Ref sig .tc := ⟨.hbm, 31, rfl⟩
abbrev main_while0b_call1_c : Ref sig .tc := ⟨.hbm, 32, rfl⟩
abbrev main_while0b_call1_c_0 : Ref sig .tc := ⟨.hbm, 33, rfl⟩
abbrev main_while0b_call1_v0 : Ref sig .tc := ⟨.hbm, 34, rfl⟩
abbrev main_while0b_v13 : Ref sig .tc := ⟨.hbm, 35, rfl⟩
abbrev main_while0b_call2_v0 : Ref sig .tc := ⟨.hbm, 36, rfl⟩
abbrev main_while0b_v14 : Ref sig .tc := ⟨.hbm, 37, rfl⟩
abbrev main_while0b_c_7 : Ref sig .tc := ⟨.hbm, 38, rfl⟩
abbrev main_while0b_v15 : Ref sig .tc := ⟨.hbm, 39, rfl⟩
abbrev main_while0b_c_8 : Ref sig .tc := ⟨.hbm, 40, rfl⟩
abbrev main_while0b_v16 : Ref sig .tc := ⟨.hbm, 41, rfl⟩
abbrev main_while0b_v17 : Ref sig .tc := ⟨.hbm, 42, rfl⟩
abbrev main_while0b_c_9 : Ref sig .tc := ⟨.hbm, 43, rfl⟩
abbrev main_while0b_c_10 : Ref sig .tc := ⟨.hbm, 44, rfl⟩
abbrev main_while0b_v18 : Ref sig .tc := ⟨.hbm, 45, rfl⟩
abbrev main_while0b_c_11 : Ref sig .tc := ⟨.hbm, 46, rfl⟩
abbrev main_while0b_c_12 : Ref sig .tc := ⟨.hbm, 47, rfl⟩
abbrev main_while0b_v19 : Ref sig .tc := ⟨.hbm, 48, rfl⟩
abbrev main_while0b_c_13 : Ref sig .tc := ⟨.hbm, 49, rfl⟩
abbrev main_while0b_v20 : Ref sig .tc := ⟨.hbm, 50, rfl⟩
abbrev main_while0b_c_14 : Ref sig .tc := ⟨.hbm, 51, rfl⟩
abbrev main_while0b_c_15 : Ref sig .tc := ⟨.hbm, 52, rfl⟩
abbrev main_while0b_v21 : Ref sig .tc := ⟨.hbm, 53, rfl⟩
abbrev main_while0b_c_16 : Ref sig .tc := ⟨.hbm, 54, rfl⟩
abbrev main_while0b_c_17 : Ref sig .tc := ⟨.hbm, 55, rfl⟩
abbrev main_while0b_v22 : Ref sig .tc := ⟨.hbm, 56, rfl⟩
abbrev main_while0b_c_18 : Ref sig .tc := ⟨.hbm, 57, rfl⟩
abbrev main_while0b_v23 : Ref sig .tc := ⟨.hbm, 58, rfl⟩
abbrev main_while0b_v24 : Ref sig .tc := ⟨.hbm, 59, rfl⟩
abbrev main_while0b_v25 : Ref sig .tc := ⟨.hbm, 60, rfl⟩
abbrev main_while0b_c_19 : Ref sig .tc := ⟨.hbm, 61, rfl⟩
abbrev main_while0b_v26 : Ref sig .tc := ⟨.hbm, 62, rfl⟩
abbrev main_while0b_c_20 : Ref sig .tc := ⟨.hbm, 63, rfl⟩
abbrev main_while0b_v27 : Ref sig .tc := ⟨.hbm, 64, rfl⟩
abbrev main_while0b_v28 : Ref sig .tc := ⟨.hbm, 65, rfl⟩
abbrev main_while0b_c_21 : Ref sig .tc := ⟨.hbm, 66, rfl⟩
abbrev main_while0b_c_22 : Ref sig .tc := ⟨.hbm, 67, rfl⟩
abbrev main_while0b_v29 : Ref sig .tc := ⟨.hbm, 68, rfl⟩
abbrev main_while0b_c_23 : Ref sig .tc := ⟨.hbm, 69, rfl⟩
abbrev main_while0b_c_24 : Ref sig .tc := ⟨.hbm, 70, rfl⟩
abbrev main_while0b_v30 : Ref sig .tc := ⟨.hbm, 71, rfl⟩
abbrev main_while0b_c_25 : Ref sig .tc := ⟨.hbm, 72, rfl⟩
abbrev main_while0b_v31 : Ref sig .tc := ⟨.hbm, 73, rfl⟩
abbrev main_while0b_c_26 : Ref sig .tc := ⟨.hbm, 74, rfl⟩
abbrev main_while0b_c_27 : Ref sig .tc := ⟨.hbm, 75, rfl⟩
abbrev main_while0b_v32 : Ref sig .tc := ⟨.hbm, 76, rfl⟩
abbrev main_while0b_c_28 : Ref sig .tc := ⟨.hbm, 77, rfl⟩
abbrev main_while0b_c_29 : Ref sig .tc := ⟨.hbm, 78, rfl⟩
abbrev main_while0b_v33 : Ref sig .tc := ⟨.hbm, 79, rfl⟩
abbrev main_while0b_c_30 : Ref sig .tc := ⟨.hbm, 80, rfl⟩
abbrev main_while0b_v34 : Ref sig .tc := ⟨.hbm, 81, rfl⟩
abbrev main_while0b_v35 : Ref sig .tc := ⟨.hbm, 82, rfl⟩
abbrev main_while0b_v36 : Ref sig .tc := ⟨.hbm, 83, rfl⟩
abbrev main_while0b_c_31 : Ref sig .tc := ⟨.hbm, 84, rfl⟩
abbrev main_while0b_v37 : Ref sig .tc := ⟨.hbm, 85, rfl⟩
abbrev main_while0b_c_32 : Ref sig .tc := ⟨.hbm, 86, rfl⟩
abbrev main_while0b_v38 : Ref sig .tc := ⟨.hbm, 87, rfl⟩
abbrev main_while0b_v39 : Ref sig .tc := ⟨.hbm, 88, rfl⟩
abbrev main_while0b_c_33 : Ref sig .tc := ⟨.hbm, 89, rfl⟩
abbrev main_while0b_c_34 : Ref sig .tc := ⟨.hbm, 90, rfl⟩
abbrev main_while0b_v40 : Ref sig .tc := ⟨.hbm, 91, rfl⟩
abbrev main_while0b_c_35 : Ref sig .tc := ⟨.hbm, 92, rfl⟩
abbrev main_while0b_c_36 : Ref sig .tc := ⟨.hbm, 93, rfl⟩
abbrev main_while0b_v41 : Ref sig .tc := ⟨.hbm, 94, rfl⟩
abbrev main_while0b_c_37 : Ref sig .tc := ⟨.hbm, 95, rfl⟩
abbrev main_while0b_v42 : Ref sig .tc := ⟨.hbm, 96, rfl⟩
abbrev main_while0b_c_38 : Ref sig .tc := ⟨.hbm, 97, rfl⟩
abbrev main_while0b_c_39 : Ref sig .tc := ⟨.hbm, 98, rfl⟩
abbrev main_while0b_v43 : Ref sig .tc := ⟨.hbm, 99, rfl⟩
abbrev main_while0b_c_40 : Ref sig .tc := ⟨.hbm, 100, rfl⟩
abbrev main_while0b_c_41 : Ref sig .tc := ⟨.hbm, 101, rfl⟩
abbrev main_while0b_v44 : Ref sig .tc := ⟨.hbm, 102, rfl⟩
abbrev main_while0b_c_42 : Ref sig .tc := ⟨.hbm, 103, rfl⟩
abbrev main_while0b_v45 : Ref sig .tc := ⟨.hbm, 104, rfl⟩
abbrev main_while0b_v46 : Ref sig .tc := ⟨.hbm, 105, rfl⟩
abbrev main_while0b_v47 : Ref sig .tc := ⟨.hbm, 106, rfl⟩
abbrev main_while0b_v48 : Ref sig .tc := ⟨.hbm, 107, rfl⟩
abbrev main_while0b_call3_v0 : Ref sig .tc := ⟨.hbm, 108, rfl⟩
abbrev main_while0b_call3_v1 : Ref sig .tc := ⟨.hbm, 109, rfl⟩
abbrev main_while0b_call3_cst : Ref sig .tc := ⟨.hbm, 110, rfl⟩
abbrev main_while0b_call3_v2 : Ref sig .tc := ⟨.hbm, 111, rfl⟩
abbrev main_while0b_call3_v3 : Ref sig .tc := ⟨.hbm, 112, rfl⟩
abbrev main_while0b_call3_cst_0 : Ref sig .tc := ⟨.hbm, 113, rfl⟩
abbrev main_while0b_call3_v4 : Ref sig .tc := ⟨.hbm, 114, rfl⟩
abbrev main_while0b_call3_v5 : Ref sig .tc := ⟨.hbm, 115, rfl⟩
abbrev main_while0b_v49 : Ref sig .tc := ⟨.hbm, 116, rfl⟩
abbrev main_while0b_v50 : Ref sig .tc := ⟨.hbm, 117, rfl⟩
abbrev main_while0b_v51 : Ref sig .tc := ⟨.hbm, 118, rfl⟩
abbrev main_while0b_v52 : Ref sig .tc := ⟨.hbm, 119, rfl⟩
abbrev main_while0b_call4_v0 : Ref sig .tc := ⟨.hbm, 120, rfl⟩
abbrev main_while0b_call4_c : Ref sig .tc := ⟨.hbm, 121, rfl⟩
abbrev main_while0b_call4_c_0 : Ref sig .tc := ⟨.hbm, 122, rfl⟩
abbrev main_while0b_v53 : Ref sig .tc := ⟨.hbm, 123, rfl⟩
abbrev main_while0b_c_43 : Ref sig .tc := ⟨.hbm, 124, rfl⟩
abbrev main_while0b_v54 : Ref sig .tc := ⟨.hbm, 125, rfl⟩
abbrev main_v12 : Ref sig .tc := ⟨.hbm, 126, rfl⟩

abbrev nD : Nat := 1
abbrev τ : Topo := Topo.v7x

variable {F : FTy → Type} [FloatOps F]

abbrev main_while0_count : Scf.Loop 32 := ⟨0#32, 320#32, 1#32⟩
-- ==== Out.lean ====
abbrev S4x4096x1024 : Shape := ⟨3, ![4, 4096, 1024]⟩
abbrev S4x4096x256 : Shape := ⟨3, ![4, 4096, 256]⟩
abbrev S4x4096x4x128 : Shape := ⟨4, ![4, 4096, 4, 128]⟩
abbrev S4x4096x512 : Shape := ⟨3, ![4, 4096, 512]⟩
abbrev S128 : Shape := ⟨1, ![128]⟩
abbrev S1024x1024 : Shape := ⟨2, ![1024, 1024]⟩
abbrev S16384x1024 : Shape := ⟨2, ![16384, 1024]⟩
abbrev S16384x256 : Shape := ⟨2, ![16384, 256]⟩
abbrev S16384x512 : Shape := ⟨2, ![16384, 512]⟩
abbrev S1x128 : Shape := ⟨2, ![1, 128]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩
abbrev S512x128 : Shape := ⟨2, ![512, 128]⟩
abbrev S512 : Shape := ⟨1, ![512]⟩
abbrev S512x1 : Shape := ⟨2, ![512, 1]⟩
abbrev S128x1024 : Shape := ⟨2, ![128, 1024]⟩

abbrev nBuf : Space → Nat
  | .hbm => 15
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x4x128, .f32⟩
  | .hbm, ⟨4, _⟩ => ⟨S4x4096x512, .f32⟩
  | .hbm, ⟨5, _⟩ => ⟨S128, .f32⟩
  | .hbm, ⟨6, _⟩ => ⟨S1024x1024, .f32⟩
  | .hbm, ⟨7, _⟩ => ⟨S16384x1024, .f32⟩
  | .hbm, ⟨8, _⟩ => ⟨S16384x256, .f32⟩
  | .hbm, ⟨9, _⟩ => ⟨S16384x256, .f32⟩
  | .hbm, ⟨10, _⟩ => ⟨S16384x512, .f32⟩
  | .hbm, ⟨11, _⟩ => ⟨S16384x512, .f32⟩
  | .hbm, ⟨12, _⟩ => ⟨S1x128, .f32⟩
  | .hbm, ⟨13, _⟩ => ⟨S1024x1024, .bf16⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S4x4096x1024 : Shape := ⟨3, ![4, 4096, 1024]⟩
abbrev S4x4096x256 : Shape := ⟨3, ![4, 4096, 256]⟩
abbrev S4x4096x4x128 : Shape := ⟨4, ![4, 4096, 4, 128]⟩
abbrev S4x4096x512 : Shape := ⟨3, ![4, 4096, 512]⟩
abbrev S128 : Shape := ⟨1, ![128]⟩
abbrev S1024x1024 : Shape := ⟨2, ![1024, 1024]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S16384x1024 : Shape := ⟨2, ![16384, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x4x128, .f32⟩
  | .hbm, ⟨4, _⟩ => ⟨S4x4096x512, .f32⟩
  | .hbm, ⟨5, _⟩ => ⟨S128, .f32⟩
  | .hbm, ⟨6, _⟩ => ⟨S1024x1024, .f32⟩
  | .hbm, ⟨7, _⟩ => ⟨S4x4096x4x128, .f32⟩
  | .hbm, ⟨8, _⟩ => ⟨S_, .f32⟩
  | .hbm, ⟨9, _⟩ => ⟨S4x4096x4, .f32⟩
  | .hbm, ⟨10, _⟩ => ⟨S4x4096x4x1, .f32⟩
  | .hbm, ⟨11, _⟩ => ⟨S_, .f32⟩
  | .hbm, ⟨12, _⟩ => ⟨S4x4096x4x1, .f32⟩
  | .hbm, ⟨13, _⟩ => ⟨S4x4096x4x1, .f32⟩
  | .hbm, ⟨14, _⟩ => ⟨S_, .f32⟩
  | .hbm, ⟨15, _⟩ => ⟨S4x4096x4x1, .f32⟩
  | .hbm, ⟨16, _⟩ => ⟨S4x4096x4x1, .f32⟩
  | .hbm, ⟨17, _⟩ => ⟨S4x4096x4x1, .f32⟩
  | .hbm, ⟨18, _⟩ => ⟨S4x4096x4x128, .f32⟩
  | .hbm, ⟨19, _⟩ => ⟨S4x4096x4x128, .f32⟩
  | .hbm, ⟨20, _⟩ => ⟨S1x1x1x128, .f32⟩
  | .hbm, ⟨21, _⟩ => ⟨S4x4096x4x128, .f32⟩
  | .hbm, ⟨22, _⟩ => ⟨S4x4096x4x128, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S_, .f32⟩
  | .hbm, ⟨27, _⟩ => ⟨S4x4096x512, .f32⟩
  | .hbm, ⟨28, _⟩ => ⟨S4x4096x512, .f32⟩
  | .hbm, ⟨29, _⟩ => ⟨S_, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== In.lean ====
abbrev S4x4096x1024 : Shape := ⟨3, ![4, 4096, 1024]⟩
abbrev S1024 : Shape := ⟨1, ![1024]⟩
abbrev S1024x2976 : Shape := ⟨2, ![1024, 2976]⟩
abbrev S4 : Shape := ⟨1, ![4]⟩
abbrev S16x256 : Shape := ⟨2, ![16, 256]⟩
abbrev S256 : Shape := ⟨1, ![256]⟩
abbrev S2x4x512x4096 : Shape := ⟨4, ![2, 4, 512, 4096]⟩
abbrev S2x4x256x4096 : Shape := ⟨4, ![2, 4, 256, 4096]⟩
abbrev S_ : Shape := ⟨0, ![]⟩
abbrev S1x128 : Shape := ⟨2, ![1, 128]⟩
abbrev S1 : Shape := ⟨1, ![1]⟩
abbrev S2 : Shape := ⟨1, ![2]⟩
abbrev S128x256 : Shape := ⟨2, ![128, 256]⟩
abbrev S16384x1024 : Shape := ⟨2, ![16384, 1024]⟩
abbrev S1x1024 : Shape := ⟨2, ![1, 1024]⟩
abbrev S1024x256 : Shape := ⟨2, ![1024, 256]⟩
abbrev S1024x4 : Shape := ⟨2, ![1024, 4]⟩
abbrev S1024x384 : Shape := ⟨2, ![1024, 384]⟩
abbrev S1024x12 : Shape := ⟨2, ![1024, 12]⟩
abbrev S1024x512 : Shape := ⟨2, ![1024, 512]⟩
abbrev S1024x16 : Shape := ⟨2, ![1024, 16]⟩
abbrev S1024x96 : Shape := ⟨2, ![1024, 96]⟩
abbrev S1024x3072 : Shape := ⟨2, ![1024, 3072]⟩
abbrev S1x256 : Shape := ⟨2, ![1, 256]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x768 : Shape := ⟨2, ![4096, 768]⟩
abbrev S16384x256 : Shape := ⟨2, ![16384, 256]⟩
abbrev S4x128x4096 : Shape := ⟨3, ![4, 128, 4096]⟩
abbrev S16384x512 : Shape := ⟨2, ![16384, 512]⟩
abbrev S16384x128 : Shape := ⟨2, ![16384, 128]⟩
abbrev S4x8x4096 : Shape := ⟨3, ![4, 8, 4096]⟩
abbrev S512x1024 : Shape := ⟨2, ![512, 1024]⟩
abbrev S512x768 : Shape := ⟨2, ![512, 768]⟩
abbrev S512x256 : Shape := ⟨2, ![512, 256]⟩
abbrev S1x1x512x512 : Shape := ⟨4, ![1, 1, 512, 512]⟩
abbrev S1x1x256x512 : Shape := ⟨4, ![1, 1, 256, 512]⟩
abbrev S1x128x512 : Shape := ⟨3, ![1, 128, 512]⟩
abbrev S512x512 : Shape := ⟨2, ![512, 512]⟩
abbrev S512x128 : Shape := ⟨2, ![512, 128]⟩
abbrev S1x8x512 : Shape := ⟨3, ![1, 8, 512]⟩
abbrev S512 : Shape := ⟨1, ![512]⟩
abbrev S512x1 : Shape := ⟨2, ![512, 1]⟩
abbrev S512x384 : Shape := ⟨2, ![512, 384]⟩
abbrev S256x512 : Shape := ⟨2, ![256, 512]⟩
abbrev S128x512 : Shape := ⟨2, ![128, 512]⟩
abbrev S1024x128 : Shape := ⟨2, ![1024, 128]⟩
abbrev S8x512 : Shape := ⟨2, ![8, 512]⟩

abbrev nBuf : Space → Nat
  | .hbm => 85
  | .vmem => 33
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2976, .f32⟩
  | .hbm, ⟨3, _⟩ => ⟨S4, .f32⟩
  | .hbm, ⟨4, _⟩ => ⟨S16x256, .f32⟩
  | .hbm, ⟨5, _⟩ => ⟨S256, .f32⟩
  | .hbm, ⟨6, _⟩ => ⟨S2x4x512x4096, .f32⟩
  | .hbm, ⟨7, _⟩ => ⟨S2x4x256x4096, .f32⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1x128, .f32⟩
  | .hbm, ⟨16, _⟩ => ⟨S_, .f32⟩
  | .hbm, ⟨17, _⟩ => ⟨S128x256, .f32⟩
  | .hbm, ⟨18, _⟩ => ⟨S_, .i32⟩
  | .hbm, ⟨19, _⟩ => ⟨S1, .i32⟩
  | .hbm, ⟨20, _⟩ => ⟨S128x256, .f32⟩
  | .hbm, ⟨21, _⟩ => ⟨S16384x1024, .f32⟩
  | .hbm, ⟨22, _⟩ => ⟨S1x1024, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S1024x4, .f32⟩
  | .hbm, ⟨27, _⟩ => ⟨S1024x256, .f32⟩
  | .hbm, ⟨28, _⟩ => ⟨S1024x384, .f32⟩
  | .hbm, ⟨29, _⟩ => ⟨S1024x12, .f32⟩
  | .hbm, ⟨30, _⟩ => ⟨S1024x256, .f32⟩
  | .hbm, ⟨31, _⟩ => ⟨S1024x256, .f32⟩
  | .hbm, ⟨32, _⟩ => ⟨S1024x512, .f32⟩
  | .hbm, ⟨33, _⟩ => ⟨S1024x16, .f32⟩
  | .hbm, ⟨34, _⟩ => ⟨S1024x512, .f32⟩
  | .hbm, ⟨35, _⟩ => ⟨S_, .f32⟩
  | .hbm, ⟨36, _⟩ => ⟨S1024x96, .f32⟩
  | .hbm, ⟨37, _⟩ => ⟨S1024x3072, .f32⟩
  | .hbm, ⟨38, _⟩ => ⟨S1024x3072, .bf16⟩
  | .hbm, ⟨39, _⟩ => ⟨S128x256, .bf16⟩
  | .hbm, ⟨40, _⟩ => ⟨S1x256, .f32⟩
  | .hbm, ⟨41, _⟩ => ⟨S4096, .i32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S4096, .f32⟩
  | .hbm, ⟨51, _⟩ => ⟨S4096x1, .f32⟩
  | .hbm, ⟨52, _⟩ => ⟨S1x8, .f32⟩
  | .hbm, ⟨53, _⟩ => ⟨S4096x8, .f32⟩
  | .hbm, ⟨54, _⟩ => ⟨S4096x8, .f32⟩
  | .hbm, ⟨55, _⟩ => ⟨S4096x8, .f32⟩
  | .hbm, ⟨56, _⟩ => ⟨S4096x8, .f32⟩
  | .hbm, ⟨57, _⟩ => ⟨S4096x8, .f32⟩
  | .hbm, ⟨58, _⟩ => ⟨S_, .f32⟩
  | .hbm, ⟨59, _⟩ => ⟨S4096x48, .f32⟩
  | .hbm, ⟨60, _⟩ => ⟨S_, .f32⟩
  | .hbm, ⟨61, _⟩ => ⟨S4096x48, .f32⟩
  | .hbm, ⟨62, _⟩ => ⟨S_, .f32⟩
  | .hbm, ⟨63, _⟩ => ⟨S4096x8, .f32⟩
  | .hbm, ⟨64, _⟩ => ⟨S4096x64, .f32⟩
  | .hbm, ⟨65, _⟩ => ⟨S4096x64, .f32⟩
  | .hbm, ⟨66, _⟩ => ⟨S4096x8, .f32⟩
  | .hbm, ⟨67, _⟩ => ⟨S4096x64, .f32⟩
  | .hbm, ⟨68, _⟩ => ⟨S_, .f32⟩
  | .hbm, ⟨69, _⟩ => ⟨S4096x64, .f32⟩
  | .hbm, ⟨70, _⟩ => ⟨S_, .f32⟩
  | .hbm, ⟨71, _⟩ => ⟨S4096x64, .f32⟩
  | .hbm, ⟨72, _⟩ => ⟨S4096x768, .f32⟩
  | .hbm, ⟨73, _⟩ => ⟨S16384x256, .f32⟩
  | .hbm, ⟨74, _⟩ => ⟨S2x4x512x4096, .f32⟩
  | .hbm, ⟨75, _⟩ => ⟨S16384x256, .f32⟩
  | .hbm, ⟨76, _⟩ => ⟨S16384x256, .f32⟩
  | .hbm, ⟨77, _⟩ => ⟨S2x4x256x4096, .f32⟩
  | .hbm, ⟨78, _⟩ => ⟨S4x128x4096, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S16384x256, .f32⟩
  | .hbm, ⟨83, _⟩ => ⟨S16384x128, .f32⟩
  | .hbm, ⟨84, _⟩ => ⟨S4x8x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x128, .f32⟩
  | .local _ .vmem, ⟨5, _⟩ => ⟨S128x256, .bf16⟩
  | .local _ .vmem, ⟨6, _⟩ => ⟨S1x256, .f32⟩
  | .local _ .vmem, ⟨7, _⟩ => ⟨S512x768, .f32⟩
  | .local _ .vmem, ⟨8, _⟩ => ⟨S512x768, .f32⟩
  | .local _ .vmem, ⟨9, _⟩ => ⟨S512x256, .f32⟩
  | .local _ .vmem, ⟨10, _⟩ => ⟨S512x256, .f32⟩
  | .local _ .vmem, ⟨11, _⟩ => ⟨S1x1x512x512, .f32⟩
  | .local _ .vmem, ⟨12, _⟩ => ⟨S1x1x512x512, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S1x1x256x512, .f32⟩
  | .local _ .vmem, ⟨18, _⟩ => ⟨S1x1x256x512, .f32⟩
  | .local _ .vmem, ⟨19, _⟩ => ⟨S1x128x512, .f32⟩
  | .local _ .vmem, ⟨20, _⟩ => ⟨S1x128x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x256, .f32⟩
  | .local _ .vmem, ⟨28, _⟩ => ⟨S512x256, .f32⟩
  | .local _ .vmem, ⟨29, _⟩ => ⟨S512x128, .f32⟩
  | .local _ .vmem, ⟨30, _⟩ => ⟨S512x128, .f32⟩
  | .local _ .vmem, ⟨31, _⟩ => ⟨S1x8x512, .f32⟩
  | .local _ .vmem, ⟨32, _⟩ => ⟨S1x8x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52_0 : Ref sig .tc := ⟨.hbm, 73, rfl⟩
abbrev main_v52_1 : Ref sig .tc := ⟨.hbm, 74, rfl⟩
abbrev main_v52_2 : Ref sig .tc := ⟨.hbm, 75, rfl⟩
abbrev main_v52_3 : Ref sig .tc := ⟨.hbm, 76, rfl⟩
abbrev main_v52_4 : Ref sig .tc := ⟨.hbm, 77, rfl⟩
abbrev main_v52_5 : Ref sig .tc := ⟨.hbm, 78, rfl⟩
abbrev main_v52_6 : Ref sig .tc := ⟨.hbm, 79, rfl⟩
abbrev main_v52_7 : Ref sig .tc := ⟨.hbm, 80, rfl⟩
abbrev main_v52_8 : Ref sig .tc := ⟨.hbm, 81, rfl⟩
abbrev main_v52_9 : Ref sig .tc := ⟨.hbm, 82, rfl⟩
abbrev main_v52_10 : Ref sig .tc := ⟨.hbm, 83, rfl⟩
abbrev main_v52_11 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== InRefIdeal.lean ====
abbrev S4x4096x1024 : Shape := ⟨3, ![4, 4096, 1024]⟩
abbrev S1024 : Shape := ⟨1, ![1024]⟩
abbrev S1024x2976 : Shape := ⟨2, ![1024, 2976]⟩
abbrev S4 : Shape := ⟨1, ![4]⟩
abbrev S16x256 : Shape := ⟨2, ![16, 256]⟩
abbrev S256 : Shape := ⟨1, ![256]⟩
abbrev S2x4x512x4096 : Shape := ⟨4, ![2, 4, 512, 4096]⟩
abbrev S2x4x256x4096 : Shape := ⟨4, ![2, 4, 256, 4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2976 : Shape := ⟨3, ![4, 4096, 2976]⟩
abbrev S4x4096x256 : Shape := ⟨3, ![4, 4096, 256]⟩
abbrev S4x4096x4 : Shape := ⟨3, ![4, 4096, 4]⟩
abbrev S4x4096x384 : Shape := ⟨3, ![4, 4096, 384]⟩
abbrev S4x4096x12 : Shape := ⟨3, ![4, 4096, 12]⟩
abbrev S4x4096x512 : Shape := ⟨3, ![4, 4096, 512]⟩
abbrev S4x4096x16 : Shape := ⟨3, ![4, 4096, 16]⟩
abbrev S1x1x4 : Shape := ⟨3, ![1, 1, 4]⟩
abbrev S4x4096x4x64 : Shape := ⟨4, ![4, 4096, 4, 64]⟩
abbrev S4x4096x6x64 : Shape := ⟨4, ![4, 4096, 6, 64]⟩
abbrev S1x1x256 : Shape := ⟨3, ![1, 1, 256]⟩
abbrev S4096 : Shape := ⟨1, ![4096]⟩
abbrev S4x4096x1x64 : Shape := ⟨4, ![4, 4096, 1, 64]⟩
abbrev S4x4096x64 : Shape := ⟨3, ![4, 4096, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x4x8 : Shape := ⟨4, ![4, 4096, 4, 8]⟩
abbrev S1x4096x1x8 : Shape := ⟨4, ![1, 4096, 1, 8]⟩
abbrev S4x4096x4x48 : Shape := ⟨4, ![4, 4096, 4, 48]⟩
abbrev S4x4096x8 : Shape := ⟨3, ![4, 4096, 8]⟩
abbrev S1x4096x8 : Shape := ⟨3, ![1, 4096, 8]⟩
abbrev S4x4096x48 : Shape := ⟨3, ![4, 4096, 48]⟩
abbrev S4x4096x128 : Shape := ⟨3, ![4, 4096, 128]⟩
abbrev S1x4x512x4096 : Shape := ⟨4, ![1, 4, 512, 4096]⟩
abbrev S4x512x4096 : Shape := ⟨3, ![4, 512, 4096]⟩
abbrev S1x4x256x4096 : Shape := ⟨4, ![1, 4, 256, 4096]⟩
abbrev S4x256x4096 : Shape := ⟨3, ![4, 256, 4096]⟩
abbrev S16384x256 : Shape := ⟨2, ![16384, 256]⟩
abbrev S4x128x4096 : Shape := ⟨3, ![4, 128, 4096]⟩
abbrev S16384x512 : Shape := ⟨2, ![16384, 512]⟩
abbrev S4x8x4096 : Shape := ⟨3, ![4, 8, 4096]⟩

abbrev nBuf : Space → Nat
  | .hbm => 233
  | .vmem => 0
  | .smem => 0
  | _ => 0

abbrev hbmTy0_0 (i : Nat) : BufTy := match i % 128 with
  | 0 => ⟨S4x4096x1024, .f32⟩
  | 1 => ⟨S1024, .f32⟩
  | 2 => ⟨S1024x2976, .f32⟩
  | 3 => ⟨S4, .f32⟩
  | 4 => ⟨S16x256, .f32⟩
  | 5 => ⟨S256, .f32⟩
  | 6 => ⟨S2x4x512x4096, .f32⟩
  | 7 => ⟨S2x4x256x4096, .f32⟩
  | 8 => ⟨S4x4096x1024, .f32⟩
  | 9 => ⟨S_, .f32⟩
  | 10 => ⟨S4x4096, .f32⟩
  | 11 => ⟨S4x4096x1, .f32⟩
  | 12 => ⟨S_, .f32⟩
  | 13 => ⟨S4x4096x1, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S4x4096x1024, .f32⟩
  | 20 => ⟨S4x4096x1024, .f32⟩
  | 21 => ⟨S1x1x1024, .f32⟩
  | 22 => ⟨S4x4096x1024, .f32⟩
  | 23 => ⟨S4x4096x1024, .f32⟩
  | 24 => ⟨S4x4096x2976, .f32⟩
  | 25 => ⟨S4x4096x256, .f32⟩
  | 26 => ⟨S4x4096x256, .f32⟩
  | 27 => ⟨S4x4096x256, .f32⟩
  | 28 => ⟨S4x4096x4, .f32⟩
  | 29 => ⟨S4x4096x256, .f32⟩
  | 30 => ⟨S4x4096x384, .f32⟩
  | 31 => ⟨S4x4096x12, .f32⟩
  | 32 => ⟨S4x4096x256, .f32⟩
  | 33 => ⟨S4x4096x256, .f32⟩
  | 34 => ⟨S4x4096x512, .f32⟩
  | 35 => ⟨S4x4096x16, .f32⟩
  | 36 => ⟨S4x4096x512, .f32⟩
  | 37 => ⟨S1x1x4, .f32⟩
  | 38 => ⟨S4x4096x4, .f32⟩
  | 39 => ⟨S4x4096x4, .f32⟩
  | 40 => ⟨S4x4096x4, .f32⟩
  | 41 => ⟨S_, .f32⟩
  | 42 => ⟨S4x4096x4, .f32⟩
  | 43 => ⟨S4x4096x4, .f32⟩
  | 44 => ⟨S4x4096x4, .f32⟩
  | 45 => ⟨S4x4096x4, .f32⟩
  | 46 => ⟨S4x4096x4, .i1⟩
  | 47 => ⟨S4x4096x4, .f32⟩
  | 48 => ⟨S4x4096x4, .f32⟩
  | 49 => ⟨S4x4096x4, .f32⟩
  | 50 => ⟨S4x4096x4, .f32⟩
  | 51 => ⟨S4x4096x4, .f32⟩
  | 52 => ⟨S4x4096x4, .f32⟩
  | 53 => ⟨S4x4096x4, .f32⟩
  | 54 => ⟨S4x4096x4, .f32⟩
  | 55 => ⟨S4x4096x4, .f32⟩
  | 56 => ⟨S4x4096x4x64, .f32⟩
  | 57 => ⟨S4x4096x6x64, .f32⟩
  | 58 => ⟨S4x4096x256, .f32⟩
  | 59 => ⟨S1x1x256, .f32⟩
  | 60 => ⟨S4x4096x256, .f32⟩
  | 61 => ⟨S4x4096x256, .f32⟩
  | 62 => ⟨S4x4096x256, .f32⟩
  | 63 => ⟨S_, .f32⟩
  | 64 => ⟨S4x4096x256, .f32⟩
  | 65 => ⟨S4x4096x256, .f32⟩
  | 66 => ⟨S4x4096x256, .f32⟩
  | 67 => ⟨S4x4096x256, .f32⟩
  | 68 => ⟨S4x4096x256, .i1⟩
  | 69 => ⟨S4x4096x256, .f32⟩
  | 70 => ⟨S4x4096x256, .f32⟩
  | 71 => ⟨S4x4096x256, .f32⟩
  | 72 => ⟨S4x4096x256, .f32⟩
  | 73 => ⟨S4x4096x256, .f32⟩
  | 74 => ⟨S4x4096x256, .f32⟩
  | 75 => ⟨S4x4096x256, .f32⟩
  | 76 => ⟨S4x4096x256, .f32⟩
  | 77 => ⟨S4x4096x256, .f32⟩
  | 78 => ⟨S_, .f32⟩
  | 79 => ⟨S4x4096x256, .f32⟩
  | 80 => ⟨S4x4096x256, .f32⟩
  | 81 => ⟨S4096, .i32⟩
  | 82 => ⟨S4x4096x1x64, .f32⟩
  | 83 => ⟨S4x4096x64, .f32⟩
  | 84 => ⟨S4x4096x1x64, .f32⟩
  | 85 => ⟨S4x4096x64, .f32⟩
  | 86 => ⟨S4x4096x1x64, .f32⟩
  | 87 => ⟨S4x4096x64, .f32⟩
  | 88 => ⟨S4x4096x1x64, .f32⟩
  | 89 => ⟨S4x4096x64, .f32⟩
  | 90 => ⟨S4x4096x1x64, .f32⟩
  | 91 => ⟨S4x4096x64, .f32⟩
  | 92 => ⟨S4x4096x1x64, .f32⟩
  | 93 => ⟨S4x4096x64, .f32⟩
  | 94 => ⟨S8, .f32⟩
  | 95 => ⟨S8, .f32⟩
  | 96 => ⟨S_, .f32⟩
  | 97 => ⟨S8, .f32⟩
  | 98 => ⟨S8, .f32⟩
  | 99 => ⟨S_, .f32⟩
  | 100 => ⟨S8, .f32⟩
  | 101 => ⟨S8, .f32⟩
  | 102 => ⟨S4096, .f32⟩
  | 103 => ⟨S4096x1, .f32⟩
  | 104 => ⟨S1x8, .f32⟩
  | 105 => ⟨S4096x8, .f32⟩
  | 106 => ⟨S4096x8, .f32⟩
  | 107 => ⟨S4096x8, .f32⟩
  | 108 => ⟨S4096x8, .f32⟩
  | 109 => ⟨S4096x1x8, .f32⟩
  | 110 => ⟨S4096x8, .f32⟩
  | 111 => ⟨S4096x1x8, .f32⟩
  | 112 => ⟨S4x4096x4x8, .f32⟩
  | 113 => ⟨S4x4096x4x8, .f32⟩
  | 114 => ⟨S1x4096x1x8, .f32⟩
  | 115 => ⟨S4x4096x4x8, .f32⟩
  | 116 => ⟨S4x4096x4x8, .f32⟩
  | 117 => ⟨S1x4096x1x8, .f32⟩
  | 118 => ⟨S4x4096x4x8, .f32⟩
  | 119 => ⟨S4x4096x4x8, .f32⟩
  | 120 => ⟨S4x4096x4x8, .f32⟩
  | 121 => ⟨S1x4096x1x8, .f32⟩
  | 122 => ⟨S4x4096x4x8, .f32⟩
  | 123 => ⟨S4x4096x4x8, .f32⟩
  | 124 => ⟨S1x4096x1x8, .f32⟩
  | 125 => ⟨S4x4096x4x8, .f32⟩
  | 126 => ⟨S4x4096x4x8, .f32⟩
  | 127 => ⟨S4x4096x4x8, .f32⟩
  | _ => ⟨S4x4096x1024, .f32⟩

abbrev hbmTy0_1 (i : Nat) : BufTy := match i % 128 with
  | 0 => ⟨S4x4096x4x48, .f32⟩
  | 1 => ⟨S4x4096x4x64, .f32⟩
  | 2 => ⟨S8, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S4096, .f32⟩
  | 11 => ⟨S4096x1, .f32⟩
  | 12 => ⟨S1x8, .f32⟩
  | 13 => ⟨S4096x8, .f32⟩
  | 14 => ⟨S4096x8, .f32⟩
  | 15 => ⟨S4096x8, .f32⟩
  | 16 => ⟨S4096x8, .f32⟩
  | 17 => ⟨S4096x8, .f32⟩
  | 18 => ⟨S4x4096x8, .f32⟩
  | 19 => ⟨S4x4096x8, .f32⟩
  | 20 => ⟨S1x4096x8, .f32⟩
  | 21 => ⟨S4x4096x8, .f32⟩
  | 22 => ⟨S4x4096x8, .f32⟩
  | 23 => ⟨S1x4096x8, .f32⟩
  | 24 => ⟨S4x4096x8, .f32⟩
  | 25 => ⟨S4x4096x8, .f32⟩
  | 26 => ⟨S4x4096x8, .f32⟩
  | 27 => ⟨S1x4096x8, .f32⟩
  | 28 => ⟨S4x4096x8, .f32⟩
  | 29 => ⟨S4x4096x8, .f32⟩
  | 30 => ⟨S1x4096x8, .f32⟩
  | 31 => ⟨S4x4096x8, .f32⟩
  | 32 => ⟨S4x4096x8, .f32⟩
  | 33 => ⟨S4x4096x8, .f32⟩
  | 34 => ⟨S4x4096x48, .f32⟩
  | 35 => ⟨S4x4096x64, .f32⟩
  | 36 => ⟨S8, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S4096, .f32⟩
  | 45 => ⟨S4096x1, .f32⟩
  | 46 => ⟨S1x8, .f32⟩
  | 47 => ⟨S4096x8, .f32⟩
  | 48 => ⟨S4096x8, .f32⟩
  | 49 => ⟨S4096x8, .f32⟩
  | 50 => ⟨S4096x8, .f32⟩
  | 51 => ⟨S4096x8, .f32⟩
  | 52 => ⟨S4x4096x8, .f32⟩
  | 53 => ⟨S4x4096x8, .f32⟩
  | 54 => ⟨S1x4096x8, .f32⟩
  | 55 => ⟨S4x4096x8, .f32⟩
  | 56 => ⟨S4x4096x8, .f32⟩
  | 57 => ⟨S1x4096x8, .f32⟩
  | 58 => ⟨S4x4096x8, .f32⟩
  | 59 => ⟨S4x4096x8, .f32⟩
  | 60 => ⟨S4x4096x8, .f32⟩
  | 61 => ⟨S1x4096x8, .f32⟩
  | 62 => ⟨S4x4096x8, .f32⟩
  | 63 => ⟨S4x4096x8, .f32⟩
  | 64 => ⟨S1x4096x8, .f32⟩
  | 65 => ⟨S4x4096x8, .f32⟩
  | 66 => ⟨S4x4096x8, .f32⟩
  | 67 => ⟨S4x4096x8, .f32⟩
  | 68 => ⟨S4x4096x48, .f32⟩
  | 69 => ⟨S4x4096x64, .f32⟩
  | 70 => ⟨S4x4096x12, .f32⟩
  | 71 => ⟨S4x4096x12, .f32⟩
  | 72 => ⟨S_, .f32⟩
  | 73 => ⟨S4x4096x12, .f32⟩
  | 74 => ⟨S4x4096x12, .f32⟩
  | 75 => ⟨S_, .f32⟩
  | 76 => ⟨S4x4096x12, .f32⟩
  | 77 => ⟨S4x4096x12, .f32⟩
  | 78 => ⟨S4x4096x512, .f32⟩
  | 79 => ⟨S4x4096x256, .f32⟩
  | 80 => ⟨S4x4096x128, .f32⟩
  | 81 => ⟨S4x4096x512, .f32⟩
  | 82 => ⟨S1x4x512x4096, .f32⟩
  | 83 => ⟨S4x512x4096, .f32⟩
  | 84 => ⟨S4x512x4096, .f32⟩
  | 85 => ⟨S1x4x512x4096, .f32⟩
  | 86 => ⟨S1x4x512x4096, .f32⟩
  | 87 => ⟨S2x4x512x4096, .f32⟩
  | 88 => ⟨S1x4x256x4096, .f32⟩
  | 89 => ⟨S4x256x4096, .f32⟩
  | 90 => ⟨S4x256x4096, .f32⟩
  | 91 => ⟨S1x4x256x4096, .f32⟩
  | 92 => ⟨S1x4x256x4096, .f32⟩
  | 93 => ⟨S2x4x256x4096, .f32⟩
  | 94 => ⟨S16384x256, .f32⟩
  | 95 => ⟨S16384x256, .f32⟩
  | 96 => ⟨S16384x256, .f32⟩
  | 97 => ⟨S4x128x4096, .f32⟩
  | 98 => ⟨S16384x512, .f32⟩
  | 99 => ⟨S16384x512, .f32⟩
  | 100 => ⟨S16384x512, .f32⟩
  | 101 => ⟨S16384x256, .f32⟩
  | 102 => ⟨S4x4096x4, .f32⟩
  | 103 => ⟨S4x4096x8, .f32⟩
  | 104 => ⟨S4x8x4096, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_call0_cst : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_v1 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call1_v0 : Ref sig .tc := ⟨.hbm, 62, rfl⟩
abbrev main_call1_call0_cst : Ref sig .tc := ⟨.hbm, 63, rfl⟩
abbrev main_call1_call0_v0 : Ref sig .tc := ⟨.hbm, 64, rfl⟩
abbrev main_call1_call0_v1 : Ref sig .tc := ⟨.hbm, 65, rfl⟩
abbrev main_call1_call0_v2 : Ref sig .tc := ⟨.hbm, 66, rfl⟩
abbrev main_call1_call0_v3 : Ref sig .tc := ⟨.hbm, 67, rfl⟩
abbrev main_call1_call0_v4 : Ref sig .tc := ⟨.hbm, 68, rfl⟩
abbrev main_call1_call0_v5 : Ref sig .tc := ⟨.hbm, 69, rfl⟩
abbrev main_call1_call0_v6 : Ref sig .tc := ⟨.hbm, 70, rfl⟩
abbrev main_call1_call0_v7 : Ref sig .tc := ⟨.hbm, 71, rfl⟩
abbrev main_call1_call0_v8 : Ref sig .tc := ⟨.hbm, 72, rfl⟩
abbrev main_call1_call0_v9 : Ref sig .tc := ⟨.hbm, 73, rfl⟩
abbrev main_call1_call0_v10 : Ref sig .tc := ⟨.hbm, 74, rfl⟩
abbrev main_call1_call0_v11 : Ref sig .tc := ⟨.hbm, 75, rfl⟩
abbrev main_call1_v1 : Ref sig .tc := ⟨.hbm, 76, rfl⟩
abbrev main_v36 : Ref sig .tc := ⟨.hbm, 77, rfl⟩
abbrev main_cst_2 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_3 : Ref sig .tc := ⟨.hbm, 96, rfl⟩
abbrev main_v54 : Ref sig .tc := ⟨.hbm, 97, rfl⟩
abbrev main_v55 : Ref sig .tc := ⟨.hbm, 98, rfl⟩
abbrev main_cst_4 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_5 : Ref sig .tc := ⟨.hbm, 132, rfl⟩
abbrev main_v88 : Ref sig .tc := ⟨.hbm, 133, rfl⟩
abbrev main_v89 : Ref sig .tc := ⟨.hbm, 134, rfl⟩
abbrev main_cst_6 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_7 : Ref sig .tc := ⟨.hbm, 166, rfl⟩
abbrev main_v120 : Ref sig .tc := ⟨.hbm, 167, rfl⟩
abbrev main_v121 : Ref sig .tc := ⟨.hbm, 168, rfl⟩
abbrev main_cst_8 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_9 : Ref sig .tc := ⟨.hbm, 200, rfl⟩
abbrev main_v152 : Ref sig .tc := ⟨.hbm, 201, rfl⟩
abbrev main_v153 : Ref sig .tc := ⟨.hbm, 202, rfl⟩
abbrev main_cst_10 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩

abbrev nD : Nat := 1
abbrev τ : Topo := Topo.v7x

variable {F : FTy → Type} [FloatOps F]
-- ==== Proof.DenseMath.lean ====
module

public import Idealize.ShloMosaic.Lib.Pointwise

@[expose] public section

set_option maxRecDepth 16384

noncomputable section

/-! The arithmetic of one row of the dense feed-forward layer, over extended reals. -/

namespace Cert.DenseMath

open Idealize.ShloMosaic

/-- One row scaled by the reciprocal root of its mean square, then by the gain. -/
def hrow (x g : Fin 1024 → EReal) (k : Fin 1024) : EReal :=
  x k * Ideal.rsqrt (Ideal.div (∑ i, x i * x i) (Ideal.ofBits FTy.f32 1149239296#32) + Ideal.ofBits FTy.f32 897988541#32) * g k

/-- One hidden unit of the gated layer: the gate column's dot product through silu, times the up column's. -/
def unit (h wg wu : Fin 1024 → EReal) : EReal :=
  ((∑ k, h k * wg k) * Ideal.div 1 (1 + Ideal.exp (-∑ k, h k * wg k))) * ∑ k, h k * wu k

end Cert.DenseMath

end
-- ==== Proof.DensePure.lean ====
module

public import proofs.«01_k».proof.Proof.Gen.DenseIdeal.Skeleton
public import proofs.«01_k».proof.Proof.DenseMath

@[expose] public section

set_option maxRecDepth 16384

noncomputable section

/-! What one step of the dense feed-forward kernel computes, read at a row and a column. -/

namespace Cert.DenseIdeal

open Idealize.ShloMosaic Idealize.ShloMosaic.TcCoe Idealize.SL.Sem
open Cert.DenseIdeal.Gen

/-- The normalised rows a tile keeps. -/
theorem pay1_at (x : FVec Ideal S1024x1024 .f32) (g : FVec Ideal S1x1024 .f32) (r k : Fin 1024) :
    k0_pay1 (F := Ideal) x g (ix2 r k) = DenseMath.hrow (fun i => x (ix2 r i)) (fun i => g (ix2 0 i)) k := by
  pointwise [k0_pay1]
  rfl

/-- The accumulator starts at zero. -/
theorem pay2_at (j : S1024x1024.Idx) : k0_pay2 (F := Ideal) j = 0 := by
  pointwise [k0_pay2]

/-- One step of the accumulator: the tile's hidden units weighted by their down rows are added. -/
theorem pay3_at (h : FVec Ideal S1024x1024 .bf16) (wg wu : FVec Ideal S1024x512 .bf16) (acc : FVec Ideal S1024x1024 .f32)
    (wd : FVec Ideal S512x1024 .bf16) (r k : Fin 1024) :
    k0_pay3 (F := Ideal) h wg wu acc wd (ix2 r k) = acc (ix2 r k) + ∑ l : Fin 512,
      DenseMath.unit (fun i => h (ix2 r i)) (fun i => wg (ix2 i l)) (fun i => wu (ix2 i l)) * wd (ix2 l k) := by
  pointwise [k0_pay3]
  try simp only [zero_sub]
  rfl

/-- What is written back: the tile's rows plus the accumulator. -/
theorem pay4_at (x acc : FVec Ideal S1024x1024 .f32) (j : S1024x1024.Idx) : k0_pay4 (F := Ideal) x acc j = x j + acc j := by
  pointwise [k0_pay4]

end Cert.DenseIdeal

end
-- ==== Proof.DenseRefTerm.lean ====
module

public import proofs.«01_k».proof.Proof.Gen.DenseRefIdeal.Run
public import proofs.«01_k».proof.Proof.DenseMath

@[expose] public section

set_option maxRecDepth 16384

noncomputable section

/-! What the dense feed-forward reference computes, as one function of its arrays, and that function read at a row and a column. -/

namespace Cert.DenseRefIdeal

open Idealize.ShloMosaic Idealize.ShloMosaic.TcCoe Idealize.SL.Sem
open Cert.DenseRefIdeal.Gen Cert.DenseRefIdeal.Value

/-- The reference's result as a term of the five arrays. -/
def REF (X : FVec Ideal S4x4096x1024 .f32) (G : FVec Ideal S1024 .f32) (Wg Wu : FVec Ideal S1024x3584 .f32)
    (Wd : FVec Ideal S3584x1024 .f32) : FVec Ideal S16384x1024 .f32 :=
  shapeCast _ (addf X (Host.dotGeneral dot_S4x4096x3584_S3584x1024_S4x4096x1024_2_0_01_1_n_n none (mulf (mulf (Host.dotGeneral dot_S4x4096x1024_S1024x3584_S4x4096x3584_2_0_01_1_n_n none (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 G))) Wg) (Host.divf (broadcastInDim S4x4096x3584 ![] bcast_S_S4x4096x3584 (constant S_ .f32 0x3F800000#32)) (addf (broadcastInDim S4x4096x3584 ![] bcast_S_S4x4096x3584 (constant S_ .f32 0x3F800000#32)) (Host.exp (Host.negf (Host.dotGeneral dot_S4x4096x1024_S1024x3584_S4x4096x3584_2_0_01_1_n_n none (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 G))) Wg)))))) (Host.dotGeneral dot_S4x4096x1024_S1024x3584_S4x4096x3584_2_0_01_1_n_n none (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 G))) Wu)) Wd)) shapeCasts_S4x4096x1024_S16384x1024

/-- Row `r` of the input, the batch and the position read off the row's number. -/
def xrow (X : FVec Ideal S4x4096x1024 .f32) (r : Fin 16384) (k : Fin 1024) : EReal :=
  X (ix3 ⟨r / 4096, by omega⟩ ⟨r % 4096, by omega⟩ k)

/-- The reference at a row and a column: the row's entry plus the hidden units weighted by the down column. -/
theorem ref_at (X : FVec Ideal S4x4096x1024 .f32) (G : FVec Ideal S1024 .f32) (Wg Wu : FVec Ideal S1024x3584 .f32)
    (Wd : FVec Ideal S3584x1024 .f32) (r : Fin 16384) (k : Fin 1024) :
    REF X G Wg Wu Wd (ix2 r k : S16384x1024.Idx) = xrow X r k + ∑ j : Fin 3584,
      DenseMath.unit (DenseMath.hrow (xrow X r) fun i => G (ix1 i)) (fun i => Wg (ix2 i j)) (fun i => Wu (ix2 i j)) * Wd (ix2 j k) := by
  pointwise [REF]
  rfl

end Cert.DenseRefIdeal

end
-- ==== Proof.DenseValue.lean ====
module

public import proofs.«01_k».proof.Proof.Gen.DenseIdeal.Value
public import proofs.«01_k».proof.Proof.DensePure
public import proofs.«01_k».proof.Proof.DenseRefTerm
public import Idealize.ShloMosaic.Lib.Pipeline.ValueKit
public import Idealize.ShloMosaic.Lib.Tactic

@[expose] public section

set_option maxRecDepth 16384

noncomputable section

/-! What the dense feed-forward kernel leaves in its result, tile by tile. -/

namespace Cert.DenseIdeal

open Idealize.ShloMosaic Idealize.ShloMosaic.TcCoe Idealize.SL.Sem
open Cert.DenseIdeal.Gen

/-- Where every window stands at a point: tile `t / 7` of the rows, slice `t % 7` of the hidden units. -/
theorem idx : ∀ t : Fin cfg0.N, win0_0.index t = ![t.val / 7, 0] ∧ win0_1.index t = ![0, 0] ∧ win0_2.index t = ![0, t.val % 7]
    ∧ win0_3.index t = ![0, t.val % 7] ∧ win0_4.index t = ![t.val % 7, 0] ∧ win0_5.index t = ![t.val / 7, 0] :=
  (by decide +kernel : ∀ t : Fin grid0.N, _)

theorem lt_N (t : Fin cfg0.N) : t.val < 112 := lt_of_lt_of_eq t.isLt N_0

/-- The row of the whole array that row `r` of point `t`'s tile is. -/
def row (t : Fin cfg0.N) (r : Fin 1024) : Fin 16384 := ⟨t.val / 7 * 1024 + r, by have := lt_N t; omega⟩

/-- The hidden unit that column `l` of point `t`'s slice is. -/
def col (t : Fin cfg0.N) (l : Fin 512) : Fin 3584 := ⟨t.val % 7 * 512 + l, by omega⟩

variable (m : (ℓ : Loc nD τ sig) → Buf (Elt Ideal) ℓ)

/-- The input array. -/
abbrev aX (c : Dev nD) : FVec Ideal S4x4096x1024 .f32 := m ((c : Thread nD τ).loc main_arg0)
/-- The gains. -/
abbrev aG (c : Dev nD) : FVec Ideal S1024 .f32 := m ((c : Thread nD τ).loc main_arg1)
/-- The gate weights. -/
abbrev aWg (c : Dev nD) : FVec Ideal S1024x3584 .f32 := m ((c : Thread nD τ).loc main_arg2)
/-- The up weights. -/
abbrev aWu (c : Dev nD) : FVec Ideal S1024x3584 .f32 := m ((c : Thread nD τ).loc main_arg3)
/-- The down weights. -/
abbrev aWd (c : Dev nD) : FVec Ideal S3584x1024 .f32 := m ((c : Thread nD τ).loc main_arg4)

theorem blk0 (c : Dev nD) (t : Fin cfg0.N) (r k : Fin 1024) :
    (show FVec Ideal S1024x1024 .f32 from iblk m c 0 t) (ix2 r k) = DenseRefIdeal.xrow (aX m c) (row t r) k := by
  unfold DenseRefIdeal.xrow row
  blk_point [iblk, V, idx t]

theorem blk1 (c : Dev nD) (t : Fin cfg0.N) (k : Fin 1024) :
    (show FVec Ideal S1x1024 .f32 from iblk m c 1 t) (ix2 0 k) = aG m c (ix1 k) := by
  blk_point [iblk, V, idx t]

theorem blk2 (c : Dev nD) (t : Fin cfg0.N) (k : Fin 1024) (l : Fin 512) :
    (show FVec Ideal S1024x512 .bf16 from iblk m c 2 t) (ix2 k l) = aWg m c (ix2 k (col t l)) := by
  unfold col
  blk_ext [iblk, V, idx t]

theorem blk3 (c : Dev nD) (t : Fin cfg0.N) (k : Fin 1024) (l : Fin 512) :
    (show FVec Ideal S1024x512 .bf16 from iblk m c 3 t) (ix2 k l) = aWu m c (ix2 k (col t l)) := by
  unfold col
  blk_ext [iblk, V, idx t]

theorem blk4 (c : Dev nD) (t : Fin cfg0.N) (l : Fin 512) (k : Fin 1024) :
    (show FVec Ideal S512x1024 .bf16 from iblk m c 4 t) (ix2 l k) = aWd m c (ix2 (col t l) k) := by
  unfold col
  blk_ext [iblk, V, idx t]

/-- The normalised row `r`. -/
def hrow (c : Dev nD) (r : Fin 16384) : Fin 1024 → EReal :=
  DenseMath.hrow (DenseRefIdeal.xrow (aX m c) r) fun i => aG m c (ix1 i)

/-- What hidden unit `j` adds to row `r`, column `k`. -/
def part (c : Dev nD) (r : Fin 16384) (k : Fin 1024) (j : Fin 3584) : EReal :=
  DenseMath.unit (hrow m c r) (fun i => aWg m c (ix2 i j)) (fun i => aWu m c (ix2 i j)) * aWd m c (ix2 j k)

/-- The same, with zero for a number that is no hidden unit. -/
def partN (c : Dev nD) (r : Fin 16384) (k : Fin 1024) (j : ℕ) : EReal :=
  if h : j < 3584 then part m c r k ⟨j, h⟩ else 0

theorem partN_lt (c : Dev nD) (r : Fin 16384) (k : Fin 1024) (j : ℕ) (h : j < 3584) : partN m c r k j = part m c r k ⟨j, h⟩ :=
  dif_pos h

/-- The normalised rows, at the first point of a tile. -/
theorem first (c : Dev nD) (t : Fin cfg0.N) :
    (k0_pay1 (F := Ideal) (iblk m c 0 t) (iblk m c 1 t)) = fun y => hrow m c (row t (y 0)) (y 1) := by
  funext y
  obtain ⟨r, k, rfl⟩ : ∃ r k, y = ix2 r k := ⟨y 0, y 1, eq_ix2 y⟩
  refine (pay1_at _ _ r k).trans ?_
  refine congrArg₂ (fun a b => DenseMath.hrow a b k) ?_ ?_
  · funext i; exact blk0 m c t r i
  · funext i; exact blk1 m c t i

/-- One step of the accumulator, over the normalised rows of the tile. -/
theorem step (c : Dev nD) (t : Fin cfg0.N) (acc : FVec Ideal S1024x1024 .f32) :
    k0_pay3 (F := Ideal) (fun y => hrow m c (row t (y 0)) (y 1)) (iblk m c 2 t) (iblk m c 3 t) acc (iblk m c 4 t)
      = fun y => acc y + ∑ l : Fin 512, partN m c (row t (y 0)) (y 1) (t.val % 7 * 512 + l) := by
  funext y
  obtain ⟨r, k, rfl⟩ : ∃ r k, y = ix2 r k := ⟨y 0, y 1, eq_ix2 y⟩
  refine (pay3_at _ _ _ _ _ r k).trans ?_
  refine congrArg (acc (ix2 r k) + ·) (Finset.sum_congr rfl fun l _ => ?_)
  have hl : t.val % 7 * 512 + (l : ℕ) < 3584 := by omega
  refine Eq.trans ?_ (partN_lt m c (row t r) k _ hl).symm
  refine congrArg₂ (· * ·) ?_ (blk4 m c t l k)
  refine congrArg₂ (DenseMath.unit _) ?_ ?_
  · funext i; exact blk2 m c t i l
  · funext i; exact blk3 m c t i l

/-- The scratch after a point: the normalised rows of its tile, and the hidden units summed so far. -/
theorem scratch (c : Dev nD) : ∀ (n : ℕ) (hn : n < cfg0.N),
    (outsAt0 m c n hn).2.1 = (fun y => hrow m c (row ⟨n, hn⟩ (y 0)) (y 1))
    ∧ (outsAt0 m c n hn).2.2 = fun y => ∑ s ∈ Finset.range (n % 7 + 1), ∑ l : Fin 512, partN m c (row ⟨n, hn⟩ (y 0)) (y 1) (s * 512 + l) := by
  intro n
  induction n using Nat.strong_induction_on with
  | _ n ih =>
  intro hn
  by_cases h0 : n % 7 = 0
  · have h6 : ¬ n % 7 = 6 := by omega
    have e := outsAt0_A m c ⟨n, hn⟩ h0 h6
    dsimp only at e
    rw [e]
    constructor
    · funext y
      frame_out
      exact congrFun (first m c ⟨n, hn⟩) y
    · funext y
      frame_out
      rw [first m c ⟨n, hn⟩, step m c ⟨n, hn⟩]
      simp only [pay2_at, h0, zero_add, Finset.sum_range_one]
  · have hN := lt_N ⟨n, hn⟩
    have hp : n - 1 < cfg0.N := lt_of_le_of_lt (Nat.sub_le n 1) hn
    obtain ⟨i1, i2⟩ := ih (n - 1) (by omega) hp
    have er : row ⟨n - 1, hp⟩ = row ⟨n, hn⟩ := by funext r; unfold row; simp only [Fin.mk.injEq]; omega
    rw [er] at i1 i2
    have em : n % 7 = (n - 1) % 7 + 1 := by omega
    have e2 : (fun y : S1024x1024.Idx => (∑ s ∈ Finset.range ((n - 1) % 7 + 1), ∑ l : Fin 512, partN m c (row ⟨n, hn⟩ (y 0)) (y 1) (s * 512 + l))
        + ∑ l : Fin 512, partN m c (row ⟨n, hn⟩ (y 0)) (y 1) (n % 7 * 512 + l))
        = fun y => ∑ s ∈ Finset.range (n % 7 + 1), ∑ l : Fin 512, partN m c (row ⟨n, hn⟩ (y 0)) (y 1) (s * 512 + l) := by
      funext y; rw [Finset.sum_range_succ (n := n % 7), em]
    by_cases h1 : n % 7 = 6
    · have e := outsAt0_C m c ⟨n, hn⟩ h0 h1
      dsimp only at e
      rw [e]
      constructor
      · exact i1
      · rw [← e2]
        funext y
        frame_out
        refine (congrFun (congrArg₂ (fun a b => k0_pay3 (F := Ideal) a (iblk m c 2 ⟨n, hn⟩) (iblk m c 3 ⟨n, hn⟩) b (iblk m c 4 ⟨n, hn⟩))
          ((Memref.IsWhole.read_unread _ _).trans i1) ((Memref.IsWhole.read_unread _ _).trans i2)) y).trans ?_
        exact congrFun (step m c ⟨n, hn⟩ _) y
    · have e := outsAt0_B m c ⟨n, hn⟩ h0 h1
      dsimp only at e
      rw [e]
      constructor
      · exact i1
      · rw [← e2]
        funext y
        frame_out
        refine (congrFun (congrArg₂ (fun a b => k0_pay3 (F := Ideal) a (iblk m c 2 ⟨n, hn⟩) (iblk m c 3 ⟨n, hn⟩) b (iblk m c 4 ⟨n, hn⟩))
          ((Memref.IsWhole.read_unread _ _).trans i1) ((Memref.IsWhole.read_unread _ _).trans i2)) y).trans ?_
        exact congrFun (step m c ⟨n, hn⟩ _) y

/-- All seven slices together are the sum over the hidden units. -/
theorem sum_parts (c : Dev nD) (r : Fin 16384) (k : Fin 1024) :
    ∑ s ∈ Finset.range 7, ∑ l : Fin 512, partN m c r k (s * 512 + l) = ∑ j : Fin 3584, part m c r k j := by
  rw [Finset.sum_range, Fin.sum_univ_tiles 7 512 rfl (part m c r k)]
  refine Finset.sum_congr rfl fun s _ => Finset.sum_congr rfl fun l _ => ?_
  have h : (s : ℕ) * 512 + (l : ℕ) < 3584 := by omega
  exact partN_lt m c r k _ h

/-- What the last point of a tile writes back: the reference's rows. -/
theorem point (c : Dev nD) (t : Fin cfg0.N) (h1 : t.val % 7 = 6) (r k : Fin 1024) :
    (outsAt0 m c t.val t.isLt).1 (ix2 r k) = DenseRefIdeal.REF (aX m c) (aG m c) (aWg m c) (aWu m c) (aWd m c) (ix2 (row t r) k) := by
  have h0 : ¬ t.val % 7 = 0 := by omega
  have hs := congrFun (scratch m c t.val t.isLt).2 (ix2 r k)
  rw [outsAt0_C m c t h0 h1] at hs ⊢
  frame_out
  refine (pay4_at _ _ _).trans ((congrArg₂ (· + ·) (blk0 m c t r k) ?_).trans (DenseRefIdeal.ref_at _ _ _ _ _ _ _).symm)
  refine Eq.trans ?_ ((hs.trans ?_).trans (sum_parts m c (row t r) k))
  · symm; frame_out
  · simp only [h1]; rfl

/-- The result array is the reference's. -/
theorem final (c : Dev nD) : (dats m 0 c).arrAt 5 (cfgs 0).N
    = DenseRefIdeal.REF (aX m c) (aG m c) (aWg m c) (aWu m c) (aWd m c) := by
  refine (dats m 0 c).arrAt_eq_of_covers 5 _ (by decide +kernel) fun t hf y => ?_
  obtain ⟨r, k, rfl⟩ : ∃ r k, y = ix2 r k := ⟨y 0, y 1, eq_ix2 y⟩
  blk_simp
  rw [after0_5]
  refine (point m c t ((flush0_5 t).mp hf) r k).trans ?_
  unfold row
  blk_ext [idx t]

end Cert.DenseIdeal

end
-- ==== Proof.DenseClaim.lean ====
module

public import proofs.«01_k».proof.Defs
public import proofs.«01_k».proof.Proof.Gen.Dense.Frame
public import proofs.«01_k».proof.Proof.DenseValue
public import Idealize.ShloMosaic.Lib.Claim

@[expose] public section

set_option maxRecDepth 16384

noncomputable section

/-! The claims about the dense feed-forward layer. -/

namespace Cert.DenseProof

open Idealize.ShloMosaic Idealize.ShloMosaic.TcCoe Idealize.SL.Sem

theorem frame_dense : Cert.quiescent_Dense := fun m ρ _ => Cert.Dense.Gen.frame m ρ

theorem frame_ideal : Cert.quiescent_DenseIdeal := fun m ρ _ => Cert.DenseIdeal.Gen.frame m ρ

theorem frame_ref : Cert.quiescent_DenseRefIdeal := fun m ρ _ =>
  (θ_run Cert.DenseRefIdeal.defs _ _).mono (fun r h => ⟨fun c => (h c).2, sem_eq_zero_of_no_sems (by decide) r.2⟩) (Cert.DenseRefIdeal.Value.run m ρ)

theorem algebraic : Cert.algebraic_DenseIdeal_DenseRefIdeal := by
  pair_intro
  · run_from Cert.DenseIdeal.Value.run m g
  · run_from Cert.DenseRefIdeal.Value.run m' g'
    exact ((Cert.DenseIdeal.Value.final5 m c).symm.trans (Cert.DenseIdeal.final m c)).symm

end Cert.DenseProof

end
-- ==== Proof.MoeRuns.lean ====
module

public import proofs.«01_k».proof.Defs
public import proofs.«01_k».proof.Proof.Gen.MoeIdeal
public import proofs.«01_k».proof.Proof.Gen.MoeIdeal.Launch
public import proofs.«01_k».proof.Proof.Gen.MoeIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Pipeline.Quiescent
public import Idealize.ShloMosaic.Lib.Claim
public import Idealize.ShloMosaic.PureOps.Ideal
public import Idealize.ShloMosaic.Adequacy
public import Idealize.ShloMosaic.Init

/-! The body of the mixture call run once along each of its five control paths, on any
staging buffers and at any float arithmetic `F`: the first column tile of a used block (A), a middle tile (B),
the last tile, which writes the block out (C), a tile of an unused block (D), and the last tile of an
unused block, which writes zeros (E). -/

@[expose] public section

set_option maxRecDepth 16384
set_option Elab.async false

noncomputable section

namespace Cert.MoeIdeal.Tables

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

abbrev tbM0_0 : Memref sig .tc .smem S40 .i32 := Memref.whole main_arg1
abbrev tbM0_1 : Memref sig .tc .smem S1 .i32 := Memref.whole main_arg2
abbrev scM0_0 : Memref sig .tc .vmem S1024x1024 .f32 := Memref.whole cc0_scratch0
abbrev scM0_1 : Memref sig .tc .vmem S1024x1024 .bf16 := Memref.whole cc0_scratch1

abbrev VO0_4 : View sig .tc .vmem S1024x1024 .f32 := (Memref.whole cc0_stg4_0 : Memref sig .tc .vmem S1024x1024 .f32).view

set_option backward.proofsInPublic true in
set_option maxHeartbeats 8000000 in
noncomputable def kernelRun0_A (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (T0 : (S40.Idx → Elt F .i32)) (T1 : (S1.Idx → Elt F .i32))
     (x0 : (S1024x1024.Idx → Elt F .f32)) (x1 : (S1x1024x512.Idx → Elt F .f32)) (x2 : (S1x1024x512.Idx → Elt F .f32)) (x3 : (S1x512x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : (Scalar.cmpi .ne (Scalar.extui (Scalar.cmpi .eq (BitVec.ofNat 32 (i 1).val) 0#32)) 0#32) = 1#1) (k0_h3 : ¬(k0_cond3 i = 1#1)) (k0_h4 : ¬(k0_cond4 i (View.readAt (Elt F) (tbM0_1).view (Rect.unit (s := S1) ![0] S1.size inb_S1_S1_0).toLoadRect T1 (Shape.Idx.first (numel1_S1.symm ▸ Nat.one_pos))) = 1#1)) :
    Σ' (out0 : Buf (Elt F) ((c : Thread nD τ).loc cc0_scratch0)), { out1 : Buf (Elt F) ((c : Thread nD τ).loc cc0_scratch1) //
      ∀ (y4 : (S1024x1024.Idx → Elt F .f32)) (xa0 : Buf (Elt F) ((c : Thread nD τ).loc cc0_scratch0)) (xa1 : Buf (Elt F) ((c : Thread nD τ).loc cc0_scratch1)) (K : PUnit → sProp (MT nD τ sig Unit (Elt F) ℕ (UR sig nD τ) ℕ)),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := F)) Variants.none c none) Set.univ (cc0_moe_ffn i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, fun (y4 : (S1024x1024.Idx → Elt F .f32)) (xa0 : Buf (Elt F) ((c : Thread nD τ).loc cc0_scratch0)) (xa1 : Buf (Elt F) ((c : Thread nD τ).loc cc0_scratch1)) K => by
    unfold owns
    rw [cc0_moe_ffn_eq_skeleton]; unfold cc0_moe_ffn_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = Scalar.cmpi = _; exact k0_h2) | (guard_target = ¬(k0_cond3 _ = _); exact k0_h3) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1⟩

set_option backward.proofsInPublic true in
set_option maxHeartbeats 8000000 in
noncomputable def kernelRun0_B (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (T0 : (S40.Idx → Elt F .i32)) (T1 : (S1.Idx → Elt F .i32))
     (x0 : (S1024x1024.Idx → Elt F .f32)) (x1 : (S1x1024x512.Idx → Elt F .f32)) (x2 : (S1x1024x512.Idx → Elt F .f32)) (x3 : (S1x512x1024.Idx → Elt F .f32)) (xa0 : Buf (Elt F) ((c : Thread nD τ).loc cc0_scratch0)) (xa1 : Buf (Elt F) ((c : Thread nD τ).loc cc0_scratch1)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : ¬(k0_cond3 i = 1#1)) (k0_h4 : ¬(k0_cond4 i (View.readAt (Elt F) (tbM0_1).view (Rect.unit (s := S1) ![0] S1.size inb_S1_S1_0).toLoadRect T1 (Shape.Idx.first (numel1_S1.symm ▸ Nat.one_pos))) = 1#1)) :
    Σ' (out0 : Buf (Elt F) ((c : Thread nD τ).loc cc0_scratch0)), { out1 : Buf (Elt F) ((c : Thread nD τ).loc cc0_scratch1) //
      ∀ (y4 : (S1024x1024.Idx → Elt F .f32)) (K : PUnit → sProp (MT nD τ sig Unit (Elt F) ℕ (UR sig nD τ) ℕ)),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := F)) Variants.none c none) Set.univ (cc0_moe_ffn i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, fun (y4 : (S1024x1024.Idx → Elt F .f32)) K => by
    unfold owns
    rw [cc0_moe_ffn_eq_skeleton]; unfold cc0_moe_ffn_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = ¬(Scalar.cmpi = _); exact k0_h2) | (guard_target = ¬(k0_cond3 _ = _); exact k0_h3) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1⟩

set_option backward.proofsInPublic true in
set_option maxHeartbeats 8000000 in
noncomputable def kernelRun0_C (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (T0 : (S40.Idx → Elt F .i32)) (T1 : (S1.Idx → Elt F .i32))
     (x0 : (S1024x1024.Idx → Elt F .f32)) (x1 : (S1x1024x512.Idx → Elt F .f32)) (x2 : (S1x1024x512.Idx → Elt F .f32)) (x3 : (S1x512x1024.Idx → Elt F .f32)) (xa0 : Buf (Elt F) ((c : Thread nD τ).loc cc0_scratch0)) (xa1 : Buf (Elt F) ((c : Thread nD τ).loc cc0_scratch1)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : k0_cond3 i = 1#1) (k0_h4 : ¬(k0_cond4 i (View.readAt (Elt F) (tbM0_1).view (Rect.unit (s := S1) ![0] S1.size inb_S1_S1_0).toLoadRect T1 (Shape.Idx.first (numel1_S1.symm ▸ Nat.one_pos))) = 1#1)) :
    Σ' (out0 : List (View.Piece (Elt F) S1024x1024 .f32)) (out1 : Buf (Elt F) ((c : Thread nD τ).loc cc0_scratch0)), { out2 : Buf (Elt F) ((c : Thread nD τ).loc cc0_scratch1) //
      ∀ (K : PUnit → sProp (MT nD τ sig Unit (Elt F) ℕ (UR sig nD τ) ℕ)),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_moe_ffn i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, _, fun K => by
    unfold owns
    rw [cc0_moe_ffn_eq_skeleton]; unfold cc0_moe_ffn_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = ¬(Scalar.cmpi = _); exact k0_h2) | (guard_target = k0_cond3 _ = _; exact k0_h3) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

theorem cover0_C_4 (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (T0 : (S40.Idx → Elt F .i32)) (T1 : (S1.Idx → Elt F .i32))
     (x0 : (S1024x1024.Idx → Elt F .f32)) (x1 : (S1x1024x512.Idx → Elt F .f32)) (x2 : (S1x1024x512.Idx → Elt F .f32)) (x3 : (S1x512x1024.Idx → Elt F .f32)) (xa0 : Buf (Elt F) ((c : Thread nD τ).loc cc0_scratch0)) (xa1 : Buf (Elt F) ((c : Thread nD τ).loc cc0_scratch1)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : k0_cond3 i = 1#1) (k0_h4 : ¬(k0_cond4 i (View.readAt (Elt F) (tbM0_1).view (Rect.unit (s := S1) ![0] S1.size inb_S1_S1_0).toLoadRect T1 (Shape.Idx.first (numel1_S1.symm ▸ Nat.one_pos))) = 1#1)) (y : S1024x1024.Idx) :
    ∃ pc ∈ (kernelRun0_C c i arg4 harg4 arg5 harg5 arg6 harg6 arg7 harg7 arg8 harg8 T0 T1 x0 x1 x2 x3 xa0 xa1 k0_h1 k0_h2 k0_h3 k0_h4).1, y ∈ pc.1.set :=
  View.cover_of_tiledL (kernelRun0_C c i arg4 harg4 arg5 harg5 arg6 harg6 arg7 harg7 arg8 harg8 T0 T1 x0 x1 x2 x3 xa0 xa1 k0_h1 k0_h2 k0_h3 k0_h4).1 S1024x1024.size (by sl_kernel_rfl) y

def out0_C_4 (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (T0 : (S40.Idx → Elt F .i32)) (T1 : (S1.Idx → Elt F .i32))
     (x0 : (S1024x1024.Idx → Elt F .f32)) (x1 : (S1x1024x512.Idx → Elt F .f32)) (x2 : (S1x1024x512.Idx → Elt F .f32)) (x3 : (S1x512x1024.Idx → Elt F .f32)) (xa0 : Buf (Elt F) ((c : Thread nD τ).loc cc0_scratch0)) (xa1 : Buf (Elt F) ((c : Thread nD τ).loc cc0_scratch1)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : k0_cond3 i = 1#1) (k0_h4 : ¬(k0_cond4 i (View.readAt (Elt F) (tbM0_1).view (Rect.unit (s := S1) ![0] S1.size inb_S1_S1_0).toLoadRect T1 (Shape.Idx.first (numel1_S1.symm ▸ Nat.one_pos))) = 1#1)) : (S1024x1024.Idx → Elt F .f32) :=
  VO0_4.read (Elt F) (VO0_4.writes (Elt F) VO0_4.junk (kernelRun0_C c i arg4 harg4 arg5 harg5 arg6 harg6 arg7 harg7 arg8 harg8 T0 T1 x0 x1 x2 x3 xa0 xa1 k0_h1 k0_h2 k0_h3 k0_h4).1)

set_option backward.proofsInPublic true in
set_option maxHeartbeats 8000000 in
noncomputable def kernelRun0_D (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (T0 : (S40.Idx → Elt F .i32)) (T1 : (S1.Idx → Elt F .i32))
     (x0 : (S1024x1024.Idx → Elt F .f32)) (x1 : (S1x1024x512.Idx → Elt F .f32)) (x2 : (S1x1024x512.Idx → Elt F .f32)) (x3 : (S1x512x1024.Idx → Elt F .f32)) (xa0 : Buf (Elt F) ((c : Thread nD τ).loc cc0_scratch0)) (xa1 : Buf (Elt F) ((c : Thread nD τ).loc cc0_scratch1)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h4 : ¬(k0_cond4 i (View.readAt (Elt F) (tbM0_1).view (Rect.unit (s := S1) ![0] S1.size inb_S1_S1_0).toLoadRect T1 (Shape.Idx.first (numel1_S1.symm ▸ Nat.one_pos))) = 1#1)) :
    Σ' (out0 : Buf (Elt F) ((c : Thread nD τ).loc cc0_scratch0)), { out1 : Buf (Elt F) ((c : Thread nD τ).loc cc0_scratch1) //
      ∀ (y4 : (S1024x1024.Idx → Elt F .f32)) (K : PUnit → sProp (MT nD τ sig Unit (Elt F) ℕ (UR sig nD τ) ℕ)),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := F)) Variants.none c none) Set.univ (cc0_moe_ffn i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, fun (y4 : (S1024x1024.Idx → Elt F .f32)) K => by
    unfold owns
    rw [cc0_moe_ffn_eq_skeleton]; unfold cc0_moe_ffn_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(k0_cond1 _ _ = _); exact k0_h1) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1⟩

set_option backward.proofsInPublic true in
set_option maxHeartbeats 8000000 in
noncomputable def kernelRun0_E (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (T0 : (S40.Idx → Elt F .i32)) (T1 : (S1.Idx → Elt F .i32))
     (x0 : (S1024x1024.Idx → Elt F .f32)) (x1 : (S1x1024x512.Idx → Elt F .f32)) (x2 : (S1x1024x512.Idx → Elt F .f32)) (x3 : (S1x512x1024.Idx → Elt F .f32)) (xa0 : Buf (Elt F) ((c : Thread nD τ).loc cc0_scratch0)) (xa1 : Buf (Elt F) ((c : Thread nD τ).loc cc0_scratch1)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h4 : k0_cond4 i (View.readAt (Elt F) (tbM0_1).view (Rect.unit (s := S1) ![0] S1.size inb_S1_S1_0).toLoadRect T1 (Shape.Idx.first (numel1_S1.symm ▸ Nat.one_pos))) = 1#1) :
    Σ' (out0 : List (View.Piece (Elt F) S1024x1024 .f32)) (out1 : Buf (Elt F) ((c : Thread nD τ).loc cc0_scratch0)), { out2 : Buf (Elt F) ((c : Thread nD τ).loc cc0_scratch1) //
      ∀ (K : PUnit → sProp (MT nD τ sig Unit (Elt F) ℕ (UR sig nD τ) ℕ)),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_moe_ffn i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, _, fun K => by
    unfold owns
    rw [cc0_moe_ffn_eq_skeleton]; unfold cc0_moe_ffn_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(k0_cond1 _ _ = _); exact k0_h1) | (guard_target = k0_cond4 _ _ = _; exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

theorem cover0_E_4 (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (T0 : (S40.Idx → Elt F .i32)) (T1 : (S1.Idx → Elt F .i32))
     (x0 : (S1024x1024.Idx → Elt F .f32)) (x1 : (S1x1024x512.Idx → Elt F .f32)) (x2 : (S1x1024x512.Idx → Elt F .f32)) (x3 : (S1x512x1024.Idx → Elt F .f32)) (xa0 : Buf (Elt F) ((c : Thread nD τ).loc cc0_scratch0)) (xa1 : Buf (Elt F) ((c : Thread nD τ).loc cc0_scratch1)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h4 : k0_cond4 i (View.readAt (Elt F) (tbM0_1).view (Rect.unit (s := S1) ![0] S1.size inb_S1_S1_0).toLoadRect T1 (Shape.Idx.first (numel1_S1.symm ▸ Nat.one_pos))) = 1#1) (y : S1024x1024.Idx) :
    ∃ pc ∈ (kernelRun0_E c i arg4 harg4 arg5 harg5 arg6 harg6 arg7 harg7 arg8 harg8 T0 T1 x0 x1 x2 x3 xa0 xa1 k0_h1 k0_h4).1, y ∈ pc.1.set :=
  View.cover_of_tiledL (kernelRun0_E c i arg4 harg4 arg5 harg5 arg6 harg6 arg7 harg7 arg8 harg8 T0 T1 x0 x1 x2 x3 xa0 xa1 k0_h1 k0_h4).1 S1024x1024.size (by sl_kernel_rfl) y

def out0_E_4 (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (T0 : (S40.Idx → Elt F .i32)) (T1 : (S1.Idx → Elt F .i32))
     (x0 : (S1024x1024.Idx → Elt F .f32)) (x1 : (S1x1024x512.Idx → Elt F .f32)) (x2 : (S1x1024x512.Idx → Elt F .f32)) (x3 : (S1x512x1024.Idx → Elt F .f32)) (xa0 : Buf (Elt F) ((c : Thread nD τ).loc cc0_scratch0)) (xa1 : Buf (Elt F) ((c : Thread nD τ).loc cc0_scratch1)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h4 : k0_cond4 i (View.readAt (Elt F) (tbM0_1).view (Rect.unit (s := S1) ![0] S1.size inb_S1_S1_0).toLoadRect T1 (Shape.Idx.first (numel1_S1.symm ▸ Nat.one_pos))) = 1#1) : (S1024x1024.Idx → Elt F .f32) :=
  VO0_4.read (Elt F) (VO0_4.writes (Elt F) VO0_4.junk (kernelRun0_E c i arg4 harg4 arg5 harg5 arg6 harg6 arg7 harg7 arg8 harg8 T0 T1 x0 x1 x2 x3 xa0 xa1 k0_h1 k0_h4).1)

end Cert.MoeIdeal.Tables

end
-- ==== Proof.MoeTab.lean ====
module

public import proofs.«01_k».proof.Proof.MoeRuns

/-! The mixture call's tables, for every number of used blocks from 1 to 40 and every block table with
entries in 0..7: the windows' blocks, the conditions at each grid point, and when the output is written back. -/

@[expose] public section

set_option maxRecDepth 16384
set_option Elab.async false

noncomputable section

namespace Cert.MoeIdeal.Tables

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The tables in range: `nu + 1` used blocks of 40, and each block's expert of 8. The float arithmetic is carried along
only so that it need not be repeated at each use. -/
structure Tab (F : FTy → Type) where
  nu : Fin 40
  be : Fin 40 → Fin 8

variable (ch : Tab F)

/-- The block table's words. -/
def pinT_0 (ch : Tab F) : S40.Idx → BitVec 32 := fun x => BitVec.ofNat 32 (ch.be (x 0)).val

/-- The word that counts the used blocks. -/
def pinT_1 (ch : Tab F) : S1.Idx → BitVec 32 := fun _ => BitVec.ofNat 32 (ch.nu.val + 1)

set_option backward.proofsInPublic true in
/-- Both tables, as the call is handed them. -/
def pfN : pre0.Contents (Elt F) := fun | ⟨0, _⟩ => pinT_0 ch | ⟨1, _⟩ => pinT_1 ch | ⟨_ + 2, h⟩ => absurd h (by simp)

theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The launch memory holds these tables. -/
def Pinned (m : (ℓ : Loc nD τ sig) → Buf (Elt F) ℓ) : Prop :=
  (∀ c : Dev nD, m ((c : Thread nD τ).loc main_arg1) = pinT_0 ch)
  ∧ (∀ c : Dev nD, m ((c : Thread nD τ).loc main_arg2) = pinT_1 ch)

/-! ## The words the index maps and the body's conditions compute -/

theorem word_row : ∀ (b n : Fin 40), ((Scalar.minsi (BitVec.ofNat 32 b.val) (Scalar.subi (BitVec.ofNat 32 (n.val + 1)) 1#32)).toNat : ℕ) = min b.val n.val := by
  decide +kernel

theorem word_col : ∀ (b n : Fin 40) (f : Fin 7),
    ((Scalar.select (Scalar.cmpi .slt (BitVec.ofNat 32 b.val) (BitVec.ofNat 32 (n.val + 1))) (BitVec.ofNat 32 f.val) 6#32 : BitVec 32).toNat : ℕ)
      = if b.val ≤ n.val then f.val else 6 := by
  decide +kernel

theorem word_expert : ∀ e : Fin 8, ((BitVec.ofNat 32 e.val).toNat : ℕ) = e.val := by decide +kernel

theorem cond1_iff : ∀ (i : grid0.Coords) (n : Fin 40), k0_cond1 i (BitVec.ofNat 32 (n.val + 1)) = 1#1 ↔ (i 0).val ≤ n.val := by
  decide +kernel

theorem cond3_iff : ∀ i : grid0.Coords, k0_cond3 i = 1#1 ↔ (i 1).val = 6 := by decide +kernel

theorem cond2_iff : ∀ i : grid0.Coords,
    (Scalar.cmpi .ne (Scalar.extui (Scalar.cmpi .eq (BitVec.ofNat 32 (i 1).val) 0#32) : BitVec 32) 0#32) = 1#1 ↔ (i 1).val = 0 := by decide +kernel

theorem cond4_iff : ∀ (i : grid0.Coords) (n : Fin 40),
    k0_cond4 i (BitVec.ofNat 32 (n.val + 1)) = 1#1 ↔ ¬(i 0).val ≤ n.val ∧ (i 1).val = 6 := by
  decide +kernel

theorem pos_lt : ∀ i : grid0.Coords, (i 0).val < 40 ∧ (i 1).val < 7 := by decide +kernel

theorem off_val : ∀ i : grid0.Coords, (BitVec.ofNat 32 (i 0).val).toNat = (i 0).val := by decide +kernel

/-! ## Every window's block lies inside its array -/

theorem row_eq (i : grid0.Coords) :
    cc0_transform_0 inb_S1_S1_0 numel1_S1 (pfN ch) i = ![min (i 0).val ch.nu.val, 0] := by
  have h := word_row ⟨(i 0).val, (pos_lt i).1⟩ ch.nu
  exact congrArg (fun k : ℕ => (![k, 0] : Fin 2 → ℕ)) h

/-- The column tile a window of weights is at: the point's own in a used block, the last one elsewhere. -/
def tile (ch : Tab F) (i : grid0.Coords) : ℕ := if (i 0).val ≤ ch.nu.val then (i 1).val else 6

theorem tile_lt (i : grid0.Coords) : tile ch i < 7 := by
  have := (pos_lt i).2
  unfold tile; split <;> omega

/-- The expert of the block a point is in. -/
def expert (ch : Tab F) (i : grid0.Coords) : Fin 8 := ch.be ⟨(i 0).val, (pos_lt i).1⟩

theorem expert_word (i : grid0.Coords) :
    ((pfN ch).at 0 (Rect.unit (s := S40) ![(Scalar.indexCast (BitVec.ofNat 32 (i 0).val) : Index).toNat] S1.size (k0_off1_inb i)) numel1_S1 : BitVec 32)
      = BitVec.ofNat 32 (expert ch i).val := by
  refine congrArg (fun b : Fin 40 => BitVec.ofNat 32 (ch.be b).val) (Fin.ext ?_)
  exact (Nat.add_zero _).trans (off_val i)

theorem up_eq (i : grid0.Coords) :
    cc0_transform_1 k0_off1_inb numel1_S1 inb_S1_S1_0 (pfN ch) i = ![(expert ch i).val, 0, tile ch i] := by
  have h := word_col ⟨(i 0).val, (pos_lt i).1⟩ ch.nu ⟨(i 1).val, (pos_lt i).2⟩
  have e := (congrArg BitVec.toNat (expert_word ch i)).trans (word_expert (expert ch i))
  exact congrArg₂ (fun k l : ℕ => (![k, 0, l] : Fin 3 → ℕ)) e h

theorem gate_eq (i : grid0.Coords) :
    cc0_transform_2 k0_off1_inb numel1_S1 inb_S1_S1_0 (pfN ch) i = ![(expert ch i).val, 0, tile ch i] := up_eq ch i

theorem down_eq (i : grid0.Coords) :
    cc0_transform_3 k0_off1_inb numel1_S1 inb_S1_S1_0 (pfN ch) i = ![(expert ch i).val, tile ch i, 0] := by
  have h := word_col ⟨(i 0).val, (pos_lt i).1⟩ ch.nu ⟨(i 1).val, (pos_lt i).2⟩
  have e := (congrArg BitVec.toNat (expert_word ch i)).trans (word_expert (expert ch i))
  exact congrArg₂ (fun k l : ℕ => (![k, l, 0] : Fin 3 → ℕ)) e h

theorem none_left {f g h : Fin 0 → ℕ} : ∀ a : Fin 0, (f a + 1) * g a ≤ h a := fun a => a.elim0

theorem ok_pfN (ch : Tab F) : ok0 (F := F) (pfN ch) := by
  refine ⟨fun i => ⟨?_, .inl rfl⟩, fun i => ⟨?_, .inl rfl⟩, fun i => ⟨?_, .inl rfl⟩, fun i => ⟨?_, .inl rfl⟩⟩
  · rw [row_eq]
    have := (pos_lt i).1
    exact okcons (by omega) (okcons (by omega) none_left)
  · rw [up_eq]
    have := tile_lt ch i
    exact okcons (by omega) (okcons (by omega) (okcons (by omega) none_left))
  · rw [gate_eq]
    have := tile_lt ch i
    exact okcons (by omega) (okcons (by omega) (okcons (by omega) none_left))
  · rw [down_eq]
    have := tile_lt ch i
    exact okcons (by omega) (okcons (by omega) (okcons (by omega) none_left))

/-! ## The pipeline at these tables -/

def adm : (pcfg0 (F := F)).Adm := ⟨pfN ch, ok_pfN ch⟩
abbrev cfgA : Pipeline.Cfg sig Λ₀ := cfg0 (F := F) (adm ch)
abbrev pcs : Fin 1 → Pipeline.Cfg sig Λ₀ := Pipeline.pin (pcfgs (F := F)) fun _ => adm ch

variable (m : (ℓ : Loc nD τ sig) → Buf (Elt F) ℓ) (ρ : Dev nD → PrngReg)

abbrev crd (t : Fin (cfgA ch).N) : (cfgA ch).grid.Coords := (cfgA ch).grid.coords t

abbrev ms0_0 (t : Fin (cfgA ch).N) : Memref sig .tc .vmem S1024x1024 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1024x512 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1024x512 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x512x1024 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S1024x1024 .f32 := spec0_4.stage ((cfgA ch).slots t (4 : Fin 5))
abbrev hs0_4 (t : Fin (cfgA ch).N) : (ms0_4 ch t).IsWhole := hstage0_4 (((cfgA ch).slots t (4 : Fin 5)).cast nbuf0_4)

def iblk (c : Dev nD) (w : Fin (cfgA ch).W) (t : Fin (cfgA ch).N) : (((cfgA ch).win w).xblock (crd ch t)).Idx → Elt F ((cfgA ch).win w).elt :=
  (((cfgA ch).win w).blk t).view.read (Elt F) ((s₀ m ρ).mem (((cfgA ch).win w).arr.view.loc (c : Thread nD τ)))

abbrev P0_0 (t : Fin (cfgA ch).N) : Prop := k0_cond1 (crd ch t) (View.readAt (Elt F) (tbM0_1).view (Rect.unit (s := S1) ![0] S1.size inb_S1_S1_0).toLoadRect (pinT_1 ch) (Shape.Idx.first (numel1_S1.symm ▸ Nat.one_pos))) = 1#1
abbrev P0_1 (t : Fin (cfgA ch).N) : Prop := (Scalar.cmpi .ne (Scalar.extui (Scalar.cmpi .eq (BitVec.ofNat 32 ((crd ch t) 1).val) 0#32)) 0#32) = 1#1
abbrev P0_2 (t : Fin (cfgA ch).N) : Prop := k0_cond3 (crd ch t) = 1#1
abbrev P0_3 (t : Fin (cfgA ch).N) : Prop := k0_cond4 (crd ch t) (View.readAt (Elt F) (tbM0_1).view (Rect.unit (s := S1) ![0] S1.size inb_S1_S1_0).toLoadRect (pinT_1 ch) (Shape.Idx.first (numel1_S1.symm ▸ Nat.one_pos))) = 1#1

def sfresh0_0 : ℕ → Bool
  | 0 => true
  | n + 1 => if h : n < (cfgA ch).N then (if P0_0 ch ⟨n, h⟩ then (if P0_1 ch ⟨n, h⟩ then false else (if P0_2 ch ⟨n, h⟩ then sfresh0_0 n else sfresh0_0 n)) else (if P0_3 ch ⟨n, h⟩ then sfresh0_0 n else sfresh0_0 n)) else true

def sfresh0_1 : ℕ → Bool
  | 0 => true
  | n + 1 => if h : n < (cfgA ch).N then (if P0_0 ch ⟨n, h⟩ then (if P0_1 ch ⟨n, h⟩ then false else (if P0_2 ch ⟨n, h⟩ then sfresh0_1 n else sfresh0_1 n)) else (if P0_3 ch ⟨n, h⟩ then sfresh0_1 n else sfresh0_1 n)) else true

/-- Both scratches are written whole at the first point, so they are junk only before it. -/
def sfrTab0_0 (_ : Tab F) : ℕ → Bool := fun n => decide (n ≤ 0)
def sfrTab0_1 (_ : Tab F) : ℕ → Bool := fun n => decide (n ≤ 0)
/-- The output's buffer is written only at a block's last tile, where it is written back. -/
def frTab0_4 (_ : Tab F) : ℕ → Bool := fun _ => true

/-! ## Where a point is, what it decides, and when the output is written back -/

theorem coords_div : ∀ t : Fin grid0.N, (grid0.coords t 0).val = t.val / 7 := by decide +kernel
theorem coords_mod : ∀ t : Fin grid0.N, (grid0.coords t 1).val = t.val % 7 := by decide +kernel

theorem P0_0_iff (t : Fin (cfgA ch).N) : P0_0 ch t ↔ t.val / 7 ≤ ch.nu.val :=
  (cond1_iff (crd ch t) ch.nu).trans (by rw [show ((crd ch t) 0).val = t.val / 7 from coords_div t])
theorem P0_1_iff (t : Fin (cfgA ch).N) : P0_1 ch t ↔ t.val % 7 = 0 :=
  (cond2_iff (crd ch t)).trans (by rw [show ((crd ch t) 1).val = t.val % 7 from coords_mod t])
theorem P0_2_iff (t : Fin (cfgA ch).N) : P0_2 ch t ↔ t.val % 7 = 6 :=
  (cond3_iff (crd ch t)).trans (by rw [show ((crd ch t) 1).val = t.val % 7 from coords_mod t])
theorem P0_3_iff (t : Fin (cfgA ch).N) : P0_3 ch t ↔ ¬t.val / 7 ≤ ch.nu.val ∧ t.val % 7 = 6 :=
  (cond4_iff (crd ch t) ch.nu).trans (by
    rw [show ((crd ch t) 0).val = t.val / 7 from coords_div t, show ((crd ch t) 1).val = t.val % 7 from coords_mod t])

theorem last_tile : ∀ t : Fin grid0.N,
    (t.val + 1 = grid0.N || decide (∃ h : t.val + 1 < grid0.N, ∃ a, cc0_transform_4 (grid0.coords ⟨t.val + 1, h⟩) a ≠ cc0_transform_4 (grid0.coords t) a))
      = decide (t.val % 7 = 6) := by decide +kernel

theorem flush_4 (t : Fin (cfgA ch).N) : ((cfgA ch).win (4 : Fin 5)).flush t = decide (t.val % 7 = 6) :=
  (Pipeline.Window.flush_eq_flushF _ t).trans (last_tile t)

theorem idle_4 (t : Fin (cfgA ch).N) : (cfgA ch).idle (4 : Fin 5) ((cfgA ch).grid.coords t) = !decide (t.val % 7 = 6) := by
  have e0 := P0_0_iff ch t
  have e2 := P0_2_iff ch t
  have e3 := P0_3_iff ch t
  have h : (cfgA ch).idle (4 : Fin 5) ((cfgA ch).grid.coords t) = (!(decide (P0_0 ch t) && decide (P0_2 ch t)) && !decide (P0_3 ch t)) := rfl
  rw [h]
  by_cases b : t.val % 7 = 6
  · rw [decide_eq_true b]
    by_cases a : t.val / 7 ≤ ch.nu.val
    · rw [decide_eq_true (e0.2 a), decide_eq_true (e2.2 b)]; rfl
    · rw [decide_eq_true (e3.2 ⟨a, b⟩)]; exact Bool.and_false _
  · rw [decide_eq_false b, decide_eq_false (fun k => b (e2.1 k)), decide_eq_false (fun k => b (e3.1 k).2), Bool.and_false]; rfl

/-- What each point needs of the schedule. -/
abbrev FactsAt (ch : Tab F) (t : Fin (cfgA ch).N) : Prop :=
  (sfrTab0_0 ch (t.val + 1) = (if P0_0 ch t then (if P0_1 ch t then false else (if P0_2 ch t then sfrTab0_0 ch t.val else sfrTab0_0 ch t.val)) else (if P0_3 ch t then sfrTab0_0 ch t.val else sfrTab0_0 ch t.val)))
  ∧ (sfrTab0_1 ch (t.val + 1) = (if P0_0 ch t then (if P0_1 ch t then false else (if P0_2 ch t then sfrTab0_1 ch t.val else sfrTab0_1 ch t.val)) else (if P0_3 ch t then sfrTab0_1 ch t.val else sfrTab0_1 ch t.val)))
  ∧ (frTab0_4 ch (t.val + 1) = (((cfgA ch).win (4 : Fin 5)).flush t || ((cfgA ch).idle (4 : Fin 5) ((cfgA ch).grid.coords t) && frTab0_4 ch t.val)))
  ∧ (P0_0 ch t → P0_1 ch t → (k0_cond1 (crd ch t) (View.readAt (Elt F) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.cmpi .eq (BitVec.ofNat 32 ((crd ch t) 1).val) 0#32)) 0#32) = 1#1) ∧ ((¬(k0_cond3 (crd ch t) = 1#1)) ∧ ((¬(k0_cond4 (crd ch t) (View.readAt (Elt F) (tbM0_1).view (Rect.unit (s := S1) ![0] S1.size inb_S1_S1_0).toLoadRect (pinT_1 ch) (Shape.Idx.first (numel1_S1.symm ▸ Nat.one_pos))) = 1#1)) ∧ (True)))))
  ∧ (P0_0 ch t → P0_1 ch t → (cfgA ch).idle (4 : Fin 5) ((cfgA ch).grid.coords t) = true ∧ ((cfgA ch).win (4 : Fin 5)).flush t = false ∧ frTab0_4 ch t.val = true ∧ sfrTab0_0 ch (t.val + 1) = false ∧ sfrTab0_1 ch (t.val + 1) = false)
  ∧ (P0_0 ch t → ¬P0_1 ch t → ¬P0_2 ch t → (k0_cond1 (crd ch t) (View.readAt (Elt F) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬(k0_cond3 (crd ch t) = 1#1)) ∧ ((¬(k0_cond4 (crd ch t) (View.readAt (Elt F) (tbM0_1).view (Rect.unit (s := S1) ![0] S1.size inb_S1_S1_0).toLoadRect (pinT_1 ch) (Shape.Idx.first (numel1_S1.symm ▸ Nat.one_pos))) = 1#1)) ∧ (True)))))
  ∧ (P0_0 ch t → ¬P0_1 ch t → ¬P0_2 ch t → (cfgA ch).idle (4 : Fin 5) ((cfgA ch).grid.coords t) = true ∧ ((cfgA ch).win (4 : Fin 5)).flush t = false ∧ frTab0_4 ch t.val = true ∧ sfrTab0_0 ch t.val = false ∧ sfrTab0_0 ch (t.val + 1) = false ∧ sfrTab0_1 ch t.val = false ∧ sfrTab0_1 ch (t.val + 1) = false)
  ∧ (P0_0 ch t → ¬P0_1 ch t → P0_2 ch t → (k0_cond1 (crd ch t) (View.readAt (Elt F) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((k0_cond3 (crd ch t) = 1#1) ∧ ((¬(k0_cond4 (crd ch t) (View.readAt (Elt F) (tbM0_1).view (Rect.unit (s := S1) ![0] S1.size inb_S1_S1_0).toLoadRect (pinT_1 ch) (Shape.Idx.first (numel1_S1.symm ▸ Nat.one_pos))) = 1#1)) ∧ (True)))))
  ∧ (P0_0 ch t → ¬P0_1 ch t → P0_2 ch t → (cfgA ch).idle (4 : Fin 5) ((cfgA ch).grid.coords t) = false ∧ ((cfgA ch).win (4 : Fin 5)).flush t = true ∧ frTab0_4 ch t.val = true ∧ sfrTab0_0 ch t.val = false ∧ sfrTab0_0 ch (t.val + 1) = false ∧ sfrTab0_1 ch t.val = false ∧ sfrTab0_1 ch (t.val + 1) = false)
  ∧ (¬P0_0 ch t → ¬P0_3 ch t → (¬(k0_cond1 (crd ch t) (View.readAt (Elt F) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt F) (tbM0_1).view (Rect.unit (s := S1) ![0] S1.size inb_S1_S1_0).toLoadRect (pinT_1 ch) (Shape.Idx.first (numel1_S1.symm ▸ Nat.one_pos))) = 1#1)) ∧ (True)))
  ∧ (¬P0_0 ch t → ¬P0_3 ch t → (cfgA ch).idle (4 : Fin 5) ((cfgA ch).grid.coords t) = true ∧ ((cfgA ch).win (4 : Fin 5)).flush t = false ∧ frTab0_4 ch t.val = true ∧ sfrTab0_0 ch t.val = false ∧ sfrTab0_0 ch (t.val + 1) = false ∧ sfrTab0_1 ch t.val = false ∧ sfrTab0_1 ch (t.val + 1) = false)
  ∧ (¬P0_0 ch t → P0_3 ch t → (¬(k0_cond1 (crd ch t) (View.readAt (Elt F) (tbM0_1).view (Rect.unit (s := S1) ![0] S1.size inb_S1_S1_0).toLoadRect (pinT_1 ch) (Shape.Idx.first (numel1_S1.symm ▸ Nat.one_pos))) = 1#1)) ∧ ((k0_cond4 (crd ch t) (View.readAt (Elt F) (tbM0_1).view (Rect.unit (s := S1) ![0] S1.size inb_S1_S1_0).toLoadRect (pinT_1 ch) (Shape.Idx.first (numel1_S1.symm ▸ Nat.one_pos))) = 1#1) ∧ (True)))
  ∧ (¬P0_0 ch t → P0_3 ch t → (cfgA ch).idle (4 : Fin 5) ((cfgA ch).grid.coords t) = false ∧ ((cfgA ch).win (4 : Fin 5)).flush t = true ∧ frTab0_4 ch t.val = true ∧ sfrTab0_0 ch t.val = false ∧ sfrTab0_0 ch (t.val + 1) = false ∧ sfrTab0_1 ch t.val = false ∧ sfrTab0_1 ch (t.val + 1) = false)

theorem allFacts (ch : Tab F) (t : Fin (cfgA ch).N) : FactsAt ch t := by
  have e0 := P0_0_iff ch t
  have e1 := P0_1_iff ch t
  have e2 := P0_2_iff ch t
  have e3 := P0_3_iff ch t
  have hi := idle_4 ch t
  have hf := flush_4 ch t
  have s0 : sfrTab0_0 ch (t.val + 1) = false := decide_eq_false (by omega)
  have s1 : sfrTab0_1 ch (t.val + 1) = false := decide_eq_false (by omega)
  have first : t.val ≤ 0 → P0_0 ch t ∧ P0_1 ch t := fun h => ⟨e0.2 (by rw [Nat.le_zero.1 h]; omega), e1.2 (by omega)⟩
  have z0 : ¬(P0_0 ch t ∧ P0_1 ch t) → sfrTab0_0 ch t.val = false := fun h => decide_eq_false (fun k => h (first k))
  have z1 : ¬(P0_0 ch t ∧ P0_1 ch t) → sfrTab0_1 ch t.val = false := fun h => decide_eq_false (fun k => h (first k))
  have stay : t.val % 7 ≠ 6 → (cfgA ch).idle (4 : Fin 5) ((cfgA ch).grid.coords t) = true ∧ ((cfgA ch).win (4 : Fin 5)).flush t = false ∧ frTab0_4 ch t.val = true :=
    fun h => ⟨by rw [hi, decide_eq_false h]; rfl, by rw [hf, decide_eq_false h], rfl⟩
  have out : t.val % 7 = 6 → (cfgA ch).idle (4 : Fin 5) ((cfgA ch).grid.coords t) = false ∧ ((cfgA ch).win (4 : Fin 5)).flush t = true ∧ frTab0_4 ch t.val = true :=
    fun h => ⟨by rw [hi, decide_eq_true h]; rfl, by rw [hf, decide_eq_true h], rfl⟩
  refine ⟨?_, ?_, ?_, ?_, ?_, ?_, ?_, ?_, ?_, ?_, ?_, ?_, ?_⟩
  · rw [s0]
    split_ifs with a b <;> first | rfl | exact (z0 (fun h => b h.2)).symm | exact (z0 (fun h => a h.1)).symm
  · rw [s1]
    split_ifs with a b <;> first | rfl | exact (z1 (fun h => b h.2)).symm | exact (z1 (fun h => a h.1)).symm
  · rw [hi, hf]
    by_cases h : t.val % 7 = 6 <;> simp [h, frTab0_4]
  · exact fun a b => ⟨a, b, fun k => by have := e1.1 b; have := e2.1 k; omega, fun k => (e3.1 k).1 (e0.1 a), trivial⟩
  · exact fun a b => have o := stay (by have := e1.1 b; omega); ⟨o.1, o.2.1, o.2.2, s0, s1⟩
  · exact fun a b d => ⟨a, b, d, fun k => (e3.1 k).1 (e0.1 a), trivial⟩
  · exact fun a b d => have o := stay (fun k => d (e2.2 k)); ⟨o.1, o.2.1, o.2.2, z0 (fun h => b h.2), s0, z1 (fun h => b h.2), s1⟩
  · exact fun a b d => ⟨a, b, d, fun k => (e3.1 k).1 (e0.1 a), trivial⟩
  · exact fun a b d => have o := out (e2.1 d); ⟨o.1, o.2.1, o.2.2, z0 (fun h => b h.2), s0, z1 (fun h => b h.2), s1⟩
  · exact fun a b => ⟨a, b, trivial⟩
  · exact fun a b => have o := stay (fun k => b (e3.2 ⟨fun l => a (e0.2 l), k⟩)); ⟨o.1, o.2.1, o.2.2, z0 (fun h => a h.1), s0, z1 (fun h => a h.1), s1⟩
  · exact fun a b => ⟨a, b, trivial⟩
  · exact fun a b => have o := out (e3.1 b).2; ⟨o.1, o.2.1, o.2.2, z0 (fun h => a h.1), s0, z1 (fun h => a h.1), s1⟩

end Cert.MoeIdeal.Tables

end
-- ==== Proof.MoeRun.lean ====
module

public import proofs.«01_k».proof.Proof.MoeRuns
public import proofs.«01_k».proof.Proof.MoeTab

/-! The mixture call run at every table in range: what the output window and the two scratch
buffers hold after each grid point, the body's obligation, the launch, and the frame. -/

@[expose] public section

set_option maxRecDepth 16384
set_option Elab.async false

noncomputable section

namespace Cert.MoeIdeal.Tables

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

abbrev EP : Emb (UR sig nD τ) (MT nD τ sig Unit (Elt F) ℕ (UR sig nD τ) ℕ) := emb₁

variable (ch : Tab F)
variable (m : (ℓ : Loc nD τ sig) → Buf (Elt F) ℓ) (ρ : Dev nD → PrngReg)

theorem sfrTab0_0_step : ∀ (ch : Tab F) (t : Fin (cfgA ch).N), sfrTab0_0 ch (t.val + 1) = (if P0_0 ch t then (if P0_1 ch t then false else (if P0_2 ch t then sfrTab0_0 ch t.val else sfrTab0_0 ch t.val)) else (if P0_3 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Tab F) (t : Fin (cfgA ch).N), sfrTab0_1 ch (t.val + 1) = (if P0_0 ch t then (if P0_1 ch t then false else (if P0_2 ch t then sfrTab0_1 ch t.val else sfrTab0_1 ch t.val)) else (if P0_3 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem frTab0_4_step : ∀ (ch : Tab F) (t : Fin (cfgA ch).N),
    frTab0_4 ch (t.val + 1) = (((cfgA ch).win (4 : Fin 5)).flush t || ((cfgA ch).idle (4 : Fin 5) ((cfgA ch).grid.coords t) && frTab0_4 ch t.val)) := fun ch t => (allFacts ch t).2.2.1
theorem freshF0_4 (t : Fin (cfgA ch).N) : (cfgA ch).fresh (4 : Fin 5) t.val = frTab0_4 ch t.val :=
  Pipeline.Cfg.fresh_tab (cfgA ch) (4 : Fin 5) (frTab0_4 ch) rfl (frTab0_4_step ch) t.val (Nat.le_of_lt t.isLt)

theorem hyps0_A : ∀ (ch : Tab F) (t : Fin (cfgA ch).N), P0_0 ch t → P0_1 ch t →
    (k0_cond1 (crd ch t) (View.readAt (Elt F) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.cmpi .eq (BitVec.ofNat 32 ((crd ch t) 1).val) 0#32)) 0#32) = 1#1) ∧ ((¬(k0_cond3 (crd ch t) = 1#1)) ∧ ((¬(k0_cond4 (crd ch t) (View.readAt (Elt F) (tbM0_1).view (Rect.unit (s := S1) ![0] S1.size inb_S1_S1_0).toLoadRect (pinT_1 ch) (Shape.Idx.first (numel1_S1.symm ▸ Nat.one_pos))) = 1#1)) ∧ (True)))) := fun ch t => (allFacts ch t).2.2.2.1

theorem hypsR0_A : ∀ (ch : Tab F) (t : Fin (cfgA ch).N), P0_0 ch t → P0_1 ch t →
    (k0_cond1 (crd ch t) (View.readAt (Elt F) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.cmpi .eq (BitVec.ofNat 32 ((crd ch t) 1).val) 0#32)) 0#32) = 1#1) ∧ ((¬(k0_cond3 (crd ch t) = 1#1)) ∧ ((¬(k0_cond4 (crd ch t) (View.readAt (Elt F) (tbM0_1).view (Rect.unit (s := S1) ![0] S1.size inb_S1_S1_0).toLoadRect (pinT_1 ch) (Shape.Idx.first (numel1_S1.symm ▸ Nat.one_pos))) = 1#1)) ∧ (True)))) := hyps0_A

theorem sched0_A : ∀ (ch : Tab F) (t : Fin (cfgA ch).N), P0_0 ch t → P0_1 ch t →
    (cfgA ch).idle (4 : Fin 5) ((cfgA ch).grid.coords t) = true ∧ ((cfgA ch).win (4 : Fin 5)).flush t = false ∧ (cfgA ch).fresh (4 : Fin 5) t.val = true ∧ sfresh0_0 ch (t.val + 1) = false ∧ sfresh0_1 ch (t.val + 1) = false := by
  intro ch t; rw [freshF0_4 ch t, sfreshS0_0 ch t, sfreshS0_1 ch t]; exact (fun ch t => (allFacts ch t).2.2.2.2.1) ch t

theorem hyps0_B : ∀ (ch : Tab F) (t : Fin (cfgA ch).N), P0_0 ch t → ¬P0_1 ch t → ¬P0_2 ch t →
    (k0_cond1 (crd ch t) (View.readAt (Elt F) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬(k0_cond3 (crd ch t) = 1#1)) ∧ ((¬(k0_cond4 (crd ch t) (View.readAt (Elt F) (tbM0_1).view (Rect.unit (s := S1) ![0] S1.size inb_S1_S1_0).toLoadRect (pinT_1 ch) (Shape.Idx.first (numel1_S1.symm ▸ Nat.one_pos))) = 1#1)) ∧ (True)))) := fun ch t => (allFacts ch t).2.2.2.2.2.1

theorem hypsR0_B : ∀ (ch : Tab F) (t : Fin (cfgA ch).N), P0_0 ch t → ¬P0_1 ch t → ¬P0_2 ch t →
    (k0_cond1 (crd ch t) (View.readAt (Elt F) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬(k0_cond3 (crd ch t) = 1#1)) ∧ ((¬(k0_cond4 (crd ch t) (View.readAt (Elt F) (tbM0_1).view (Rect.unit (s := S1) ![0] S1.size inb_S1_S1_0).toLoadRect (pinT_1 ch) (Shape.Idx.first (numel1_S1.symm ▸ Nat.one_pos))) = 1#1)) ∧ (True)))) := hyps0_B

theorem sched0_B : ∀ (ch : Tab F) (t : Fin (cfgA ch).N), P0_0 ch t → ¬P0_1 ch t → ¬P0_2 ch t →
    (cfgA ch).idle (4 : Fin 5) ((cfgA ch).grid.coords t) = true ∧ ((cfgA ch).win (4 : Fin 5)).flush t = false ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.1) ch t

theorem hyps0_C : ∀ (ch : Tab F) (t : Fin (cfgA ch).N), P0_0 ch t → ¬P0_1 ch t → P0_2 ch t →
    (k0_cond1 (crd ch t) (View.readAt (Elt F) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((k0_cond3 (crd ch t) = 1#1) ∧ ((¬(k0_cond4 (crd ch t) (View.readAt (Elt F) (tbM0_1).view (Rect.unit (s := S1) ![0] S1.size inb_S1_S1_0).toLoadRect (pinT_1 ch) (Shape.Idx.first (numel1_S1.symm ▸ Nat.one_pos))) = 1#1)) ∧ (True)))) := fun ch t => (allFacts ch t).2.2.2.2.2.2.2.1

theorem hypsR0_C : ∀ (ch : Tab F) (t : Fin (cfgA ch).N), P0_0 ch t → ¬P0_1 ch t → P0_2 ch t →
    (k0_cond1 (crd ch t) (View.readAt (Elt F) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((k0_cond3 (crd ch t) = 1#1) ∧ ((¬(k0_cond4 (crd ch t) (View.readAt (Elt F) (tbM0_1).view (Rect.unit (s := S1) ![0] S1.size inb_S1_S1_0).toLoadRect (pinT_1 ch) (Shape.Idx.first (numel1_S1.symm ▸ Nat.one_pos))) = 1#1)) ∧ (True)))) := hyps0_C

theorem sched0_C : ∀ (ch : Tab F) (t : Fin (cfgA ch).N), P0_0 ch t → ¬P0_1 ch t → P0_2 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.2.2.1) ch t

theorem hyps0_D : ∀ (ch : Tab F) (t : Fin (cfgA ch).N), ¬P0_0 ch t → ¬P0_3 ch t →
    (¬(k0_cond1 (crd ch t) (View.readAt (Elt F) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt F) (tbM0_1).view (Rect.unit (s := S1) ![0] S1.size inb_S1_S1_0).toLoadRect (pinT_1 ch) (Shape.Idx.first (numel1_S1.symm ▸ Nat.one_pos))) = 1#1)) ∧ (True)) := fun ch t => (allFacts ch t).2.2.2.2.2.2.2.2.2.1

theorem hypsR0_D : ∀ (ch : Tab F) (t : Fin (cfgA ch).N), ¬P0_0 ch t → ¬P0_3 ch t →
    (¬(k0_cond1 (crd ch t) (View.readAt (Elt F) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt F) (tbM0_1).view (Rect.unit (s := S1) ![0] S1.size inb_S1_S1_0).toLoadRect (pinT_1 ch) (Shape.Idx.first (numel1_S1.symm ▸ Nat.one_pos))) = 1#1)) ∧ (True)) := hyps0_D

theorem sched0_D : ∀ (ch : Tab F) (t : Fin (cfgA ch).N), ¬P0_0 ch t → ¬P0_3 ch t →
    (cfgA ch).idle (4 : Fin 5) ((cfgA ch).grid.coords t) = true ∧ ((cfgA ch).win (4 : Fin 5)).flush t = false ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.2.2.2.2.1) ch t

theorem hyps0_E : ∀ (ch : Tab F) (t : Fin (cfgA ch).N), ¬P0_0 ch t → P0_3 ch t →
    (¬(k0_cond1 (crd ch t) (View.readAt (Elt F) (tbM0_1).view (Rect.unit (s := S1) ![0] S1.size inb_S1_S1_0).toLoadRect (pinT_1 ch) (Shape.Idx.first (numel1_S1.symm ▸ Nat.one_pos))) = 1#1)) ∧ ((k0_cond4 (crd ch t) (View.readAt (Elt F) (tbM0_1).view (Rect.unit (s := S1) ![0] S1.size inb_S1_S1_0).toLoadRect (pinT_1 ch) (Shape.Idx.first (numel1_S1.symm ▸ Nat.one_pos))) = 1#1) ∧ (True)) := fun ch t => (allFacts ch t).2.2.2.2.2.2.2.2.2.2.2.1

theorem hypsR0_E : ∀ (ch : Tab F) (t : Fin (cfgA ch).N), ¬P0_0 ch t → P0_3 ch t →
    (¬(k0_cond1 (crd ch t) (View.readAt (Elt F) (tbM0_1).view (Rect.unit (s := S1) ![0] S1.size inb_S1_S1_0).toLoadRect (pinT_1 ch) (Shape.Idx.first (numel1_S1.symm ▸ Nat.one_pos))) = 1#1)) ∧ ((k0_cond4 (crd ch t) (View.readAt (Elt F) (tbM0_1).view (Rect.unit (s := S1) ![0] S1.size inb_S1_S1_0).toLoadRect (pinT_1 ch) (Shape.Idx.first (numel1_S1.symm ▸ Nat.one_pos))) = 1#1) ∧ (True)) := hyps0_E

theorem sched0_E : ∀ (ch : Tab F) (t : Fin (cfgA ch).N), ¬P0_0 ch t → P0_3 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.2.2.2.2.2.2) ch t

/-- A value to name what a buffer holds before anything is stored in it. -/
local instance start_out : Inhabited (S1024x1024.Idx → Elt F .f32) := ⟨fun _ => (Scalar.ofBits .f32 0x00000000#32 : F .f32)⟩
local instance start_acc (c : Dev nD) : Inhabited (Buf (Elt F) ((c : Thread nD τ).loc cc0_scratch0)) :=
  ⟨fun _ => (Scalar.ofBits .f32 0x00000000#32 : F .f32)⟩
local instance start_x (c : Dev nD) : Inhabited (Buf (Elt F) ((c : Thread nD τ).loc cc0_scratch1)) :=
  ⟨fun _ => (Scalar.ofBits .bf16 0x0000#16 : F .bf16)⟩

def step0 (c : Dev nD) (t : Fin (cfgA ch).N) (prev : (S1024x1024.Idx → Elt F .f32) × Buf (Elt F) ((c : Thread nD τ).loc cc0_scratch0) × Buf (Elt F) ((c : Thread nD τ).loc cc0_scratch1)) : (S1024x1024.Idx → Elt F .f32) × Buf (Elt F) ((c : Thread nD τ).loc cc0_scratch0) × Buf (Elt F) ((c : Thread nD τ).loc cc0_scratch1) :=
  if q0 : P0_0 ch t then
    if q1 : P0_1 ch t then
      ((if (cfgA ch).fresh (4 : Fin 5) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1 (hypsR0_A ch t q0 q1).2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1 (hypsR0_A ch t q0 q1).2.2.2.1).2.1)
    else
      if q2 : P0_2 ch t then
        (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).2.2.1)
      else
        ((if (cfgA ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1 q2).1 (hypsR0_B ch t q0 q1 q2).2.1 (hypsR0_B ch t q0 q1 q2).2.2.1 (hypsR0_B ch t q0 q1 q2).2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1 q2).1 (hypsR0_B ch t q0 q1 q2).2.1 (hypsR0_B ch t q0 q1 q2).2.2.1 (hypsR0_B ch t q0 q1 q2).2.2.2.1).2.1)
  else
    if q1 : P0_3 ch t then
      (out0_E_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_E ch t q0 q1).1 (hypsR0_E ch t q0 q1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_E ch t q0 q1).1 (hypsR0_E ch t q0 q1).2.1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_E ch t q0 q1).1 (hypsR0_E ch t q0 q1).2.1).2.2.1)
    else
      ((if (cfgA ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1).1 (hypsR0_D ch t q0 q1).2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1).1 (hypsR0_D ch t q0 q1).2.1).2.1)

def traj0 (c : Dev nD) : (n : ℕ) → n < (cfgA ch).N → (S1024x1024.Idx → Elt F .f32) × Buf (Elt F) ((c : Thread nD τ).loc cc0_scratch0) × Buf (Elt F) ((c : Thread nD τ).loc cc0_scratch1)
  | 0, h => step0 ch m ρ c ⟨0, h⟩ (default, default, default)
  | n + 1, h => step0 ch m ρ c ⟨n + 1, h⟩ (traj0 c n (Nat.lt_of_succ_lt h))

def prev0 (c : Dev nD) (t : Fin (cfgA ch).N) : (S1024x1024.Idx → Elt F .f32) × Buf (Elt F) ((c : Thread nD τ).loc cc0_scratch0) × Buf (Elt F) ((c : Thread nD τ).loc cc0_scratch1) :=
  if h : t.val = 0 then (default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S1024x1024.Idx → Elt F .f32) × Buf (Elt F) ((c : Thread nD τ).loc cc0_scratch0) × Buf (Elt F) ((c : Thread nD τ).loc cc0_scratch1)) (q0 : P0_0 ch t) (q1 : P0_1 ch t) :
    step0 ch m ρ c t prev = ((if (cfgA ch).fresh (4 : Fin 5) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1 (hypsR0_A ch t q0 q1).2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1 (hypsR0_A ch t q0 q1).2.2.2.1).2.1) := by
  unfold step0; simp only [dif_pos q0, dif_pos q1]

theorem step0_B (c : Dev nD) (t : Fin (cfgA ch).N) (prev : (S1024x1024.Idx → Elt F .f32) × Buf (Elt F) ((c : Thread nD τ).loc cc0_scratch0) × Buf (Elt F) ((c : Thread nD τ).loc cc0_scratch1)) (q0 : P0_0 ch t) (q1 : ¬P0_1 ch t) (q2 : ¬P0_2 ch t) :
    step0 ch m ρ c t prev = ((if (cfgA ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1 q2).1 (hypsR0_B ch t q0 q1 q2).2.1 (hypsR0_B ch t q0 q1 q2).2.2.1 (hypsR0_B ch t q0 q1 q2).2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1 q2).1 (hypsR0_B ch t q0 q1 q2).2.1 (hypsR0_B ch t q0 q1 q2).2.2.1 (hypsR0_B ch t q0 q1 q2).2.2.2.1).2.1) := by
  unfold step0; simp only [dif_pos q0, dif_neg q1, dif_neg q2]

theorem step0_C (c : Dev nD) (t : Fin (cfgA ch).N) (prev : (S1024x1024.Idx → Elt F .f32) × Buf (Elt F) ((c : Thread nD τ).loc cc0_scratch0) × Buf (Elt F) ((c : Thread nD τ).loc cc0_scratch1)) (q0 : P0_0 ch t) (q1 : ¬P0_1 ch t) (q2 : P0_2 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).2.2.1) := by
  unfold step0; simp only [dif_pos q0, dif_neg q1, dif_pos q2]

theorem step0_D (c : Dev nD) (t : Fin (cfgA ch).N) (prev : (S1024x1024.Idx → Elt F .f32) × Buf (Elt F) ((c : Thread nD τ).loc cc0_scratch0) × Buf (Elt F) ((c : Thread nD τ).loc cc0_scratch1)) (q0 : ¬P0_0 ch t) (q1 : ¬P0_3 ch t) :
    step0 ch m ρ c t prev = ((if (cfgA ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1).1 (hypsR0_D ch t q0 q1).2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1).1 (hypsR0_D ch t q0 q1).2.1).2.1) := by
  unfold step0; simp only [dif_neg q0, dif_neg q1]

theorem step0_E (c : Dev nD) (t : Fin (cfgA ch).N) (prev : (S1024x1024.Idx → Elt F .f32) × Buf (Elt F) ((c : Thread nD τ).loc cc0_scratch0) × Buf (Elt F) ((c : Thread nD τ).loc cc0_scratch1)) (q0 : ¬P0_0 ch t) (q1 : P0_3 ch t) :
    step0 ch m ρ c t prev = (out0_E_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_E ch t q0 q1).1 (hypsR0_E ch t q0 q1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_E ch t q0 q1).1 (hypsR0_E ch t q0 q1).2.1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_E ch t q0 q1).1 (hypsR0_E ch t q0 q1).2.1).2.2.1) := by
  unfold step0; simp only [dif_neg q0, dif_pos q1]

def prev0T (c : Dev nD) (t : Fin ((cfgA ch).N + 1)) : (S1024x1024.Idx → Elt F .f32) × Buf (Elt F) ((c : Thread nD τ).loc cc0_scratch0) × Buf (Elt F) ((c : Thread nD τ).loc cc0_scratch1) :=
  if h : t.val = 0 then (default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

def Phi (m : (ℓ : Loc nD τ sig) → Buf (Elt F) ℓ) (ρ : Dev nD → PrngReg) (c : Dev nD) (t : Fin ((cfgA ch).N + 1)) : sProp (MT nD τ sig Unit (Elt F) ℕ (UR sig nD τ) ℕ) :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2⌝ ∗ (scM0_1.view.loc (c : Thread nD τ) ↦{fullShare} a)) ∗ (tbM0_0.view.loc (c : Thread nD τ) ↦{fullShare.right} pinT_0 ch) ∗ (tbM0_1.view.loc (c : Thread nD τ) ↦{fullShare.right} pinT_1 ch))

def dats (_ : Fin 1) (c : Dev nD) : Dat τ (Elt F) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · by_cases q1 : P0_1 ch t
    · rw [step0_A ch m ρ c t _ q0 q1]
      simp only [hf, Bool.false_eq_true, ↓reduceIte]
      unfold prev0; rw [dif_neg ht]
    · by_cases q2 : P0_2 ch t
      · obtain ⟨i4, -, -, -, -, -, -⟩ := sched0_C ch t q0 q1 q2
        rw [i4] at hi; exact absurd hi (by decide)
      · rw [step0_B ch m ρ c t _ q0 q1 q2]
        simp only [hf, Bool.false_eq_true, ↓reduceIte]
        unfold prev0; rw [dif_neg ht]
  · by_cases q1 : P0_3 ch t
    · obtain ⟨i4, -, -, -, -, -, -⟩ := sched0_E ch t q0 q1
      rw [i4] at hi; exact absurd hi (by decide)
    · rw [step0_D ch m ρ c t _ q0 q1]
      simp only [hf, Bool.false_eq_true, ↓reduceIte]
      unfold prev0; rw [dif_neg ht]

theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

abbrev bodyAt0 (t : Fin (cfgA ch).N) : Prog (TpuEff nD τ sig (Elt F) Λ₀ .tc) PUnit :=
  cc0_moe_ffn (crd ch t) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _)

set_option maxHeartbeats 4000000 in
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := F)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i4, f4, fr4, sfn0, sfn1⟩ := sched0_A ch t q0 q1
      have F0 := hypsR0_A ch t q0 q1
      have k0_h1 := F0.1; have F1 := F0.2
      have k0_h2 := F1.1; have F2 := F1.2
      have k0_h3 := F2.1; have F3 := F2.2
      have k0_h4 := F3.1; have F4 := F3.2
      clear F0 F1 F2 F3 F4
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) k0_h1 k0_h2 k0_h3 k0_h4).2.2 _ a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
    · by_cases q2 : P0_2 ch t
      · obtain ⟨i4, f4, fr4, sf0, sfn0, sf1, sfn1⟩ := sched0_C ch t q0 q1 q2
        have F0 := hypsR0_C ch t q0 q1 q2
        have k0_h1 := F0.1; have F1 := F0.2
        have k0_h2 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1 q2]
        unfold Phi; simp only [prev0T_castSucc, prev0T_succ, traj0_eq, step0_C ch m ρ c t _ q0 q1 q2, Fin.val_castSucc, Fin.val_succ]
        simp only [exists_held sf0, exists_held sf1]
        iintro ⟨⟨HS0, HS1, HT0, HT1⟩, Ho, ⟨%d0, H0⟩, ⟨%d1, H1⟩, ⟨%d2, H2⟩, ⟨%d3, H3⟩, ⟨%d4, H4⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ k0_h1 k0_h2 k0_h3 k0_h4).2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iintro ⟨H0, H1, H2, H3, HT0, HT1, ⟨%e4, H4⟩, HS0, HS1⟩
        isplitl [HS0 HS1 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_C_4 c _ _ _ _ _ _ _ _ _ _ _ _ _ _ _ _ _ _ _ _ _ _ _)
      · obtain ⟨i4, f4, fr4, sf0, sfn0, sf1, sfn1⟩ := sched0_B ch t q0 q1 q2
        have F0 := hypsR0_B ch t q0 q1 q2
        have k0_h1 := F0.1; have F1 := F0.2
        have k0_h2 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_B ch m ρ c t _ q0 q1 q2]
        unfold Phi; simp only [prev0T_castSucc, prev0T_succ, traj0_eq, step0_B ch m ρ c t _ q0 q1 q2, Fin.val_castSucc, Fin.val_succ]
        simp only [exists_held sf0, exists_held sf1]
        iintro ⟨⟨HS0, HS1, HT0, HT1⟩, Ho, ⟨%d0, H0⟩, ⟨%d1, H1⟩, ⟨%d2, H2⟩, ⟨%d3, H3⟩, ⟨%d4, H4⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ k0_h1 k0_h2 k0_h3 k0_h4).2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        isplitl [HS1]; · iexact HS1
        iintro ⟨H0, H1, H2, H3, HT0, HT1, H4, HS0, HS1⟩
        isplitl [HS0 HS1 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
  · by_cases q1 : P0_3 ch t
    · obtain ⟨i4, f4, fr4, sf0, sfn0, sf1, sfn1⟩ := sched0_E ch t q0 q1
      have F0 := hypsR0_E ch t q0 q1
      have k0_h1 := F0.1; have F1 := F0.2
      have k0_h4 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_E ch m ρ c t _ q0 q1]
      unfold Phi; simp only [prev0T_castSucc, prev0T_succ, traj0_eq, step0_E ch m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩, ⟨%d4, H4⟩⟩
      iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ k0_h1 k0_h4).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_E_4 c _ _ _ _ _ _ _ _ _ _ _ _ _ _ _ _ _ _ _ _ _)
    · obtain ⟨i4, f4, fr4, sf0, sfn0, sf1, sfn1⟩ := sched0_D ch t q0 q1
      have F0 := hypsR0_D ch t q0 q1
      have k0_h1 := F0.1; have F1 := F0.2
      have k0_h4 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩, ⟨%d4, H4⟩⟩
      iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ k0_h1 k0_h4).2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

theorem body_obligation (hp : Pinned ch m) (c : Dev nD) : BodyObligation (dats ch m ρ 0 c) (defs₀ (F := F)) Variants.none () Set.univ := fun t => by
  rw [bigSep_W0]
  exact sound_body ch m ρ hp c t

def u₀ : UR sig nD τ :=
  initOf (Pipeline.cells (pcs ch) ((launch0 (F := F)).cellOf_inj fun _ => adm ch))
    (Pipeline.launchToks (pcs ch) ((launch0 (F := F)).cellOf_inj fun _ => adm ch))

theorem share_eq (c : Dev nD) (w : Fin (cfgA ch).W) : (dats ch m ρ 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MT nD τ sig Unit (Elt F) ℕ (UR sig nD τ) ℕ))
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HT0]
  · iexact HT0
  iexact HT1

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

def QC : PUnit × MemSt nD τ sig (Elt F) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
theorem run_main_quiescent (hp : Pinned ch m) : θ_run (defs (F := F)) (onTc (τ := τ) (main (F := F))) (s₀ m ρ) (fun r => QC ch m ρ r ∧ r.2.sem = fun _ => 0) :=
  Pipeline.θ_run_region_noSem_pf_quiescent pcfgs (fun _ => adm ch) (dats ch m ρ) () ((launch0 (F := F)).cellOf_inj fun _ => adm ch) (0 : Fin 1)
    (launch0 (F := F)).win.to₀ (launch0 (F := F)).pre EP defs₀ Variants.none m ρ main
    (hbody := fun c => (body_obligation ch m ρ hp c).loose) (hne := (launch0 (F := F)).block_pos)
    (harr := (launch0 (F := F)).arr_whole) (hstage := (launch0 (F := F)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := F)).win.arr_inj c (launch0 (F := F)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned ch m) : θ_run (defs (F := F)) (onTc (τ := τ) (main (F := F))) (s₀ m ρ) (QC ch m ρ) :=
  (θ_run defs _ _).mono (fun _ h => h.1) (run_main_quiescent ch m ρ hp)

theorem unchanged (hp : Pinned ch m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats ch m ρ 0 c).arrAt_in (0 : Fin 5) rfl _), ((h c).2 0).trans (hp.1 c).symm, ((h c).2 1).trans (hp.2 c).symm, ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

theorem frame (hp : Pinned ch m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.MoeIdeal.Tables

end
-- ==== Proof.MoePin.lean ====
module

public import proofs.«01_k».proof.Defs
public import proofs.«01_k».proof.Proof.Gen.Moe
public import proofs.«01_k».proof.Proof.Gen.Pre_plan_in_range
public import proofs.«01_k».proof.Proof.MoeRun
public import Idealize.ShloMosaic.Lib.Pointwise
public import Idealize.ShloMosaic.Lib.WordCmp

@[expose] public section

set_option maxRecDepth 16384

noncomputable section

/-! The precondition of the mixture call names its tables; the call runs under it. -/

namespace Cert.MoeProof

open Idealize.ShloMosaic Idealize.ShloMosaic.TcCoe Idealize.SL.Sem
open Cert.MoeIdeal Cert.MoeIdeal.Gen Cert.MoeIdeal.Tables

theorem andi_one (a b : BitVec 1) : IntOp.andi a b = 1#1 ↔ a = 1#1 ∧ b = 1#1 := by
  revert a b; decide +kernel

/-- An `and` over all the entries is one only where each entry is. -/
theorem foldl_and (n : ℕ) (f : Fin n → BitVec 1) (b : BitVec 1)
    (h : (List.finRange n).foldl (fun a i => IntOp.andi a (f i)) b = 1#1) : b = 1#1 ∧ ∀ i, f i = 1#1 := by
  have key : ∀ (l : List (Fin n)) (b : BitVec 1), l.foldl (fun a i => IntOp.andi a (f i)) b = 1#1 → b = 1#1 ∧ ∀ i ∈ l, f i = 1#1 := by
    intro l
    induction l with
    | nil => exact fun b h => ⟨h, by simp⟩
    | cons x l ih =>
      intro b h
      obtain ⟨h1, h2⟩ := ih _ h
      obtain ⟨h3, h4⟩ := (andi_one _ _).mp h1
      refine ⟨h3, fun i hi => ?_⟩
      rcases List.mem_cons.mp hi with rfl | hi
      · exact h4
      · exact h2 i hi
  exact ⟨(key _ b h).1, fun i => (key _ b h).2 i (List.mem_finRange i)⟩

section
variable {F : FTy → Type} [FloatOps F]

/-- What the precondition says of the two tables. -/
theorem fn_iff (x0 : FVec F S40960x1024 .f32) (x1 : IVec S40 32) (x2 : IVec S1 32) (x3 x4 : FVec F S8x1024x3584 .f32)
    (x5 : FVec F S8x3584x1024 .f32) (h : Cert.Pre_plan_in_range.fn x0 x1 x2 x3 x4 x5 = fun _ => 1#1) :
    (∀ i : Fin 40, (x1 (ix1 i)).toNat < 8) ∧ 1 ≤ (x2 (ix1 0)).toNat ∧ (x2 (ix1 0)).toNat ≤ 40 := by
  obtain ⟨e1, e2⟩ := (andi_one _ _).mp (congrFun h (fun a => a.elim0))
  have k1 := (foldl_and _ _ _ e1).2
  have k2 := (foldl_and _ _ _ e2).2
  have r1 : ∀ w : BitVec 32, IntOp.andi (IntOp.cmpi .sge w 0#32) (IntOp.cmpi .slt w 8#32) = 1#1 → w.toNat < 8 := by
    intro w hw
    obtain ⟨a, b⟩ := (andi_one _ _).mp hw
    simp only [IntOp.cmpi, WordCmp.ofBool_eq_one_iff, BitVec.sle, BitVec.slt, decide_eq_true_eq, BitVec.toInt, BitVec.toNat_ofNat] at a b
    omega
  have r2 : ∀ w : BitVec 32, IntOp.andi (IntOp.cmpi .sge w 1#32) (IntOp.cmpi .sle w 40#32) = 1#1 → 1 ≤ w.toNat ∧ w.toNat ≤ 40 := by
    intro w hw
    obtain ⟨a, b⟩ := (andi_one _ _).mp hw
    simp only [IntOp.cmpi, WordCmp.ofBool_eq_one_iff, BitVec.sle, BitVec.slt, decide_eq_true_eq, BitVec.toInt, BitVec.toNat_ofNat] at a b
    omega
  refine ⟨fun i => r1 _ ?_, r2 _ ?_⟩
  · have h := k1 (Cert.Pre_plan_in_range.S40.rowMajor (ix1 i))
    rw [Equiv.symm_apply_apply] at h
    exact h
  · have h := k2 (Cert.Pre_plan_in_range.S1.rowMajor (ix1 0))
    rw [Equiv.symm_apply_apply] at h
    exact h

/-- The precondition names a table. -/
theorem tab_of_pre (x0 : FVec F S40960x1024 .f32) (x1 : IVec S40 32) (x2 : IVec S1 32) (x3 x4 : FVec F S8x1024x3584 .f32)
    (x5 : FVec F S8x3584x1024 .f32) (h : Cert.Pre_plan_in_range.fn x0 x1 x2 x3 x4 x5 = fun _ => 1#1) :
    ∃ ch : Tab F, x1 = pinT_0 ch ∧ x2 = pinT_1 ch := by
  obtain ⟨h1, h2, h3⟩ := fn_iff x0 x1 x2 x3 x4 x5 h
  refine ⟨⟨⟨(x2 (ix1 0)).toNat - 1, by omega⟩, fun i => ⟨(x1 (ix1 i)).toNat, h1 i⟩⟩, ?_, ?_⟩
  · funext y
    obtain ⟨i, rfl⟩ : ∃ i, y = ix1 i := ⟨y 0, eq_ix1 y⟩
    show x1 (ix1 i) = BitVec.ofNat 32 (x1 (ix1 i)).toNat
    simp
  · funext y
    have hy : y = ix1 0 := by revert y; decide +kernel
    subst hy
    show x2 (ix1 0) = BitVec.ofNat 32 ((x2 (ix1 0)).toNat - 1 + 1)
    rw [Nat.sub_add_cancel h2]
    simp

theorem pinned_of_pre (m : (ℓ : Loc nD τ sig) → Buf (Elt F) ℓ)
    (h : ∀ c : Dev nD, Cert.Pre_plan_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : ∃ ch : Tab F, Pinned ch m := by
  obtain ⟨ch, h1, h2⟩ := tab_of_pre _ _ _ _ _ _ (h 0)
  have hc : ∀ c : Dev nD, c = 0 := fun c => Subsingleton.elim _ _
  exact ⟨ch, fun c => by obtain rfl := hc c; exact h1, fun c => by obtain rfl := hc c; exact h2⟩
end

theorem frame_ideal : Cert.quiescent_MoeIdeal := fun m ρ h =>
  (pinned_of_pre m h).elim fun ch hp => Cert.MoeIdeal.Tables.frame ch m ρ hp

/-- Both prints of the call have the same text, so their runs are the same. -/
theorem same_run (m : (ℓ : Loc Cert.Moe.nD Cert.Moe.τ Cert.Moe.sig) → Buf (Elt Bits) ℓ) (ρ : Dev Cert.Moe.nD → PrngReg) :
    (θ_run (Cert.Moe.defs (F := Bits)) (onTc (τ := Cert.Moe.τ) (Cert.Moe.main (F := Bits))) ⟨m, fun _ => 0, ρ⟩ (fun r => (∀ c : Dev Cert.Moe.nD,
r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0))
    = (θ_run (Cert.MoeIdeal.defs (F := Bits)) (onTc (τ := Cert.MoeIdeal.τ) (Cert.MoeIdeal.main (F := Bits))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)) := by
  sl_kernel_rfl

theorem frame_moe : Cert.quiescent_Moe := fun m ρ h =>
  (same_run m ρ).mpr ((pinned_of_pre (F := Bits) m h).elim fun ch hp => Cert.MoeIdeal.Tables.frame (F := Bits) ch m ρ hp)

end Cert.MoeProof

end
-- ==== Proof.MoeRef.lean ====
module

public import proofs.«01_k».proof.Proof.Gen.MoeRefIdeal.Step
public import proofs.«01_k».proof.Proof.DenseMath
public import Idealize.ShloMosaic.Lib.Pointwise
public import Idealize.ShloMosaic.Lib.WordCmp

@[expose] public section

set_option maxRecDepth 16384

noncomputable section

/-! What the mixture reference computes, trip by trip, and its result read at a row and a column. -/

namespace Cert.MoeRefIdeal

open Idealize.ShloMosaic Idealize.ShloMosaic.TcCoe Idealize.SL.Sem
open Cert.MoeRefIdeal.Gen Cert.MoeRefIdeal.Step

/-- What one expert makes of a row, at one column: its hidden units weighted by the down column. -/
def ffn (x : Fin 1024 → EReal) (G U : FVec Ideal S8x1024x3584 .f32) (D : FVec Ideal S8x3584x1024 .f32) (e : Fin 8)
    (k : Fin 1024) : EReal :=
  ∑ f : Fin 3584, DenseMath.unit x (fun i => G (ix3 e i f)) (fun i => U (ix3 e i f)) * D (ix3 e f k)

/-- A row of zeros comes out as zero. -/
theorem ffn_zero (G U : FVec Ideal S8x1024x3584 .f32) (D : FVec Ideal S8x3584x1024 .f32) (e : Fin 8) (k : Fin 1024) :
    ffn (fun _ => 0) G U D e k = 0 := by
  unfold ffn DenseMath.unit
  simp only [zero_mul, Finset.sum_const_zero]

/-- A number below 320, as a signed word. -/
theorem toInt_small (n : ℕ) (h : n < 320) : (BitVec.ofNat 32 n).toInt = (n : ℤ) := WordCmp.toInt_ofNat_of_lt (by omega)

/-- Three start words as three numbers, the last two zero. -/
theorem starts (w z z' : IVec S_ 32) (n : ℕ) (hn : n < 320) (hw : w (Shape.Idx.first h_S_) = BitVec.ofNat 32 n)
    (hz : z (Shape.Idx.first h_S_) = 0#32) (hz' : z' (Shape.Idx.first h_S_) = 0#32) :
    ∀ a : Fin 3, (((![w, z, z'] : Fin 3 → IVec S_ 32)) a (Shape.Idx.first h_S_)).toInt = ((![n, 0, 0] : Fin 3 → ℕ) a : ℤ) := by
  intro a
  fin_cases a
  · exact (congrArg BitVec.toInt hw).trans (toInt_small n hn)
  · exact (congrArg BitVec.toInt hz).trans rfl
  · exact (congrArg BitVec.toInt hz').trans rfl

/-- The block of rows trip `j` reads. -/
theorem rows_at (s : State Ideal) (j : ℕ) (hj : j < 320) (r : Fin 128) (k : Fin 1024) :
    b3 j s (ix2 r k) = s.main_v11_0 (ix3 ⟨j, hj⟩ r k) := by
  have h : b2 j s = extractStridedSlice S1x128x1024 ![j, 0, 0] s.main_v11_0
      ⟨rfl, fun a => by fin_cases a <;> dsimp <;> omega⟩ :=
    WordCmp.dynamicSlice_eq_extract _ _ _ _ _ _ (starts _ _ _ j hj rfl rfl rfl)
  unfold b3
  rw [h]
  pointwise

/-- The expert trip `j` reads: a word below 8 is taken as it is. -/
theorem expert_at (s : State Ideal) (j : ℕ) (hj : j < 320) (e : Fin 8)
    (he : s.main_v11_1 (ix1 ⟨j, hj⟩) = BitVec.ofNat 32 e.val) (y : S_.Idx) : b10 j s y = BitVec.ofNat 32 e.val := by
  have h5 : ∀ y, b5 j s y = BitVec.ofNat 32 e.val := by
    intro y
    have h : b4 j s = extractStridedSlice S1 ![j] s.main_v11_1 ⟨rfl, fun a => by fin_cases a; dsimp; omega⟩ :=
      WordCmp.dynamicSlice_eq_extract _ _ _ _ _ _ (fun a => by fin_cases a; exact toInt_small j hj)
    rw [← he]
    unfold b5
    rw [h]
    pointwise
  unfold b10 b7 b9 b6 b8
  simp only [select, cmpi, addi, constantI, h5]
  clear h5 he
  revert e
  decide +kernel

/-- The gate weights of trip `j`. -/
theorem gate_at (s : State Ideal) (j : ℕ) (e : Fin 8) (he : ∀ y, b10 j s y = BitVec.ofNat 32 e.val) (i : Fin 1024) (f : Fin 3584) :
    b28 j s (ix2 i f) = s.main_v11_2 (ix3 e i f) := by
  have h : b27 j s = extractStridedSlice S1x1024x3584 ![e.val, 0, 0] s.main_v11_2 ⟨rfl, fun a => by fin_cases a <;> dsimp <;> omega⟩ :=
    WordCmp.dynamicSlice_eq_extract _ _ _ _ _ _ (starts _ _ _ e.val (by omega) (he _) rfl rfl)
  unfold b28
  rw [h]
  pointwise

/-- The up weights of trip `j`. -/
theorem up_at (s : State Ideal) (j : ℕ) (e : Fin 8) (he : ∀ y, b10 j s y = BitVec.ofNat 32 e.val) (i : Fin 1024) (f : Fin 3584) :
    b51 j s (ix2 i f) = s.main_v11_3 (ix3 e i f) := by
  have h : b50 j s = extractStridedSlice S1x1024x3584 ![e.val, 0, 0] s.main_v11_3 ⟨rfl, fun a => by fin_cases a <;> dsimp <;> omega⟩ :=
    WordCmp.dynamicSlice_eq_extract _ _ _ _ _ _ (starts _ _ _ e.val (by omega) (he _) rfl rfl)
  unfold b51
  rw [h]
  pointwise

/-- The down weights of trip `j`. -/
theorem down_at (s : State Ideal) (j : ℕ) (e : Fin 8) (he : ∀ y, b10 j s y = BitVec.ofNat 32 e.val) (i : Fin 3584) (f : Fin 1024) :
    b74 j s (ix2 i f) = s.main_v11_4 (ix3 e i f) := by
  have h : b73 j s = extractStridedSlice S1x3584x1024 ![e.val, 0, 0] s.main_v11_4 ⟨rfl, fun a => by fin_cases a <;> dsimp <;> omega⟩ :=
    WordCmp.dynamicSlice_eq_extract _ _ _ _ _ _ (starts _ _ _ e.val (by omega) (he _) rfl rfl)
  unfold b74
  rw [h]
  pointwise

/-- The block trip `j` computes. -/
theorem block_at (s : State Ideal) (j : ℕ) (hj : j < 320) (e : Fin 8)
    (he : s.main_v11_1 (ix1 ⟨j, hj⟩) = BitVec.ofNat 32 e.val) (r : Fin 128) (k : Fin 1024) :
    b87 j s (ix2 r k) = ffn (fun i => s.main_v11_0 (ix3 ⟨j, hj⟩ r i)) s.main_v11_2 s.main_v11_3 s.main_v11_4 e k := by
  have h := expert_at s j hj e he
  unfold b87 b86 b85 b84 b83 b82 b81 b80 b79 b78 b77 b76 b75
  pointwise [rows_at s j hj, gate_at s j e h, up_at s j e h, down_at s j e h, hlo_ix]
  rfl

/-- The stack after trip `j`: block `j` is the trip's, the others are as before. -/
theorem stack_at (s : State Ideal) (j : ℕ) (hj : j < 320) (q : Fin 320) (r : Fin 128) (k : Fin 1024) :
    b91 j s (ix3 q r k) = if q.val = j then b87 j s (ix2 r k) else s.main_v11_6 (ix3 q r k) := by
  have h : b91 j s = updateSlice s.main_v11_6 (b88 j s) ![j, 0, 0] ⟨rfl, fun a => by fin_cases a <;> dsimp <;> omega⟩ :=
    WordCmp.dynamicUpdateSlice_eq_update _ _ _ _ _ _ (starts _ _ _ j hj rfl rfl rfl)
  rw [h]
  unfold b88
  pointwise
  by_cases e : q.val = j
  · rw [dif_pos (by omega), if_pos e]
  · rw [dif_neg (by omega), if_neg e]

/-- The states the trips go through. -/
def it (s : State Ideal) : ℕ → State Ideal
  | 0 => s
  | n + 1 => step n (it s n)

theorem it_const (s : State Ideal) (n : ℕ) : (it s n).main_v11_0 = s.main_v11_0 ∧ (it s n).main_v11_1 = s.main_v11_1
    ∧ (it s n).main_v11_2 = s.main_v11_2 ∧ (it s n).main_v11_3 = s.main_v11_3 ∧ (it s n).main_v11_4 = s.main_v11_4 := by
  induction n with
  | zero => exact ⟨rfl, rfl, rfl, rfl, rfl⟩
  | succ n ih => exact ih

/-- After `n` trips the first `n` blocks of the stack are computed. -/
theorem stacked (s : State Ideal) (E : Fin 320 → Fin 8) (hE : ∀ q, s.main_v11_1 (ix1 q) = BitVec.ofNat 32 (E q).val) (n : ℕ)
    (hn : n ≤ 320) (q : Fin 320) (hq : q.val < n) (r : Fin 128) (k : Fin 1024) :
    (it s n).main_v11_6 (ix3 q r k) = ffn (fun i => s.main_v11_0 (ix3 q r i)) s.main_v11_2 s.main_v11_3 s.main_v11_4 (E q) k := by
  induction n with
  | zero => omega
  | succ n ih =>
    obtain ⟨c0, c1, c2, c3, c4⟩ := it_const s n
    refine (stack_at (it s n) n (by omega) q r k).trans ?_
    by_cases h : q.val = n
    · subst h
      rw [if_pos rfl, block_at (it s q.val) q.val q.isLt (E q) (by rw [c1]; exact hE q), c0, c2, c3, c4]
    · rw [if_neg h]
      exact ih (by omega) (by omega)

/-- The rows of the stack are the rows of the result. -/
theorem result_at (s : State Ideal) (r : Fin 40960) (k : Fin 1024) :
    R_main_v12 s (ix2 r k) = s.main_v11_6 (ix3 ⟨r / 128, by omega⟩ ⟨r % 128, by omega⟩ k) := by
  pointwise [R_main_v12]

section
variable (X : FVec Ideal S40960x1024 .f32) (be : Fin 40 → Fin 8) (nu : Fin 40)

/-- The experts of the reference's blocks: eight to a block of the plan. -/
theorem experts_at (A2 : IVec S1 32) (q : Fin 320) :
    A_main_v6 (F := Ideal) X (fun x => BitVec.ofNat 32 (be (x 0)).val) A2 (ix1 q) = BitVec.ofNat 32 (be ⟨q / 8, by omega⟩).val := by
  unfold A_main_v6 A_main_v5
  pointwise

/-- The rows of the reference's blocks: zero in the blocks not used. -/
theorem masked_at (A1 : IVec S40 32) (q : Fin 320) (r : Fin 128) (k : Fin 1024) :
    A_main_v9 (F := Ideal) X A1 (fun _ => BitVec.ofNat 32 (nu.val + 1)) (ix3 q r k)
      = if q.val / 8 ≤ nu.val then X (ix2 ⟨q * 128 + r, by omega⟩ k) else 0 := by
  unfold A_main_v9 A_main_call0_v1 A_main_v8 A_main_v7 A_main_v4 A_main_v3 A_main_v2 A_main_v1 K_main_call0_v2 K_main_call0_v0 K_main_cst K_main_v0
  pointwise [hlo_ix]
  have h1 := q.isLt
  have h2 := nu.isLt
  rw [WordCmp.cmpi_slt_ofNat (by omega) (by omega)]
  by_cases e : q.val / 8 ≤ nu.val
  · rw [decide_eq_true (by omega : q.val / 8 < nu.val + 1), if_pos e]
    rfl
  · rw [decide_eq_false (by omega : ¬ q.val / 8 < nu.val + 1), if_neg e]
    exact (by pointwise : (constant (F := Ideal) S_ FTy.f32 0#32) ix0 = 0)

/-- The whole layer at a row and a column: the row's block names its expert; a block not used is zero. -/
def layer (G U : FVec Ideal S8x1024x3584 .f32) (D : FVec Ideal S8x3584x1024 .f32) (r : Fin 40960) (k : Fin 1024) : EReal :=
  if r.val / 1024 ≤ nu.val then ffn (fun i => X (ix2 r i)) G U D (be ⟨r / 1024, by omega⟩) k else 0

theorem ref_at (G U : FVec Ideal S8x1024x3584 .f32) (D : FVec Ideal S8x3584x1024 .f32) (r : Fin 40960) (k : Fin 1024) :
    R_main_v12 (it (init G U D X (fun x => BitVec.ofNat 32 (be (x 0)).val) (fun _ => BitVec.ofNat 32 (nu.val + 1))) 320) (ix2 r k)
      = layer X be nu G U D r k := by
  refine (result_at _ r k).trans ((stacked _ (fun q => be ⟨q / 8, by omega⟩) (fun q => experts_at X be (fun _ => BitVec.ofNat 32 (nu.val + 1)) q) 320 (le_refl _)
    ⟨r / 128, by omega⟩ (by show r.val / 128 < 320; omega) _ k).trans ?_)
  have e : (fun i => A_main_v9 (F := Ideal) X (fun x => BitVec.ofNat 32 (be (x 0)).val) (fun _ => BitVec.ofNat 32 (nu.val + 1))
      (ix3 (⟨r / 128, by omega⟩ : Fin 320) (⟨r % 128, by omega⟩ : Fin 128) i)) = if r.val / 1024 ≤ nu.val then fun i => X (ix2 r i) else fun _ => 0 := by
    funext i
    rw [masked_at]
    have h1 : r.val / 128 / 8 = r.val / 1024 := by omega
    have h2 : (⟨r.val / 128 * 128 + r.val % 128, by omega⟩ : Fin 40960) = r := Fin.ext (by show r.val / 128 * 128 + r.val % 128 = r.val; omega)
    simp only [h1, h2]
    split <;> rfl
  have e2 : (⟨r.val / 128 / 8, by omega⟩ : Fin 40) = ⟨r.val / 1024, by omega⟩ := Fin.ext (by show r.val / 128 / 8 = r.val / 1024; omega)
  unfold layer
  show ffn (fun i => A_main_v9 (F := Ideal) X _ _ _) G U D (be ⟨r.val / 128 / 8, _⟩) k = _
  rw [e, e2]
  split
  · rfl
  · exact ffn_zero G U D _ k
end

end Cert.MoeRefIdeal

end
-- ==== Proof.MoeValue.lean ====
module

public import proofs.«01_k».proof.Proof.MoeRun
public import proofs.«01_k».proof.Proof.MoeRef
public import Idealize.ShloMosaic.Lib.WritesUnit
public import Idealize.ShloMosaic.Lib.Pointwise
public import Idealize.ShloMosaic.Lib.Pipeline.ValueKit
public import Idealize.ShloMosaic.Lib.Tactic

@[expose] public section

set_option maxRecDepth 16384

noncomputable section

/-! What the mixture kernel leaves in its result, for every table in range. -/

namespace Cert.MoeIdeal.Tables

open Idealize.ShloMosaic Idealize.ShloMosaic.TcCoe Idealize.SL.Sem
open Cert.MoeIdeal Cert.MoeIdeal.Gen

/-! ## One step of the kernel, read at a row and a column -/

theorem pay1_at (j : S1024x1024.Idx) : k0_pay1 (F := Ideal) j = 0 := by
  pointwise [k0_pay1]

theorem pay2_at (j : S1024x1024.Idx) : k0_pay2 (F := Ideal) j = 0 := by
  pointwise [k0_pay2]

theorem pay3_at (x : FVec Ideal S1024x1024 .f32) (r k : Fin 1024) : k0_pay3 (F := Ideal) x (ix2 r k) = x (ix2 r k) := by
  pointwise [k0_pay3]

/-- One step of the accumulator: the tile's hidden units weighted by their down rows are added. -/
theorem pay4_at (x : FVec Ideal S1024x1024 .bf16) (wg wu : FVec Ideal S1x1024x512 .f32) (acc : FVec Ideal S1024x1024 .f32)
    (wd : FVec Ideal S1x512x1024 .f32) (r k : Fin 1024) :
    k0_pay4 (F := Ideal) x wg wu acc wd (ix2 r k) = acc (ix2 r k) + ∑ l : Fin 512,
      DenseMath.unit (fun i => x (ix2 r i)) (fun i => wg (ix3 0 i l)) (fun i => wu (ix3 0 i l)) * wd (ix3 0 l k) := by
  pointwise [k0_pay4]
  try simp only [zero_sub]
  rfl

variable (ch : Tab Ideal) (m : (ℓ : Loc nD τ sig) → Buf (Elt Ideal) ℓ) (ρ : Dev nD → PrngReg)

/-! ## The arrays and the blocks -/

/-- The sorted rows. -/
abbrev aX (c : Dev nD) : FVec Ideal S40960x1024 .f32 := m ((c : Thread nD τ).loc main_arg0)
/-- The gate weights. -/
abbrev aG (c : Dev nD) : FVec Ideal S8x1024x3584 .f32 := m ((c : Thread nD τ).loc main_arg3)
/-- The up weights. -/
abbrev aU (c : Dev nD) : FVec Ideal S8x1024x3584 .f32 := m ((c : Thread nD τ).loc main_arg4)
/-- The down weights. -/
abbrev aD (c : Dev nD) : FVec Ideal S8x3584x1024 .f32 := m ((c : Thread nD τ).loc main_arg5)

theorem lt_N (t : Fin grid0.N) : t.val < 280 := t.isLt

/-- The block of the plan a point is in. -/
def blkOf (t : Fin grid0.N) : Fin 40 := ⟨t.val / 7, by have := lt_N t; omega⟩
/-- The row of the whole array that row `r` of a point's block is. -/
def row (t : Fin grid0.N) (r : Fin 1024) : Fin 40960 := ⟨t.val / 7 * 1024 + r, by have := lt_N t; omega⟩
/-- The hidden unit that column `l` of a point's tile is. -/
def col (t : Fin grid0.N) (l : Fin 512) : Fin 3584 := ⟨t.val % 7 * 512 + l, by omega⟩

theorem expert_of (t : Fin grid0.N) : expert ch (grid0.coords t) = ch.be (blkOf t) :=
  congrArg ch.be (Fin.ext (coords_div t))

theorem tile_of (t : Fin grid0.N) (hu : t.val / 7 ≤ ch.nu.val) : tile ch (grid0.coords t) = t.val % 7 := by
  unfold tile
  rw [coords_div t, if_pos hu, coords_mod t]

theorem idx0 (t : Fin grid0.N) (hu : t.val / 7 ≤ ch.nu.val) :
    cc0_transform_0 inb_S1_S1_0 numel1_S1 (pfN ch) (grid0.coords t) = ![t.val / 7, 0] := by
  rw [row_eq, coords_div t, min_eq_left hu]

theorem idx1 (t : Fin grid0.N) (hu : t.val / 7 ≤ ch.nu.val) :
    cc0_transform_1 k0_off1_inb numel1_S1 inb_S1_S1_0 (pfN ch) (grid0.coords t) = ![(ch.be (blkOf t)).val, 0, t.val % 7] := by
  rw [up_eq, expert_of, tile_of ch t hu]

theorem idx3 (t : Fin grid0.N) (hu : t.val / 7 ≤ ch.nu.val) :
    cc0_transform_3 k0_off1_inb numel1_S1 inb_S1_S1_0 (pfN ch) (grid0.coords t) = ![(ch.be (blkOf t)).val, t.val % 7, 0] := by
  rw [down_eq, expert_of, tile_of ch t hu]

/-- The rows a point of a used block is handed. -/
theorem rows_at (c : Dev nD) (t : Fin (cfgA ch).N) (hu : t.val / 7 ≤ ch.nu.val) (r k : Fin 1024) :
    (show FVec Ideal S1024x1024 .f32 from iblk ch m ρ c 0 t) (ix2 r k) = aX m c (ix2 (row t r) k) := by
  show aX m c (((((cfgA ch).win 0).rect t).emb (show (((cfgA ch).win 0).xblock (crd ch t)).Idx from ix2 r k))) = _
  refine congrArg (aX m c) (funext fun a => Fin.ext ?_)
  have h := ((cfgA ch).win 0).rect_emb_val t (show (((cfgA ch).win 0).xblock (crd ch t)).Idx from ix2 r k) a
  refine h.trans ?_
  have e : ((cfgA ch).win 0).index t a = (![t.val / 7, 0] : Fin 2 → ℕ) a := congrFun (idx0 ch t hu) a
  rw [e]
  fin_cases a
  · show t.val / 7 * 1024 + (r : ℕ) = _; rfl
  · show 0 * 1024 + (k : ℕ) = (k : ℕ); omega
/-- The gate columns it is handed. -/
theorem gate_at (c : Dev nD) (t : Fin (cfgA ch).N) (hu : t.val / 7 ≤ ch.nu.val) (i : Fin 1024) (l : Fin 512) :
    (show FVec Ideal S1x1024x512 .f32 from iblk ch m ρ c 1 t) (ix3 0 i l) = aG m c (ix3 (ch.be (blkOf t)) i (col t l)) := by
  show aG m c (((((cfgA ch).win 1).rect t).emb (show (((cfgA ch).win 1).xblock (crd ch t)).Idx from ix3 0 i l))) = _
  refine congrArg (aG m c) (funext fun a => Fin.ext ?_)
  have h := ((cfgA ch).win 1).rect_emb_val t (show (((cfgA ch).win 1).xblock (crd ch t)).Idx from ix3 0 i l) a
  refine h.trans ?_
  have e : ((cfgA ch).win 1).index t a = (![(ch.be (blkOf t)).val, 0, t.val % 7] : Fin 3 → ℕ) a := congrFun (idx1 ch t hu) a
  rw [e]
  fin_cases a
  · show (ch.be (blkOf t)).val * 1 + (0 : ℕ) = (ch.be (blkOf t)).val; omega
  · show 0 * 1024 + (i : ℕ) = (i : ℕ); omega
  · show t.val % 7 * 512 + (l : ℕ) = _; rfl
/-- The up columns it is handed. -/
theorem up_at (c : Dev nD) (t : Fin (cfgA ch).N) (hu : t.val / 7 ≤ ch.nu.val) (i : Fin 1024) (l : Fin 512) :
    (show FVec Ideal S1x1024x512 .f32 from iblk ch m ρ c 2 t) (ix3 0 i l) = aU m c (ix3 (ch.be (blkOf t)) i (col t l)) := by
  show aU m c (((((cfgA ch).win 2).rect t).emb (show (((cfgA ch).win 2).xblock (crd ch t)).Idx from ix3 0 i l))) = _
  refine congrArg (aU m c) (funext fun a => Fin.ext ?_)
  have h := ((cfgA ch).win 2).rect_emb_val t (show (((cfgA ch).win 2).xblock (crd ch t)).Idx from ix3 0 i l) a
  refine h.trans ?_
  have e : ((cfgA ch).win 2).index t a = (![(ch.be (blkOf t)).val, 0, t.val % 7] : Fin 3 → ℕ) a := congrFun (idx1 ch t hu) a
  rw [e]
  fin_cases a
  · show (ch.be (blkOf t)).val * 1 + (0 : ℕ) = (ch.be (blkOf t)).val; omega
  · show 0 * 1024 + (i : ℕ) = (i : ℕ); omega
  · show t.val % 7 * 512 + (l : ℕ) = _; rfl
/-- The down rows it is handed. -/
theorem down_at (c : Dev nD) (t : Fin (cfgA ch).N) (hu : t.val / 7 ≤ ch.nu.val) (l : Fin 512) (k : Fin 1024) :
    (show FVec Ideal S1x512x1024 .f32 from iblk ch m ρ c 3 t) (ix3 0 l k) = aD m c (ix3 (ch.be (blkOf t)) (col t l) k) := by
  show aD m c (((((cfgA ch).win 3).rect t).emb (show (((cfgA ch).win 3).xblock (crd ch t)).Idx from ix3 0 l k))) = _
  refine congrArg (aD m c) (funext fun a => Fin.ext ?_)
  have h := ((cfgA ch).win 3).rect_emb_val t (show (((cfgA ch).win 3).xblock (crd ch t)).Idx from ix3 0 l k) a
  refine h.trans ?_
  have e : ((cfgA ch).win 3).index t a = (![(ch.be (blkOf t)).val, t.val % 7, 0] : Fin 3 → ℕ) a := congrFun (idx3 ch t hu) a
  rw [e]
  fin_cases a
  · show (ch.be (blkOf t)).val * 1 + (0 : ℕ) = (ch.be (blkOf t)).val; omega
  · show t.val % 7 * 512 + (l : ℕ) = _; rfl
  · show 0 * 1024 + (k : ℕ) = (k : ℕ); omega

/-! ## The accumulator -/

/-- What hidden unit `j` of the expert of block `b` adds to row `r`, column `k`. -/
def part (c : Dev nD) (b : Fin 40) (r : Fin 40960) (k : Fin 1024) (j : Fin 3584) : EReal :=
  DenseMath.unit (fun i => aX m c (ix2 r i)) (fun i => aG m c (ix3 (ch.be b) i j)) (fun i => aU m c (ix3 (ch.be b) i j))
    * aD m c (ix3 (ch.be b) j k)

/-- The same, with zero for a number that is no hidden unit. -/
def partN (c : Dev nD) (b : Fin 40) (r : Fin 40960) (k : Fin 1024) (j : ℕ) : EReal :=
  if h : j < 3584 then part ch m c b r k ⟨j, h⟩ else 0

theorem partN_lt (c : Dev nD) (b : Fin 40) (r : Fin 40960) (k : Fin 1024) (j : ℕ) (h : j < 3584) :
    partN ch m c b r k j = part ch m c b r k ⟨j, h⟩ := dif_pos h

/-- The kept rows of a used block. -/
def kept (c : Dev nD) (t : Fin grid0.N) : FVec Ideal S1024x1024 .bf16 := fun y => aX m c (ix2 (row t (y 0)) (y 1))

theorem first (c : Dev nD) (t : Fin (cfgA ch).N) (hu : t.val / 7 ≤ ch.nu.val) :
    k0_pay3 (F := Ideal) (iblk ch m ρ c 0 t) = kept m c t := by
  funext y
  obtain ⟨r, k, rfl⟩ : ∃ r k, y = ix2 r k := ⟨y 0, y 1, eq_ix2 y⟩
  exact (pay3_at _ r k).trans (rows_at ch m ρ c t hu r k)

/-- One step of the accumulator, over the kept rows. -/
theorem acc_step (c : Dev nD) (t : Fin (cfgA ch).N) (hu : t.val / 7 ≤ ch.nu.val) (acc : FVec Ideal S1024x1024 .f32) :
    k0_pay4 (F := Ideal) (kept m c t) (iblk ch m ρ c 1 t) (iblk ch m ρ c 2 t) acc (iblk ch m ρ c 3 t)
      = fun y => acc y + ∑ l : Fin 512, partN ch m c (blkOf t) (row t (y 0)) (y 1) (t.val % 7 * 512 + l) := by
  funext y
  obtain ⟨r, k, rfl⟩ : ∃ r k, y = ix2 r k := ⟨y 0, y 1, eq_ix2 y⟩
  refine (pay4_at _ _ _ _ _ r k).trans ?_
  refine congrArg (acc (ix2 r k) + ·) (Finset.sum_congr rfl fun l _ => ?_)
  have hl : t.val % 7 * 512 + (l : ℕ) < 3584 := by omega
  refine Eq.trans ?_ (partN_lt ch m c (blkOf t) (row t r) k _ hl).symm
  refine congrArg₂ (· * ·) ?_ (down_at ch m ρ c t hu l k)
  refine congrArg₂ (DenseMath.unit _) ?_ ?_
  · funext i; exact gate_at ch m ρ c t hu i l
  · funext i; exact up_at ch m ρ c t hu i l

/-- What the accumulator holds after tile `n % 7` of a used block. -/
def sofar (c : Dev nD) (t : Fin grid0.N) : FVec Ideal S1024x1024 .f32 := fun y =>
  ∑ s ∈ Finset.range (t.val % 7 + 1), ∑ l : Fin 512, partN ch m c (blkOf t) (row t (y 0)) (y 1) (s * 512 + l)

theorem read0 (c : Dev nD) (t : Fin (cfgA ch).N) :
    View.read (Elt Ideal) (ms0_0 ch t).view ((ms0_0 ch t).view.rep (iblk ch m ρ c 0 t)) = iblk ch m ρ c 0 t := View.read_rep _ _
theorem read1 (c : Dev nD) (t : Fin (cfgA ch).N) :
    View.read (Elt Ideal) (ms0_1 ch t).view ((ms0_1 ch t).view.rep (iblk ch m ρ c 1 t)) = iblk ch m ρ c 1 t := View.read_rep _ _
theorem read2 (c : Dev nD) (t : Fin (cfgA ch).N) :
    View.read (Elt Ideal) (ms0_2 ch t).view ((ms0_2 ch t).view.rep (iblk ch m ρ c 2 t)) = iblk ch m ρ c 2 t := View.read_rep _ _
theorem read3 (c : Dev nD) (t : Fin (cfgA ch).N) :
    View.read (Elt Ideal) (ms0_3 ch t).view ((ms0_3 ch t).view.rep (iblk ch m ρ c 3 t)) = iblk ch m ρ c 3 t := View.read_rep _ _

/-- A store of a whole block leaves what was stored. -/
theorem store_all {sig : RefSig} {κ : Kind} {sp : Space} {s : Shape} {e : EltTy} {Val : EltTy → Type} (v : View sig κ sp s e)
    (f : v.ty.Contents Val) {off : Fin s.rank → ℕ} (h : ∀ a, off a = 0) (inb : ∀ a, off a + s.size a ≤ s.size a) (w : s.Idx → Val e)
    (L : List (View.Piece Val s e)) : v.read Val (v.writes Val f (⟨Rect.unit off s.size inb, w⟩ :: L)) = w := by
  funext y
  exact View.read_writes_cons_unit_of_mem v f inb w L y y rfl (fun a => by rw [h]; exact (Nat.zero_add _).symm)

theorem stored0 (L : List (View.Piece (Elt Ideal) S1024x1024 .f32)) (p : FVec Ideal S1024x1024 .f32) :
    (View.whole cc0_scratch0).writes (Elt Ideal) (View.whole cc0_scratch0).junk
      (⟨Rect.unit ![0, 0] ![1024, 1024] inb_S1024x1024_S1024x1024_0_0, p⟩ :: L) = p := by
  have h := store_all (Val := Elt Ideal) (View.whole cc0_scratch0) (View.whole cc0_scratch0).junk (off := ![0, 0]) (by decide)
    inb_S1024x1024_S1024x1024_0_0 p L
  rw [View.read_whole] at h
  exact h

theorem stored1 (L : List (View.Piece (Elt Ideal) S1024x1024 .bf16)) (p : FVec Ideal S1024x1024 .bf16) :
    (View.whole cc0_scratch1).writes (Elt Ideal) (View.whole cc0_scratch1).junk
      (⟨Rect.unit ![0, 0] ![1024, 1024] inb_S1024x1024_S1024x1024_0_0, p⟩ :: L) = p := by
  have h := store_all (Val := Elt Ideal) (View.whole cc0_scratch1) (View.whole cc0_scratch1).junk (off := ![0, 0]) (by decide)
    inb_S1024x1024_S1024x1024_0_0 p L
  rw [View.read_whole] at h
  exact h

/-- At the first tile the rows are kept. -/
theorem first_rows (c : Dev nD) (t : Fin (cfgA ch).N) (prev) (hu : t.val / 7 ≤ ch.nu.val) (h0 : t.val % 7 = 0) :
    (step0 ch m ρ c t prev).2.2 = kept m c t := by
  rw [step0_A ch m ρ c t prev ((P0_0_iff ch t).mpr hu) ((P0_1_iff ch t).mpr h0)]
  frame_out
  rw [read0, first ch m ρ c t hu]
  exact stored1 _ _

/-- At the first tile the accumulator starts from zero. -/
theorem first_acc (c : Dev nD) (t : Fin (cfgA ch).N) (prev) (hu : t.val / 7 ≤ ch.nu.val) (h0 : t.val % 7 = 0) :
    (step0 ch m ρ c t prev).2.1 = sofar ch m c t := by
  have h : (step0 ch m ρ c t prev).2.1
      = k0_pay4 (F := Ideal) (kept m c t) (iblk ch m ρ c 1 t) (iblk ch m ρ c 2 t) (k0_pay2 (F := Ideal)) (iblk ch m ρ c 3 t) := by
    rw [step0_A ch m ρ c t prev ((P0_0_iff ch t).mpr hu) ((P0_1_iff ch t).mpr h0)]
    frame_out
    rw [read0, read1, read2, read3, first ch m ρ c t hu]
    exact stored0 _ _
  rw [h, acc_step ch m ρ c t hu]
  refine funext fun (y : S1024x1024.Idx) => ?_
  show k0_pay2 (F := Ideal) y + _ = _
  rw [pay2_at]
  unfold sofar
  simp only [h0, zero_add, Finset.sum_range_one]

/-- At a later tile the kept rows stay and the accumulator takes a step. -/
theorem at_later (c : Dev nD) (t : Fin (cfgA ch).N) (prev) (hu : t.val / 7 ≤ ch.nu.val) (h0 : ¬t.val % 7 = 0)
    (hx : prev.2.2 = kept m c t) :
    (step0 ch m ρ c t prev).2.2 = kept m c t ∧ (step0 ch m ρ c t prev).2.1
      = k0_pay4 (F := Ideal) (kept m c t) (iblk ch m ρ c 1 t) (iblk ch m ρ c 2 t) prev.2.1 (iblk ch m ρ c 3 t) := by
  have q0 := (P0_0_iff ch t).mpr hu
  have q1 : ¬P0_1 ch t := fun h => h0 ((P0_1_iff ch t).mp h)
  have hr0 : View.read (Elt Ideal) (View.whole cc0_scratch0) prev.2.1 = prev.2.1 := rfl
  have hr1 : View.read (Elt Ideal) (View.whole cc0_scratch1) prev.2.2 = kept m c t := hx
  by_cases q2 : P0_2 ch t
  · rw [step0_C ch m ρ c t prev q0 q1 q2]
    refine ⟨hx, ?_⟩
    frame_out
    rw [read1, read2, read3, hr0, hr1]
    exact stored0 _ _
  · rw [step0_B ch m ρ c t prev q0 q1 q2]
    refine ⟨hx, ?_⟩
    frame_out
    rw [read1, read2, read3, hr0, hr1]
    exact stored0 _ _

/-- The last tile of a used block writes the accumulator back. -/
theorem at_last (c : Dev nD) (t : Fin (cfgA ch).N) (prev) (hu : t.val / 7 ≤ ch.nu.val) (h6 : t.val % 7 = 6) :
    (step0 ch m ρ c t prev).1 = (step0 ch m ρ c t prev).2.1 := by
  have q1 : ¬P0_1 ch t := fun h => by have := (P0_1_iff ch t).mp h; omega
  rw [step0_C ch m ρ c t prev ((P0_0_iff ch t).mpr hu) q1 ((P0_2_iff ch t).mpr h6)]
  frame_out
  exact (stored0 _ _).symm

/-- A block not used is written back as zeros. -/
theorem at_unused (c : Dev nD) (t : Fin (cfgA ch).N) (prev) (hu : ¬t.val / 7 ≤ ch.nu.val) (h6 : t.val % 7 = 6) (y : S1024x1024.Idx) :
    (step0 ch m ρ c t prev).1 y = 0 := by
  rw [step0_E ch m ρ c t prev (fun h => hu ((P0_0_iff ch t).mp h)) ((P0_3_iff ch t).mpr ⟨hu, h6⟩)]
  frame_out
  exact pay1_at y

/-- The scratch after a point of a used block: the block's rows, and the hidden units summed so far. -/
theorem scratch (c : Dev nD) : ∀ (n : ℕ) (hn : n < (cfgA ch).N), n / 7 ≤ ch.nu.val →
    (traj0 ch m ρ c n hn).2.2 = kept m c ⟨n, hn⟩ ∧ (traj0 ch m ρ c n hn).2.1 = sofar ch m c ⟨n, hn⟩ := by
  intro n
  induction n with
  | zero => exact fun hn hu => ⟨first_rows ch m ρ c ⟨0, hn⟩ _ hu rfl, first_acc ch m ρ c ⟨0, hn⟩ _ hu rfl⟩
  | succ n ih =>
    intro hn hu
    by_cases h0 : (n + 1) % 7 = 0
    · exact ⟨first_rows ch m ρ c ⟨n + 1, hn⟩ _ hu h0, first_acc ch m ρ c ⟨n + 1, hn⟩ _ hu h0⟩
    · have hp : n < (cfgA ch).N := Nat.lt_of_succ_lt hn
      have hu' : n / 7 ≤ ch.nu.val := by omega
      obtain ⟨i1, i2⟩ := ih hp hu'
      have er : ∀ r, row ⟨n, hp⟩ r = row ⟨n + 1, hn⟩ r := fun r => Fin.ext (by show n / 7 * 1024 + r.val = (n + 1) / 7 * 1024 + r.val; omega)
      have eb : blkOf ⟨n, hp⟩ = blkOf ⟨n + 1, hn⟩ := Fin.ext (by show n / 7 = (n + 1) / 7; omega)
      have ek : kept m c ⟨n, hp⟩ = kept m c ⟨n + 1, hn⟩ := by unfold kept; funext y; exact congrArg (fun z => aX m c (ix2 z (y 1))) (er (y 0))
      obtain ⟨j1, j2⟩ := at_later ch m ρ c ⟨n + 1, hn⟩ (traj0 ch m ρ c n hp) hu h0 (i1.trans ek)
      refine ⟨j1, j2.trans ?_⟩
      rw [i2, acc_step ch m ρ c ⟨n + 1, hn⟩ hu]
      refine funext fun (y : S1024x1024.Idx) => ?_
      have em : (n + 1) % 7 = n % 7 + 1 := by omega
      show (∑ s ∈ Finset.range (n % 7 + 1), ∑ l : Fin 512, partN ch m c (blkOf ⟨n, hp⟩) (row ⟨n, hp⟩ (y 0)) (y 1) (s * 512 + l))
        + (∑ l : Fin 512, partN ch m c (blkOf ⟨n + 1, hn⟩) (row ⟨n + 1, hn⟩ (y 0)) (y 1) ((n + 1) % 7 * 512 + l))
        = ∑ s ∈ Finset.range ((n + 1) % 7 + 1), ∑ l : Fin 512, partN ch m c (blkOf ⟨n + 1, hn⟩) (row ⟨n + 1, hn⟩ (y 0)) (y 1) (s * 512 + l)
      rw [eb, show row ⟨n, hp⟩ (y 0) = row ⟨n + 1, hn⟩ (y 0) from er (y 0), em]
      exact (Finset.sum_range_succ _ _).symm

/-- All seven tiles together are the sum over the hidden units. -/
theorem sum_parts (c : Dev nD) (b : Fin 40) (r : Fin 40960) (k : Fin 1024) :
    ∑ s ∈ Finset.range 7, ∑ l : Fin 512, partN ch m c b r k (s * 512 + l) = ∑ j : Fin 3584, part ch m c b r k j := by
  rw [Finset.sum_range, Fin.sum_univ_tiles 7 512 rfl (part ch m c b r k)]
  refine Finset.sum_congr rfl fun s _ => Finset.sum_congr rfl fun l _ => ?_
  have h : (s : ℕ) * 512 + (l : ℕ) < 3584 := by omega
  exact partN_lt ch m c b r k _ h

/-- What the last point of a block writes back: the reference's rows. -/
theorem point (c : Dev nD) (t : Fin (cfgA ch).N) (h6 : t.val % 7 = 6) (r k : Fin 1024) :
    (traj0 ch m ρ c t.val t.isLt).1 (ix2 r k)
      = MoeRefIdeal.layer (aX m c) ch.be ch.nu (aG m c) (aU m c) (aD m c) (row t r) k := by
  have hN := lt_N t
  have eb : (row t r).val / 1024 = t.val / 7 := by show (t.val / 7 * 1024 + r.val) / 1024 = t.val / 7; omega
  have eb' : (⟨(row t r).val / 1024, by omega⟩ : Fin 40) = blkOf t := Fin.ext eb
  unfold MoeRefIdeal.layer
  rw [eb', eb]
  by_cases hu : t.val / 7 ≤ ch.nu.val
  · rw [if_pos hu]
    have hs := congrFun (scratch ch m ρ c t.val t.isLt hu).2 (ix2 r k)
    rw [traj0_eq] at hs ⊢
    refine (congrFun (at_last ch m ρ c t _ hu h6) (ix2 r k)).trans (hs.trans ?_)
    unfold sofar
    simp only [h6]
    exact sum_parts ch m c (blkOf t) (row t r) k
  · rw [if_neg hu, traj0_eq]
    exact at_unused ch m ρ c t _ hu h6 _

theorem idx4 (t : Fin grid0.N) : cc0_transform_4 (grid0.coords t) = ![t.val / 7, 0] := by
  revert t
  decide +kernel

/-- The blocks written back cover the result. -/
theorem covers : ((cfgA ch).win (4 : Fin 5)).Covers := by
  refine ⟨fun a => ?_, fun β => ?_⟩
  · fin_cases a
    · show 0 < 1024; omega
    · show 0 < 1024; omega
  · have h0 : (β (0 : Fin 2)).val < 40 := lt_of_lt_of_eq (β (0 : Fin 2)).isLt (by decide : (40960 + 1024 - 1) / 1024 = 40)
    have h1 : (β (1 : Fin 2)).val < 1 := lt_of_lt_of_eq (β (1 : Fin 2)).isLt (by decide : (1024 + 1024 - 1) / 1024 = 1)
    have ht : (β (0 : Fin 2)).val * 7 + 6 < grid0.N := by show _ < 280; omega
    refine ⟨⟨(β (0 : Fin 2)).val * 7 + 6, ht⟩, ?_, fun a => ⟨?_, Or.inl ?_⟩⟩
    · refine (flush_4 ch ⟨_, ht⟩).trans (decide_eq_true ?_)
      show ((β (0 : Fin 2)).val * 7 + 6) % 7 = 6
      omega
    · refine (congrFun (idx4 ⟨_, ht⟩) a).trans ?_
      fin_cases a
      · show ((β (0 : Fin 2)).val * 7 + 6) / 7 = (β (0 : Fin 2)).val
        omega
      · show 0 = (β (1 : Fin 2)).val
        omega
    · fin_cases a <;> rfl

/-- The result array is the reference's. -/
theorem final (c : Dev nD) : (dats ch m ρ 0 c).arrAt (4 : Fin 5) (cfgA ch).N
    = fun y : S40960x1024.Idx => MoeRefIdeal.layer (aX m c) ch.be ch.nu (aG m c) (aU m c) (aD m c) (y 0) (y 1) := by
  refine (dats ch m ρ 0 c).arrAt_eq_of_covers (4 : Fin 5) _ (covers ch) fun t hf y => ?_
  · obtain ⟨r, k, rfl⟩ : ∃ r k, y = ix2 r k := ⟨y 0, y 1, eq_ix2 y⟩
    have h6 : t.val % 7 = 6 := of_decide_eq_true ((flush_4 ch t).symm.trans hf)
    refine (point ch m ρ c t h6 r k).trans ?_
    have h0 : ((((cfgA ch).win (4 : Fin 5)).rect t).emb (show (((cfgA ch).win (4 : Fin 5)).xblock (crd ch t)).Idx from ix2 r k)) = ix2 (row t r) k := by
      funext a
      refine Fin.ext ((((cfgA ch).win (4 : Fin 5)).rect_emb_val t _ a).trans ?_)
      have e : ((cfgA ch).win (4 : Fin 5)).index t a = (![t.val / 7, 0] : Fin 2 → ℕ) a := congrFun (idx4 t) a
      rw [e]
      fin_cases a
      · rfl
      · show 0 * 1024 + (k : ℕ) = (k : ℕ)
        omega
    exact (congrArg (fun y : S40960x1024.Idx => MoeRefIdeal.layer (aX m c) ch.be ch.nu (aG m c) (aU m c) (aD m c) (y 0) (y 1)) h0).symm

end Cert.MoeIdeal.Tables

end
-- ==== Proof.MoeStep.lean ====
/- The reference's loop as a step iterated: at a valuation that holds a state every value of one trip is the step's, so one
   trip keeps holding with the step applied. Taken from the generated text, with the last field's equation proved directly. -/
module

public import proofs.«01_k».proof.Proof.Gen.MoeRefIdeal.Run
public import proofs.«01_k».proof.Proof.Gen.MoeRefIdeal.Step

@[expose] public section

noncomputable section

namespace Cert.MoeRefIdeal.StepRun

open Idealize.ShloMosaic Idealize.ShloMosaic.TcCoe Idealize.SL.Sem Idealize.ShloMosaic.StableHlo
open Cert.MoeRefIdeal Cert.MoeRefIdeal.Gen Cert.MoeRefIdeal.Value
open Cert.MoeRefIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v11_6) = s.main_v11_6
  f_0 : V0 (Proc.devRef .tc main_v11_0) = s.main_v11_0
  f_1 : V0 (Proc.devRef .tc main_v11_1) = s.main_v11_1
  f_2 : V0 (Proc.devRef .tc main_v11_2) = s.main_v11_2
  f_3 : V0 (Proc.devRef .tc main_v11_3) = s.main_v11_3
  f_4 : V0 (Proc.devRef .tc main_v11_4) = s.main_v11_4
  n_5 : V0 (Proc.devRef .tc main_v11_5) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.MoeRefIdeal.Step.b0 j s := by
  unfold Cert.MoeRefIdeal.Step.b0
  rfl
set_option maxRecDepth 8192 in
theorem al_1 (h : Holds V0 s j) : (constantI S_ 32 0#32 : (Proc.devRef .tc main_while0b_call1_c_0 : DevRef τ sig).ty.Contents (Elt F)) = Cert.MoeRefIdeal.Step.b1 j s := by
  unfold Cert.MoeRefIdeal.Step.b1
  rfl
set_option maxRecDepth 8192 in
theorem al_2 (h : Holds V0 s j) : (Host.dynamicSlice S1x128x1024 (V0 (Proc.devRef .tc main_v11_0)) (fun k => (((![V0 (Proc.devRef .tc main_v11_5), constantI S_ 32 0#32, constantI S_ 32 0#32] : Fin 3 → (⟨S_, .i32⟩ : BufTy).Contents (Elt F))) k (Shape.Idx.first h_S_)).toInt) sliceFits_S320x128x1024_S1x128x1024 : (Proc.devRef .tc main_while0b_call1_v0 : DevRef τ sig).ty.Contents (Elt F)) = Cert.MoeRefIdeal.Step.b2 j s := by
  unfold Cert.MoeRefIdeal.Step.b2
  rw [← al_0 h, ← al_1 h, h.f_0, h.n_5]
  try rfl
set_option maxRecDepth 8192 in
theorem al_3 (h : Holds V0 s j) : (res_main_while0b_v13 V0 : (Proc.devRef .tc main_while0b_v13 : DevRef τ sig).ty.Contents (Elt F)) = Cert.MoeRefIdeal.Step.b3 j s := by
  unfold res_main_while0b_v13 Cert.MoeRefIdeal.Step.b3
  rw [← al_2 h]
  try rfl
set_option maxRecDepth 8192 in
theorem al_4 (h : Holds V0 s j) : (Host.dynamicSlice S1 (V0 (Proc.devRef .tc main_v11_1)) (fun k => (((![V0 (Proc.devRef .tc main_v11_5)] : Fin 1 → (⟨S_, .i32⟩ : BufTy).Contents (Elt F))) k (Shape.Idx.first h_S_)).toInt) sliceFits_S320_S1 : (Proc.devRef .tc main_while0b_call2_v0 : DevRef τ sig).ty.Contents (Elt F)) = Cert.MoeRefIdeal.Step.b4 j s := by
  unfold Cert.MoeRefIdeal.Step.b4
  rw [h.f_1, h.n_5]
  try rfl
set_option maxRecDepth 8192 in
theorem al_5 (h : Holds V0 s j) : (res_main_while0b_v14 V0 : (Proc.devRef .tc main_while0b_v14 : DevRef τ sig).ty.Contents (Elt F)) = Cert.MoeRefIdeal.Step.b5 j s := by
  unfold res_main_while0b_v14 Cert.MoeRefIdeal.Step.b5
  rw [← al_4 h]
  try rfl
set_option maxRecDepth 8192 in
theorem al_6 (h : Holds V0 s j) : (constantI S_ 32 0#32 : (Proc.devRef .tc main_while0b_c_7 : DevRef τ sig).ty.Contents (Elt F)) = Cert.MoeRefIdeal.Step.b6 j s := by
  unfold Cert.MoeRefIdeal.Step.b6
  rfl
set_option maxRecDepth 8192 in
theorem al_7 (h : Holds V0 s j) : (cmpi .slt (res_main_while0b_v14 V0) (constantI S_ 32 0#32) : (Proc.devRef .tc main_while0b_v15 : DevRef τ sig).ty.Contents (Elt F)) = Cert.MoeRefIdeal.Step.b7 j s := by
  unfold Cert.MoeRefIdeal.Step.b7
  rw [← al_5 h, ← al_6 h]
  try rfl
set_option maxRecDepth 8192 in
theorem al_8 (h : Holds V0 s j) : (constantI S_ 32 8#32 : (Proc.devRef .tc main_while0b_c_8 : DevRef τ sig).ty.Contents (Elt F)) = Cert.MoeRefIdeal.Step.b8 j s := by
  unfold Cert.MoeRefIdeal.Step.b8
  rfl
set_option maxRecDepth 8192 in
theorem al_9 (h : Holds V0 s j) : (addi (res_main_while0b_v14 V0) (constantI S_ 32 8#32) : (Proc.devRef .tc main_while0b_v16 : DevRef τ sig).ty.Contents (Elt F)) = Cert.MoeRefIdeal.Step.b9 j s := by
  unfold Cert.MoeRefIdeal.Step.b9
  rw [← al_5 h, ← al_8 h]
  try rfl
set_option maxRecDepth 8192 in
theorem al_10 (h : Holds V0 s j) : (select (cmpi .slt (res_main_while0b_v14 V0) (constantI S_ 32 0#32)) (addi (res_main_while0b_v14 V0) (constantI S_ 32 8#32)) (res_main_while0b_v14 V0) : (Proc.devRef .tc main_while0b_v17 : DevRef τ sig).ty.Contents (Elt F)) = Cert.MoeRefIdeal.Step.b10 j s := by
  unfold Cert.MoeRefIdeal.Step.b10
  rw [← al_7 h, ← al_9 h, ← al_5 h]
  try rfl
set_option maxRecDepth 8192 in
theorem al_11 (h : Holds V0 s j) : (constantI S_ 32 0#32 : (Proc.devRef .tc main_while0b_c_9 : DevRef τ sig).ty.Contents (Elt F)) = Cert.MoeRefIdeal.Step.b11 j s := by
  unfold Cert.MoeRefIdeal.Step.b11
  rfl
set_option maxRecDepth 8192 in
theorem al_12 (h : Holds V0 s j) : (constantI S_ 32 0#32 : (Proc.devRef .tc main_while0b_c_10 : DevRef τ sig).ty.Contents (Elt F)) = Cert.MoeRefIdeal.Step.b12 j s := by
  unfold Cert.MoeRefIdeal.Step.b12
  rfl
set_option maxRecDepth 8192 in
theorem al_13 (h : Holds V0 s j) : (cmpi .slt (constantI S_ 32 0#32) (constantI S_ 32 0#32) : (Proc.devRef .tc main_while0b_v18 : DevRef τ sig).ty.Contents (Elt F)) = Cert.MoeRefIdeal.Step.b13 j s := by
  unfold Cert.MoeRefIdeal.Step.b13
  rw [← al_11 h, ← al_12 h]
  try rfl
set_option maxRecDepth 8192 in
theorem al_14 (h : Holds V0 s j) : (constantI S_ 32 0#32 : (Proc.devRef .tc main_while0b_c_11 : DevRef τ sig).ty.Contents (Elt F)) = Cert.MoeRefIdeal.Step.b14 j s := by
  unfold Cert.MoeRefIdeal.Step.b14
  rfl
set_option maxRecDepth 8192 in
theorem al_15 (h : Holds V0 s j) : (constantI S_ 32 1024#32 : (Proc.devRef .tc main_while0b_c_12 : DevRef τ sig).ty.Contents (Elt F)) = Cert.MoeRefIdeal.Step.b15 j s := by
  unfold Cert.MoeRefIdeal.Step.b15
  rfl
set_option maxRecDepth 8192 in
theorem al_16 (h : Holds V0 s j) : (addi (constantI S_ 32 0#32) (constantI S_ 32 1024#32) : (Proc.devRef .tc main_while0b_v19 : DevRef τ sig).ty.Contents (Elt F)) = Cert.MoeRefIdeal.Step.b16 j s := by
  unfold Cert.MoeRefIdeal.Step.b16
  rw [← al_14 h, ← al_15 h]
  try rfl
set_option maxRecDepth 8192 in
theorem al_17 (h : Holds V0 s j) : (constantI S_ 32 0#32 : (Proc.devRef .tc main_while0b_c_13 : DevRef τ sig).ty.Contents (Elt F)) = Cert.MoeRefIdeal.Step.b17 j s := by
  unfold Cert.MoeRefIdeal.Step.b17
  rfl
set_option maxRecDepth 8192 in
theorem al_18 (h : Holds V0 s j) : (select (cmpi .slt (constantI S_ 32 0#32) (constantI S_ 32 0#32)) (addi (constantI S_ 32 0#32) (constantI S_ 32 1024#32)) (constantI S_ 32 0#32) : (Proc.devRef .tc main_while0b_v20 : DevRef τ sig).ty.Contents (Elt F)) = Cert.MoeRefIdeal.Step.b18 j s := by
  unfold Cert.MoeRefIdeal.Step.b18
  rw [← al_13 h, ← al_16 h, ← al_17 h]
  try rfl
set_option maxRecDepth 8192 in
theorem al_19 (h : Holds V0 s j) : (constantI S_ 32 0#32 : (Proc.devRef .tc main_while0b_c_14 : DevRef τ sig).ty.Contents (Elt F)) = Cert.MoeRefIdeal.Step.b19 j s := by
  unfold Cert.MoeRefIdeal.Step.b19
  rfl
set_option maxRecDepth 8192 in
theorem al_20 (h : Holds V0 s j) : (constantI S_ 32 0#32 : (Proc.devRef .tc main_while0b_c_15 : DevRef τ sig).ty.Contents (Elt F)) = Cert.MoeRefIdeal.Step.b20 j s := by
  unfold Cert.MoeRefIdeal.Step.b20
  rfl
set_option maxRecDepth 8192 in
theorem al_21 (h : Holds V0 s j) : (cmpi .slt (constantI S_ 32 0#32) (constantI S_ 32 0#32) : (Proc.devRef .tc main_while0b_v21 : DevRef τ sig).ty.Contents (Elt F)) = Cert.MoeRefIdeal.Step.b21 j s := by
  unfold Cert.MoeRefIdeal.Step.b21
  rw [← al_19 h, ← al_20 h]
  try rfl
set_option maxRecDepth 8192 in
theorem al_22 (h : Holds V0 s j) : (constantI S_ 32 0#32 : (Proc.devRef .tc main_while0b_c_16 : DevRef τ sig).ty.Contents (Elt F)) = Cert.MoeRefIdeal.Step.b22 j s := by
  unfold Cert.MoeRefIdeal.Step.b22
  rfl
set_option maxRecDepth 8192 in
theorem al_23 (h : Holds V0 s j) : (constantI S_ 32 3584#32 : (Proc.devRef .tc main_while0b_c_17 : DevRef τ sig).ty.Contents (Elt F)) = Cert.MoeRefIdeal.Step.b23 j s := by
  unfold Cert.MoeRefIdeal.Step.b23
  rfl
set_option maxRecDepth 8192 in
theorem al_24 (h : Holds V0 s j) : (addi (constantI S_ 32 0#32) (constantI S_ 32 3584#32) : (Proc.devRef .tc main_while0b_v22 : DevRef τ sig).ty.Contents (Elt F)) = Cert.MoeRefIdeal.Step.b24 j s := by
  unfold Cert.MoeRefIdeal.Step.b24
  rw [← al_22 h, ← al_23 h]
  try rfl
set_option maxRecDepth 8192 in
theorem al_25 (h : Holds V0 s j) : (constantI S_ 32 0#32 : (Proc.devRef .tc main_while0b_c_18 : DevRef τ sig).ty.Contents (Elt F)) = Cert.MoeRefIdeal.Step.b25 j s := by
  unfold Cert.MoeRefIdeal.Step.b25
  rfl
set_option maxRecDepth 8192 in
theorem al_26 (h : Holds V0 s j) : (select (cmpi .slt (constantI S_ 32 0#32) (constantI S_ 32 0#32)) (addi (constantI S_ 32 0#32) (constantI S_ 32 3584#32)) (constantI S_ 32 0#32) : (Proc.devRef .tc main_while0b_v23 : DevRef τ sig).ty.Contents (Elt F)) = Cert.MoeRefIdeal.Step.b26 j s := by
  unfold Cert.MoeRefIdeal.Step.b26
  rw [← al_21 h, ← al_24 h, ← al_25 h]
  try rfl
set_option maxRecDepth 8192 in
theorem al_27 (h : Holds V0 s j) : (Host.dynamicSlice S1x1024x3584 (V0 (Proc.devRef .tc main_v11_2)) (fun k => (((![select (cmpi .slt (res_main_while0b_v14 V0) (constantI S_ 32 0#32)) (addi (res_main_while0b_v14 V0) (constantI S_ 32 8#32)) (res_main_while0b_v14 V0), select (cmpi .slt (constantI S_ 32 0#32) (constantI S_ 32 0#32)) (addi (constantI S_ 32 0#32) (constantI S_ 32 1024#32)) (constantI S_ 32 0#32), select (cmpi .slt (constantI S_ 32 0#32) (constantI S_ 32 0#32)) (addi (constantI S_ 32 0#32) (constantI S_ 32 3584#32)) (constantI S_ 32 0#32)] : Fin 3 → (⟨S_, .i32⟩ : BufTy).Contents (Elt F))) k (Shape.Idx.first h_S_)).toInt) sliceFits_S8x1024x3584_S1x1024x3584 : (Proc.devRef .tc main_while0b_v24 : DevRef τ sig).ty.Contents (Elt F)) = Cert.MoeRefIdeal.Step.b27 j s := by
  unfold Cert.MoeRefIdeal.Step.b27
  rw [← al_10 h, ← al_18 h, ← al_26 h, h.f_2]
  try rfl
set_option maxRecDepth 8192 in
theorem al_28 (h : Holds V0 s j) : (shapeCast S1024x3584 (Host.dynamicSlice S1x1024x3584 (V0 (Proc.devRef .tc main_v11_2)) (fun k => (((![select (cmpi .slt (res_main_while0b_v14 V0) (constantI S_ 32 0#32)) (addi (res_main_while0b_v14 V0) (constantI S_ 32 8#32)) (res_main_while0b_v14 V0), select (cmpi .slt (constantI S_ 32 0#32) (constantI S_ 32 0#32)) (addi (constantI S_ 32 0#32) (constantI S_ 32 1024#32)) (constantI S_ 32 0#32), select (cmpi .slt (constantI S_ 32 0#32) (constantI S_ 32 0#32)) (addi (constantI S_ 32 0#32) (constantI S_ 32 3584#32)) (constantI S_ 32 0#32)] : Fin 3 → (⟨S_, .i32⟩ : BufTy).Contents (Elt F))) k (Shape.Idx.first h_S_)).toInt) sliceFits_S8x1024x3584_S1x1024x3584) shapeCasts_S1x1024x3584_S1024x3584 : (Proc.devRef .tc main_while0b_v25 : DevRef τ sig).ty.Contents (Elt F)) = Cert.MoeRefIdeal.Step.b28 j s := by
  unfold Cert.MoeRefIdeal.Step.b28
  rw [← al_27 h]
  try rfl
set_option maxRecDepth 8192 in
theorem al_29 (h : Holds V0 s j) : (constantI S_ 32 0#32 : (Proc.devRef .tc main_while0b_c_19 : DevRef τ sig).ty.Contents (Elt F)) = Cert.MoeRefIdeal.Step.b29 j s := by
  unfold Cert.MoeRefIdeal.Step.b29
  rfl
set_option maxRecDepth 8192 in
theorem al_30 (h : Holds V0 s j) : (cmpi .slt (res_main_while0b_v14 V0) (constantI S_ 32 0#32) : (Proc.devRef .tc main_while0b_v26 : DevRef τ sig).ty.Contents (Elt F)) = Cert.MoeRefIdeal.Step.b30 j s := by
  unfold Cert.MoeRefIdeal.Step.b30
  rw [← al_5 h, ← al_29 h]
  try rfl
set_option maxRecDepth 8192 in
theorem al_31 (h : Holds V0 s j) : (constantI S_ 32 8#32 : (Proc.devRef .tc main_while0b_c_20 : DevRef τ sig).ty.Contents (Elt F)) = Cert.MoeRefIdeal.Step.b31 j s := by
  unfold Cert.MoeRefIdeal.Step.b31
  rfl
set_option maxRecDepth 8192 in
theorem al_32 (h : Holds V0 s j) : (addi (res_main_while0b_v14 V0) (constantI S_ 32 8#32) : (Proc.devRef .tc main_while0b_v27 : DevRef τ sig).ty.Contents (Elt F)) = Cert.MoeRefIdeal.Step.b32 j s := by
  unfold Cert.MoeRefIdeal.Step.b32
  rw [← al_5 h, ← al_31 h]
  try rfl
set_option maxRecDepth 8192 in
theorem al_33 (h : Holds V0 s j) : (select (cmpi .slt (res_main_while0b_v14 V0) (constantI S_ 32 0#32)) (addi (res_main_while0b_v14 V0) (constantI S_ 32 8#32)) (res_main_while0b_v14 V0) : (Proc.devRef .tc main_while0b_v28 : DevRef τ sig).ty.Contents (Elt F)) = Cert.MoeRefIdeal.Step.b33 j s := by
  unfold Cert.MoeRefIdeal.Step.b33
  rw [← al_30 h, ← al_32 h, ← al_5 h]
  try rfl
set_option maxRecDepth 8192 in
theorem al_34 (h : Holds V0 s j) : (constantI S_ 32 0#32 : (Proc.devRef .tc main_while0b_c_21 : DevRef τ sig).ty.Contents (Elt F)) = Cert.MoeRefIdeal.Step.b34 j s := by
  unfold Cert.MoeRefIdeal.Step.b34
  rfl
set_option maxRecDepth 8192 in
theorem al_35 (h : Holds V0 s j) : (constantI S_ 32 0#32 : (Proc.devRef .tc main_while0b_c_22 : DevRef τ sig).ty.Contents (Elt F)) = Cert.MoeRefIdeal.Step.b35 j s := by
  unfold Cert.MoeRefIdeal.Step.b35
  rfl
set_option maxRecDepth 8192 in
theorem al_36 (h : Holds V0 s j) : (cmpi .slt (constantI S_ 32 0#32) (constantI S_ 32 0#32) : (Proc.devRef .tc main_while0b_v29 : DevRef τ sig).ty.Contents (Elt F)) = Cert.MoeRefIdeal.Step.b36 j s := by
  unfold Cert.MoeRefIdeal.Step.b36
  rw [← al_34 h, ← al_35 h]
  try rfl
set_option maxRecDepth 8192 in
theorem al_37 (h : Holds V0 s j) : (constantI S_ 32 0#32 : (Proc.devRef .tc main_while0b_c_23 : DevRef τ sig).ty.Contents (Elt F)) = Cert.MoeRefIdeal.Step.b37 j s := by
  unfold Cert.MoeRefIdeal.Step.b37
  rfl
set_option maxRecDepth 8192 in
theorem al_38 (h : Holds V0 s j) : (constantI S_ 32 1024#32 : (Proc.devRef .tc main_while0b_c_24 : DevRef τ sig).ty.Contents (Elt F)) = Cert.MoeRefIdeal.Step.b38 j s := by
  unfold Cert.MoeRefIdeal.Step.b38
  rfl
set_option maxRecDepth 8192 in
theorem al_39 (h : Holds V0 s j) : (addi (constantI S_ 32 0#32) (constantI S_ 32 1024#32) : (Proc.devRef .tc main_while0b_v30 : DevRef τ sig).ty.Contents (Elt F)) = Cert.MoeRefIdeal.Step.b39 j s := by
  unfold Cert.MoeRefIdeal.Step.b39
  rw [← al_37 h, ← al_38 h]
  try rfl
set_option maxRecDepth 8192 in
theorem al_40 (h : Holds V0 s j) : (constantI S_ 32 0#32 : (Proc.devRef .tc main_while0b_c_25 : DevRef τ sig).ty.Contents (Elt F)) = Cert.MoeRefIdeal.Step.b40 j s := by
  unfold Cert.MoeRefIdeal.Step.b40
  rfl
set_option maxRecDepth 8192 in
theorem al_41 (h : Holds V0 s j) : (select (cmpi .slt (constantI S_ 32 0#32) (constantI S_ 32 0#32)) (addi (constantI S_ 32 0#32) (constantI S_ 32 1024#32)) (constantI S_ 32 0#32) : (Proc.devRef .tc main_while0b_v31 : DevRef τ sig).ty.Contents (Elt F)) = Cert.MoeRefIdeal.Step.b41 j s := by
  unfold Cert.MoeRefIdeal.Step.b41
  rw [← al_36 h, ← al_39 h, ← al_40 h]
  try rfl
set_option maxRecDepth 8192 in
theorem al_42 (h : Holds V0 s j) : (constantI S_ 32 0#32 : (Proc.devRef .tc main_while0b_c_26 : DevRef τ sig).ty.Contents (Elt F)) = Cert.MoeRefIdeal.Step.b42 j s := by
  unfold Cert.MoeRefIdeal.Step.b42
  rfl
set_option maxRecDepth 8192 in
theorem al_43 (h : Holds V0 s j) : (constantI S_ 32 0#32 : (Proc.devRef .tc main_while0b_c_27 : DevRef τ sig).ty.Contents (Elt F)) = Cert.MoeRefIdeal.Step.b43 j s := by
  unfold Cert.MoeRefIdeal.Step.b43
  rfl
set_option maxRecDepth 8192 in
theorem al_44 (h : Holds V0 s j) : (cmpi .slt (constantI S_ 32 0#32) (constantI S_ 32 0#32) : (Proc.devRef .tc main_while0b_v32 : DevRef τ sig).ty.Contents (Elt F)) = Cert.MoeRefIdeal.Step.b44 j s := by
  unfold Cert.MoeRefIdeal.Step.b44
  rw [← al_42 h, ← al_43 h]
  try rfl
set_option maxRecDepth 8192 in
theorem al_45 (h : Holds V0 s j) : (constantI S_ 32 0#32 : (Proc.devRef .tc main_while0b_c_28 : DevRef τ sig).ty.Contents (Elt F)) = Cert.MoeRefIdeal.Step.b45 j s := by
  unfold Cert.MoeRefIdeal.Step.b45
  rfl
set_option maxRecDepth 8192 in
theorem al_46 (h : Holds V0 s j) : (constantI S_ 32 3584#32 : (Proc.devRef .tc main_while0b_c_29 : DevRef τ sig).ty.Contents (Elt F)) = Cert.MoeRefIdeal.Step.b46 j s := by
  unfold Cert.MoeRefIdeal.Step.b46
  rfl
set_option maxRecDepth 8192 in
theorem al_47 (h : Holds V0 s j) : (addi (constantI S_ 32 0#32) (constantI S_ 32 3584#32) : (Proc.devRef .tc main_while0b_v33 : DevRef τ sig).ty.Contents (Elt F)) = Cert.MoeRefIdeal.Step.b47 j s := by
  unfold Cert.MoeRefIdeal.Step.b47
  rw [← al_45 h, ← al_46 h]
  try rfl
set_option maxRecDepth 8192 in
theorem al_48 (h : Holds V0 s j) : (constantI S_ 32 0#32 : (Proc.devRef .tc main_while0b_c_30 : DevRef τ sig).ty.Contents (Elt F)) = Cert.MoeRefIdeal.Step.b48 j s := by
  unfold Cert.MoeRefIdeal.Step.b48
  rfl
set_option maxRecDepth 8192 in
theorem al_49 (h : Holds V0 s j) : (select (cmpi .slt (constantI S_ 32 0#32) (constantI S_ 32 0#32)) (addi (constantI S_ 32 0#32) (constantI S_ 32 3584#32)) (constantI S_ 32 0#32) : (Proc.devRef .tc main_while0b_v34 : DevRef τ sig).ty.Contents (Elt F)) = Cert.MoeRefIdeal.Step.b49 j s := by
  unfold Cert.MoeRefIdeal.Step.b49
  rw [← al_44 h, ← al_47 h, ← al_48 h]
  try rfl
set_option maxRecDepth 8192 in
theorem al_50 (h : Holds V0 s j) : (Host.dynamicSlice S1x1024x3584 (V0 (Proc.devRef .tc main_v11_3)) (fun k => (((![select (cmpi .slt (res_main_while0b_v14 V0) (constantI S_ 32 0#32)) (addi (res_main_while0b_v14 V0) (constantI S_ 32 8#32)) (res_main_while0b_v14 V0), select (cmpi .slt (constantI S_ 32 0#32) (constantI S_ 32 0#32)) (addi (constantI S_ 32 0#32) (constantI S_ 32 1024#32)) (constantI S_ 32 0#32), select (cmpi .slt (constantI S_ 32 0#32) (constantI S_ 32 0#32)) (addi (constantI S_ 32 0#32) (constantI S_ 32 3584#32)) (constantI S_ 32 0#32)] : Fin 3 → (⟨S_, .i32⟩ : BufTy).Contents (Elt F))) k (Shape.Idx.first h_S_)).toInt) sliceFits_S8x1024x3584_S1x1024x3584 : (Proc.devRef .tc main_while0b_v35 : DevRef τ sig).ty.Contents (Elt F)) = Cert.MoeRefIdeal.Step.b50 j s := by
  unfold Cert.MoeRefIdeal.Step.b50
  rw [← al_33 h, ← al_41 h, ← al_49 h, h.f_3]
  try rfl
set_option maxRecDepth 8192 in
theorem al_51 (h : Holds V0 s j) : (shapeCast S1024x3584 (Host.dynamicSlice S1x1024x3584 (V0 (Proc.devRef .tc main_v11_3)) (fun k => (((![select (cmpi .slt (res_main_while0b_v14 V0) (constantI S_ 32 0#32)) (addi (res_main_while0b_v14 V0) (constantI S_ 32 8#32)) (res_main_while0b_v14 V0), select (cmpi .slt (constantI S_ 32 0#32) (constantI S_ 32 0#32)) (addi (constantI S_ 32 0#32) (constantI S_ 32 1024#32)) (constantI S_ 32 0#32), select (cmpi .slt (constantI S_ 32 0#32) (constantI S_ 32 0#32)) (addi (constantI S_ 32 0#32) (constantI S_ 32 3584#32)) (constantI S_ 32 0#32)] : Fin 3 → (⟨S_, .i32⟩ : BufTy).Contents (Elt F))) k (Shape.Idx.first h_S_)).toInt) sliceFits_S8x1024x3584_S1x1024x3584) shapeCasts_S1x1024x3584_S1024x3584 : (Proc.devRef .tc main_while0b_v36 : DevRef τ sig).ty.Contents (Elt F)) = Cert.MoeRefIdeal.Step.b51 j s := by
  unfold Cert.MoeRefIdeal.Step.b51
  rw [← al_50 h]
  try rfl
set_option maxRecDepth 8192 in
theorem al_52 (h : Holds V0 s j) : (constantI S_ 32 0#32 : (Proc.devRef .tc main_while0b_c_31 : DevRef τ sig).ty.Contents (Elt F)) = Cert.MoeRefIdeal.Step.b52 j s := by
  unfold Cert.MoeRefIdeal.Step.b52
  rfl
set_option maxRecDepth 8192 in
theorem al_53 (h : Holds V0 s j) : (cmpi .slt (res_main_while0b_v14 V0) (constantI S_ 32 0#32) : (Proc.devRef .tc main_while0b_v37 : DevRef τ sig).ty.Contents (Elt F)) = Cert.MoeRefIdeal.Step.b53 j s := by
  unfold Cert.MoeRefIdeal.Step.b53
  rw [← al_5 h, ← al_52 h]
  try rfl
set_option maxRecDepth 8192 in
theorem al_54 (h : Holds V0 s j) : (constantI S_ 32 8#32 : (Proc.devRef .tc main_while0b_c_32 : DevRef τ sig).ty.Contents (Elt F)) = Cert.MoeRefIdeal.Step.b54 j s := by
  unfold Cert.MoeRefIdeal.Step.b54
  rfl
set_option maxRecDepth 8192 in
theorem al_55 (h : Holds V0 s j) : (addi (res_main_while0b_v14 V0) (constantI S_ 32 8#32) : (Proc.devRef .tc main_while0b_v38 : DevRef τ sig).ty.Contents (Elt F)) = Cert.MoeRefIdeal.Step.b55 j s := by
  unfold Cert.MoeRefIdeal.Step.b55
  rw [← al_5 h, ← al_54 h]
  try rfl
set_option maxRecDepth 8192 in
theorem al_56 (h : Holds V0 s j) : (select (cmpi .slt (res_main_while0b_v14 V0) (constantI S_ 32 0#32)) (addi (res_main_while0b_v14 V0) (constantI S_ 32 8#32)) (res_main_while0b_v14 V0) : (Proc.devRef .tc main_while0b_v39 : DevRef τ sig).ty.Contents (Elt F)) = Cert.MoeRefIdeal.Step.b56 j s := by
  unfold Cert.MoeRefIdeal.Step.b56
  rw [← al_53 h, ← al_55 h, ← al_5 h]
  try rfl
set_option maxRecDepth 8192 in
theorem al_57 (h : Holds V0 s j) : (constantI S_ 32 0#32 : (Proc.devRef .tc main_while0b_c_33 : DevRef τ sig).ty.Contents (Elt F)) = Cert.MoeRefIdeal.Step.b57 j s := by
  unfold Cert.MoeRefIdeal.Step.b57
  rfl
set_option maxRecDepth 8192 in
theorem al_58 (h : Holds V0 s j) : (constantI S_ 32 0#32 : (Proc.devRef .tc main_while0b_c_34 : DevRef τ sig).ty.Contents (Elt F)) = Cert.MoeRefIdeal.Step.b58 j s := by
  unfold Cert.MoeRefIdeal.Step.b58
  rfl
set_option maxRecDepth 8192 in
theorem al_59 (h : Holds V0 s j) : (cmpi .slt (constantI S_ 32 0#32) (constantI S_ 32 0#32) : (Proc.devRef .tc main_while0b_v40 : DevRef τ sig).ty.Contents (Elt F)) = Cert.MoeRefIdeal.Step.b59 j s := by
  unfold Cert.MoeRefIdeal.Step.b59
  rw [← al_57 h, ← al_58 h]
  try rfl
set_option maxRecDepth 8192 in
theorem al_60 (h : Holds V0 s j) : (constantI S_ 32 0#32 : (Proc.devRef .tc main_while0b_c_35 : DevRef τ sig).ty.Contents (Elt F)) = Cert.MoeRefIdeal.Step.b60 j s := by
  unfold Cert.MoeRefIdeal.Step.b60
  rfl
set_option maxRecDepth 8192 in
theorem al_61 (h : Holds V0 s j) : (constantI S_ 32 3584#32 : (Proc.devRef .tc main_while0b_c_36 : DevRef τ sig).ty.Contents (Elt F)) = Cert.MoeRefIdeal.Step.b61 j s := by
  unfold Cert.MoeRefIdeal.Step.b61
  rfl
set_option maxRecDepth 8192 in
theorem al_62 (h : Holds V0 s j) : (addi (constantI S_ 32 0#32) (constantI S_ 32 3584#32) : (Proc.devRef .tc main_while0b_v41 : DevRef τ sig).ty.Contents (Elt F)) = Cert.MoeRefIdeal.Step.b62 j s := by
  unfold Cert.MoeRefIdeal.Step.b62
  rw [← al_60 h, ← al_61 h]
  try rfl
set_option maxRecDepth 8192 in
theorem al_63 (h : Holds V0 s j) : (constantI S_ 32 0#32 : (Proc.devRef .tc main_while0b_c_37 : DevRef τ sig).ty.Contents (Elt F)) = Cert.MoeRefIdeal.Step.b63 j s := by
  unfold Cert.MoeRefIdeal.Step.b63
  rfl
set_option maxRecDepth 8192 in
theorem al_64 (h : Holds V0 s j) : (select (cmpi .slt (constantI S_ 32 0#32) (constantI S_ 32 0#32)) (addi (constantI S_ 32 0#32) (constantI S_ 32 3584#32)) (constantI S_ 32 0#32) : (Proc.devRef .tc main_while0b_v42 : DevRef τ sig).ty.Contents (Elt F)) = Cert.MoeRefIdeal.Step.b64 j s := by
  unfold Cert.MoeRefIdeal.Step.b64
  rw [← al_59 h, ← al_62 h, ← al_63 h]
  try rfl
set_option maxRecDepth 8192 in
theorem al_65 (h : Holds V0 s j) : (constantI S_ 32 0#32 : (Proc.devRef .tc main_while0b_c_38 : DevRef τ sig).ty.Contents (Elt F)) = Cert.MoeRefIdeal.Step.b65 j s := by
  unfold Cert.MoeRefIdeal.Step.b65
  rfl
set_option maxRecDepth 8192 in
theorem al_66 (h : Holds V0 s j) : (constantI S_ 32 0#32 : (Proc.devRef .tc main_while0b_c_39 : DevRef τ sig).ty.Contents (Elt F)) = Cert.MoeRefIdeal.Step.b66 j s := by
  unfold Cert.MoeRefIdeal.Step.b66
  rfl
set_option maxRecDepth 8192 in
theorem al_67 (h : Holds V0 s j) : (cmpi .slt (constantI S_ 32 0#32) (constantI S_ 32 0#32) : (Proc.devRef .tc main_while0b_v43 : DevRef τ sig).ty.Contents (Elt F)) = Cert.MoeRefIdeal.Step.b67 j s := by
  unfold Cert.MoeRefIdeal.Step.b67
  rw [← al_65 h, ← al_66 h]
  try rfl
set_option maxRecDepth 8192 in
theorem al_68 (h : Holds V0 s j) : (constantI S_ 32 0#32 : (Proc.devRef .tc main_while0b_c_40 : DevRef τ sig).ty.Contents (Elt F)) = Cert.MoeRefIdeal.Step.b68 j s := by
  unfold Cert.MoeRefIdeal.Step.b68
  rfl
set_option maxRecDepth 8192 in
theorem al_69 (h : Holds V0 s j) : (constantI S_ 32 1024#32 : (Proc.devRef .tc main_while0b_c_41 : DevRef τ sig).ty.Contents (Elt F)) = Cert.MoeRefIdeal.Step.b69 j s := by
  unfold Cert.MoeRefIdeal.Step.b69
  rfl
set_option maxRecDepth 8192 in
theorem al_70 (h : Holds V0 s j) : (addi (constantI S_ 32 0#32) (constantI S_ 32 1024#32) : (Proc.devRef .tc main_while0b_v44 : DevRef τ sig).ty.Contents (Elt F)) = Cert.MoeRefIdeal.Step.b70 j s := by
  unfold Cert.MoeRefIdeal.Step.b70
  rw [← al_68 h, ← al_69 h]
  try rfl
set_option maxRecDepth 8192 in
theorem al_71 (h : Holds V0 s j) : (constantI S_ 32 0#32 : (Proc.devRef .tc main_while0b_c_42 : DevRef τ sig).ty.Contents (Elt F)) = Cert.MoeRefIdeal.Step.b71 j s := by
  unfold Cert.MoeRefIdeal.Step.b71
  rfl
set_option maxRecDepth 8192 in
theorem al_72 (h : Holds V0 s j) : (select (cmpi .slt (constantI S_ 32 0#32) (constantI S_ 32 0#32)) (addi (constantI S_ 32 0#32) (constantI S_ 32 1024#32)) (constantI S_ 32 0#32) : (Proc.devRef .tc main_while0b_v45 : DevRef τ sig).ty.Contents (Elt F)) = Cert.MoeRefIdeal.Step.b72 j s := by
  unfold Cert.MoeRefIdeal.Step.b72
  rw [← al_67 h, ← al_70 h, ← al_71 h]
  try rfl
set_option maxRecDepth 8192 in
theorem al_73 (h : Holds V0 s j) : (Host.dynamicSlice S1x3584x1024 (V0 (Proc.devRef .tc main_v11_4)) (fun k => (((![select (cmpi .slt (res_main_while0b_v14 V0) (constantI S_ 32 0#32)) (addi (res_main_while0b_v14 V0) (constantI S_ 32 8#32)) (res_main_while0b_v14 V0), select (cmpi .slt (constantI S_ 32 0#32) (constantI S_ 32 0#32)) (addi (constantI S_ 32 0#32) (constantI S_ 32 3584#32)) (constantI S_ 32 0#32), select (cmpi .slt (constantI S_ 32 0#32) (constantI S_ 32 0#32)) (addi (constantI S_ 32 0#32) (constantI S_ 32 1024#32)) (constantI S_ 32 0#32)] : Fin 3 → (⟨S_, .i32⟩ : BufTy).Contents (Elt F))) k (Shape.Idx.first h_S_)).toInt) sliceFits_S8x3584x1024_S1x3584x1024 : (Proc.devRef .tc main_while0b_v46 : DevRef τ sig).ty.Contents (Elt F)) = Cert.MoeRefIdeal.Step.b73 j s := by
  unfold Cert.MoeRefIdeal.Step.b73
  rw [← al_56 h, ← al_64 h, ← al_72 h, h.f_4]
  try rfl
set_option maxRecDepth 8192 in
theorem al_74 (h : Holds V0 s j) : (shapeCast S3584x1024 (Host.dynamicSlice S1x3584x1024 (V0 (Proc.devRef .tc main_v11_4)) (fun k => (((![select (cmpi .slt (res_main_while0b_v14 V0) (constantI S_ 32 0#32)) (addi (res_main_while0b_v14 V0) (constantI S_ 32 8#32)) (res_main_while0b_v14 V0), select (cmpi .slt (constantI S_ 32 0#32) (constantI S_ 32 0#32)) (addi (constantI S_ 32 0#32) (constantI S_ 32 3584#32)) (constantI S_ 32 0#32), select (cmpi .slt (constantI S_ 32 0#32) (constantI S_ 32 0#32)) (addi (constantI S_ 32 0#32) (constantI S_ 32 1024#32)) (constantI S_ 32 0#32)] : Fin 3 → (⟨S_, .i32⟩ : BufTy).Contents (Elt F))) k (Shape.Idx.first h_S_)).toInt) sliceFits_S8x3584x1024_S1x3584x1024) shapeCasts_S1x3584x1024_S3584x1024 : (Proc.devRef .tc main_while0b_v47 : DevRef τ sig).ty.Contents (Elt F)) = Cert.MoeRefIdeal.Step.b74 j s := by
  unfold Cert.MoeRefIdeal.Step.b74
  rw [← al_73 h]
  try rfl
set_option maxRecDepth 8192 in
theorem al_75 (h : Holds V0 s j) : (res_main_while0b_v48 V0 : (Proc.devRef .tc main_while0b_v48 : DevRef τ sig).ty.Contents (Elt F)) = Cert.MoeRefIdeal.Step.b75 j s := by
  unfold res_main_while0b_v48 Cert.MoeRefIdeal.Step.b75
  rw [← al_3 h, ← al_28 h]
  try rfl
set_option maxRecDepth 8192 in
theorem al_76 (h : Holds V0 s j) : (Host.negf (res_main_while0b_v48 V0) : (Proc.devRef .tc main_while0b_call3_v0 : DevRef τ sig).ty.Contents (Elt F)) = Cert.MoeRefIdeal.Step.b76 j s := by
  unfold Cert.MoeRefIdeal.Step.b76
  rw [← al_75 h]
  try rfl
set_option maxRecDepth 8192 in
theorem al_77 (h : Holds V0 s j) : (Host.exp (Host.negf (res_main_while0b_v48 V0)) : (Proc.devRef .tc main_while0b_call3_v1 : DevRef τ sig).ty.Contents (Elt F)) = Cert.MoeRefIdeal.Step.b77 j s := by
  unfold Cert.MoeRefIdeal.Step.b77
  rw [← al_76 h]
  try rfl
set_option maxRecDepth 8192 in
theorem al_78 (h : Holds V0 s j) : (constant S_ .f32 0x3F800000#32 : (Proc.devRef .tc main_while0b_call3_cst : DevRef τ sig).ty.Contents (Elt F)) = Cert.MoeRefIdeal.Step.b78 j s := by
  unfold Cert.MoeRefIdeal.Step.b78
  rfl
set_option maxRecDepth 8192 in
theorem al_79 (h : Holds V0 s j) : (broadcastInDim S128x3584 ![] bcast_S_S128x3584 (constant S_ .f32 0x3F800000#32) : (Proc.devRef .tc main_while0b_call3_v2 : DevRef τ sig).ty.Contents (Elt F)) = Cert.MoeRefIdeal.Step.b79 j s := by
  unfold Cert.MoeRefIdeal.Step.b79
  rw [← al_78 h]
  try rfl
set_option maxRecDepth 8192 in
theorem al_80 (h : Holds V0 s j) : (addf (broadcastInDim S128x3584 ![] bcast_S_S128x3584 (constant S_ .f32 0x3F800000#32)) (Host.exp (Host.negf (res_main_while0b_v48 V0))) : (Proc.devRef .tc main_while0b_call3_v3 : DevRef τ sig).ty.Contents (Elt F)) = Cert.MoeRefIdeal.Step.b80 j s := by
  unfold Cert.MoeRefIdeal.Step.b80
  rw [← al_79 h, ← al_77 h]
  try rfl
set_option maxRecDepth 8192 in
theorem al_81 (h : Holds V0 s j) : (constant S_ .f32 0x3F800000#32 : (Proc.devRef .tc main_while0b_call3_cst_0 : DevRef τ sig).ty.Contents (Elt F)) = Cert.MoeRefIdeal.Step.b81 j s := by
  unfold Cert.MoeRefIdeal.Step.b81
  rfl
set_option maxRecDepth 8192 in
theorem al_82 (h : Holds V0 s j) : (broadcastInDim S128x3584 ![] bcast_S_S128x3584 (constant S_ .f32 0x3F800000#32) : (Proc.devRef .tc main_while0b_call3_v4 : DevRef τ sig).ty.Contents (Elt F)) = Cert.MoeRefIdeal.Step.b82 j s := by
  unfold Cert.MoeRefIdeal.Step.b82
  rw [← al_81 h]
  try rfl
set_option maxRecDepth 8192 in
theorem al_83 (h : Holds V0 s j) : (Host.divf (broadcastInDim S128x3584 ![] bcast_S_S128x3584 (constant S_ .f32 0x3F800000#32)) (addf (broadcastInDim S128x3584 ![] bcast_S_S128x3584 (constant S_ .f32 0x3F800000#32)) (Host.exp (Host.negf (res_main_while0b_v48 V0)))) : (Proc.devRef .tc main_while0b_call3_v5 : DevRef τ sig).ty.Contents (Elt F)) = Cert.MoeRefIdeal.Step.b83 j s := by
  unfold Cert.MoeRefIdeal.Step.b83
  rw [← al_82 h, ← al_80 h]
  try rfl
set_option maxRecDepth 8192 in
theorem al_84 (h : Holds V0 s j) : (mulf (res_main_while0b_v48 V0) (Host.divf (broadcastInDim S128x3584 ![] bcast_S_S128x3584 (constant S_ .f32 0x3F800000#32)) (addf (broadcastInDim S128x3584 ![] bcast_S_S128x3584 (constant S_ .f32 0x3F800000#32)) (Host.exp (Host.negf (res_main_while0b_v48 V0))))) : (Proc.devRef .tc main_while0b_v49 : DevRef τ sig).ty.Contents (Elt F)) = Cert.MoeRefIdeal.Step.b84 j s := by
  unfold Cert.MoeRefIdeal.Step.b84
  rw [← al_75 h, ← al_83 h]
  try rfl
set_option maxRecDepth 8192 in
theorem al_85 (h : Holds V0 s j) : (Host.dotGeneral dot_S128x1024_S1024x3584_S128x3584_1_0_0_1_n_n none (res_main_while0b_v13 V0) (shapeCast S1024x3584 (Host.dynamicSlice S1x1024x3584 (V0 (Proc.devRef .tc main_v11_3)) (fun k => (((![select (cmpi .slt (res_main_while0b_v14 V0) (constantI S_ 32 0#32)) (addi (res_main_while0b_v14 V0) (constantI S_ 32 8#32)) (res_main_while0b_v14 V0), select (cmpi .slt (constantI S_ 32 0#32) (constantI S_ 32 0#32)) (addi (constantI S_ 32 0#32) (constantI S_ 32 1024#32)) (constantI S_ 32 0#32), select (cmpi .slt (constantI S_ 32 0#32) (constantI S_ 32 0#32)) (addi (constantI S_ 32 0#32) (constantI S_ 32 3584#32)) (constantI S_ 32 0#32)] : Fin 3 → (⟨S_, .i32⟩ : BufTy).Contents (Elt F))) k (Shape.Idx.first h_S_)).toInt) sliceFits_S8x1024x3584_S1x1024x3584) shapeCasts_S1x1024x3584_S1024x3584) : (Proc.devRef .tc main_while0b_v50 : DevRef τ sig).ty.Contents (Elt F)) = Cert.MoeRefIdeal.Step.b85 j s := by
  unfold Cert.MoeRefIdeal.Step.b85
  rw [← al_3 h, ← al_51 h]
  try rfl
set_option maxRecDepth 8192 in
theorem al_86 (h : Holds V0 s j) : (mulf (mulf (res_main_while0b_v48 V0) (Host.divf (broadcastInDim S128x3584 ![] bcast_S_S128x3584 (constant S_ .f32 0x3F800000#32)) (addf (broadcastInDim S128x3584 ![] bcast_S_S128x3584 (constant S_ .f32 0x3F800000#32)) (Host.exp (Host.negf (res_main_while0b_v48 V0)))))) (Host.dotGeneral dot_S128x1024_S1024x3584_S128x3584_1_0_0_1_n_n none (res_main_while0b_v13 V0) (shapeCast S1024x3584 (Host.dynamicSlice S1x1024x3584 (V0 (Proc.devRef .tc main_v11_3)) (fun k => (((![select (cmpi .slt (res_main_while0b_v14 V0) (constantI S_ 32 0#32)) (addi (res_main_while0b_v14 V0) (constantI S_ 32 8#32)) (res_main_while0b_v14 V0), select (cmpi .slt (constantI S_ 32 0#32) (constantI S_ 32 0#32)) (addi (constantI S_ 32 0#32) (constantI S_ 32 1024#32)) (constantI S_ 32 0#32), select (cmpi .slt (constantI S_ 32 0#32) (constantI S_ 32 0#32)) (addi (constantI S_ 32 0#32) (constantI S_ 32 3584#32)) (constantI S_ 32 0#32)] : Fin 3 → (⟨S_, .i32⟩ : BufTy).Contents (Elt F))) k (Shape.Idx.first h_S_)).toInt) sliceFits_S8x1024x3584_S1x1024x3584) shapeCasts_S1x1024x3584_S1024x3584)) : (Proc.devRef .tc main_while0b_v51 : DevRef τ sig).ty.Contents (Elt F)) = Cert.MoeRefIdeal.Step.b86 j s := by
  unfold Cert.MoeRefIdeal.Step.b86
  rw [← al_84 h, ← al_85 h]
  try rfl
set_option maxRecDepth 8192 in
theorem al_87 (h : Holds V0 s j) : (Host.dotGeneral dot_S128x3584_S3584x1024_S128x1024_1_0_0_1_n_n none (mulf (mulf (res_main_while0b_v48 V0) (Host.divf (broadcastInDim S128x3584 ![] bcast_S_S128x3584 (constant S_ .f32 0x3F800000#32)) (addf (broadcastInDim S128x3584 ![] bcast_S_S128x3584 (constant S_ .f32 0x3F800000#32)) (Host.exp (Host.negf (res_main_while0b_v48 V0)))))) (Host.dotGeneral dot_S128x1024_S1024x3584_S128x3584_1_0_0_1_n_n none (res_main_while0b_v13 V0) (shapeCast S1024x3584 (Host.dynamicSlice S1x1024x3584 (V0 (Proc.devRef .tc main_v11_3)) (fun k => (((![select (cmpi .slt (res_main_while0b_v14 V0) (constantI S_ 32 0#32)) (addi (res_main_while0b_v14 V0) (constantI S_ 32 8#32)) (res_main_while0b_v14 V0), select (cmpi .slt (constantI S_ 32 0#32) (constantI S_ 32 0#32)) (addi (constantI S_ 32 0#32) (constantI S_ 32 1024#32)) (constantI S_ 32 0#32), select (cmpi .slt (constantI S_ 32 0#32) (constantI S_ 32 0#32)) (addi (constantI S_ 32 0#32) (constantI S_ 32 3584#32)) (constantI S_ 32 0#32)] : Fin 3 → (⟨S_, .i32⟩ : BufTy).Contents (Elt F))) k (Shape.Idx.first h_S_)).toInt) sliceFits_S8x1024x3584_S1x1024x3584) shapeCasts_S1x1024x3584_S1024x3584))) (shapeCast S3584x1024 (Host.dynamicSlice S1x3584x1024 (V0 (Proc.devRef .tc main_v11_4)) (fun k => (((![select (cmpi .slt (res_main_while0b_v14 V0) (constantI S_ 32 0#32)) (addi (res_main_while0b_v14 V0) (constantI S_ 32 8#32)) (res_main_while0b_v14 V0), select (cmpi .slt (constantI S_ 32 0#32) (constantI S_ 32 0#32)) (addi (constantI S_ 32 0#32) (constantI S_ 32 3584#32)) (constantI S_ 32 0#32), select (cmpi .slt (constantI S_ 32 0#32) (constantI S_ 32 0#32)) (addi (constantI S_ 32 0#32) (constantI S_ 32 1024#32)) (constantI S_ 32 0#32)] : Fin 3 → (⟨S_, .i32⟩ : BufTy).Contents (Elt F))) k (Shape.Idx.first h_S_)).toInt) sliceFits_S8x3584x1024_S1x3584x1024) shapeCasts_S1x3584x1024_S3584x1024) : (Proc.devRef .tc main_while0b_v52 : DevRef τ sig).ty.Contents (Elt F)) = Cert.MoeRefIdeal.Step.b87 j s := by
  unfold Cert.MoeRefIdeal.Step.b87
  rw [← al_86 h, ← al_74 h]
  try rfl
set_option maxRecDepth 8192 in
theorem al_88 (h : Holds V0 s j) : (broadcastInDim S1x128x1024 ![1, 2] bcast_S128x1024_S1x128x1024_1_2 (Host.dotGeneral dot_S128x3584_S3584x1024_S128x1024_1_0_0_1_n_n none (mulf (mulf (res_main_while0b_v48 V0) (Host.divf (broadcastInDim S128x3584 ![] bcast_S_S128x3584 (constant S_ .f32 0x3F800000#32)) (addf (broadcastInDim S128x3584 ![] bcast_S_S128x3584 (constant S_ .f32 0x3F800000#32)) (Host.exp (Host.negf (res_main_while0b_v48 V0)))))) (Host.dotGeneral dot_S128x1024_S1024x3584_S128x3584_1_0_0_1_n_n none (res_main_while0b_v13 V0) (shapeCast S1024x3584 (Host.dynamicSlice S1x1024x3584 (V0 (Proc.devRef .tc main_v11_3)) (fun k => (((![select (cmpi .slt (res_main_while0b_v14 V0) (constantI S_ 32 0#32)) (addi (res_main_while0b_v14 V0) (constantI S_ 32 8#32)) (res_main_while0b_v14 V0), select (cmpi .slt (constantI S_ 32 0#32) (constantI S_ 32 0#32)) (addi (constantI S_ 32 0#32) (constantI S_ 32 1024#32)) (constantI S_ 32 0#32), select (cmpi .slt (constantI S_ 32 0#32) (constantI S_ 32 0#32)) (addi (constantI S_ 32 0#32) (constantI S_ 32 3584#32)) (constantI S_ 32 0#32)] : Fin 3 → (⟨S_, .i32⟩ : BufTy).Contents (Elt F))) k (Shape.Idx.first h_S_)).toInt) sliceFits_S8x1024x3584_S1x1024x3584) shapeCasts_S1x1024x3584_S1024x3584))) (shapeCast S3584x1024 (Host.dynamicSlice S1x3584x1024 (V0 (Proc.devRef .tc main_v11_4)) (fun k => (((![select (cmpi .slt (res_main_while0b_v14 V0) (constantI S_ 32 0#32)) (addi (res_main_while0b_v14 V0) (constantI S_ 32 8#32)) (res_main_while0b_v14 V0), select (cmpi .slt (constantI S_ 32 0#32) (constantI S_ 32 0#32)) (addi (constantI S_ 32 0#32) (constantI S_ 32 3584#32)) (constantI S_ 32 0#32), select (cmpi .slt (constantI S_ 32 0#32) (constantI S_ 32 0#32)) (addi (constantI S_ 32 0#32) (constantI S_ 32 1024#32)) (constantI S_ 32 0#32)] : Fin 3 → (⟨S_, .i32⟩ : BufTy).Contents (Elt F))) k (Shape.Idx.first h_S_)).toInt) sliceFits_S8x3584x1024_S1x3584x1024) shapeCasts_S1x3584x1024_S3584x1024)) : (Proc.devRef .tc main_while0b_call4_v0 : DevRef τ sig).ty.Contents (Elt F)) = Cert.MoeRefIdeal.Step.b88 j s := by
  unfold Cert.MoeRefIdeal.Step.b88
  rw [← al_87 h]
  try rfl
set_option maxRecDepth 8192 in
theorem al_89 (h : Holds V0 s j) : (constantI S_ 32 0#32 : (Proc.devRef .tc main_while0b_call4_c : DevRef τ sig).ty.Contents (Elt F)) = Cert.MoeRefIdeal.Step.b89 j s := by
  unfold Cert.MoeRefIdeal.Step.b89
  rfl
set_option maxRecDepth 8192 in
theorem al_90 (h : Holds V0 s j) : (constantI S_ 32 0#32 : (Proc.devRef .tc main_while0b_call4_c_0 : DevRef τ sig).ty.Contents (Elt F)) = Cert.MoeRefIdeal.Step.b90 j s := by
  unfold Cert.MoeRefIdeal.Step.b90
  rfl
set_option maxRecDepth 8192 in
theorem al_91 (h : Holds V0 s j) : (Host.dynamicUpdateSlice (V0 (Proc.devRef .tc main_v11_6)) (broadcastInDim S1x128x1024 ![1, 2] bcast_S128x1024_S1x128x1024_1_2 (Host.dotGeneral dot_S128x3584_S3584x1024_S128x1024_1_0_0_1_n_n none (mulf (mulf (res_main_while0b_v48 V0) (Host.divf (broadcastInDim S128x3584 ![] bcast_S_S128x3584 (constant S_ .f32 0x3F800000#32)) (addf (broadcastInDim S128x3584 ![] bcast_S_S128x3584 (constant S_ .f32 0x3F800000#32)) (Host.exp (Host.negf (res_main_while0b_v48 V0)))))) (Host.dotGeneral dot_S128x1024_S1024x3584_S128x3584_1_0_0_1_n_n none (res_main_while0b_v13 V0) (shapeCast S1024x3584 (Host.dynamicSlice S1x1024x3584 (V0 (Proc.devRef .tc main_v11_3)) (fun k => (((![select (cmpi .slt (res_main_while0b_v14 V0) (constantI S_ 32 0#32)) (addi (res_main_while0b_v14 V0) (constantI S_ 32 8#32)) (res_main_while0b_v14 V0), select (cmpi .slt (constantI S_ 32 0#32) (constantI S_ 32 0#32)) (addi (constantI S_ 32 0#32) (constantI S_ 32 1024#32)) (constantI S_ 32 0#32), select (cmpi .slt (constantI S_ 32 0#32) (constantI S_ 32 0#32)) (addi (constantI S_ 32 0#32) (constantI S_ 32 3584#32)) (constantI S_ 32 0#32)] : Fin 3 → (⟨S_, .i32⟩ : BufTy).Contents (Elt F))) k (Shape.Idx.first h_S_)).toInt) sliceFits_S8x1024x3584_S1x1024x3584) shapeCasts_S1x1024x3584_S1024x3584))) (shapeCast S3584x1024 (Host.dynamicSlice S1x3584x1024 (V0 (Proc.devRef .tc main_v11_4)) (fun k => (((![select (cmpi .slt (res_main_while0b_v14 V0) (constantI S_ 32 0#32)) (addi (res_main_while0b_v14 V0) (constantI S_ 32 8#32)) (res_main_while0b_v14 V0), select (cmpi .slt (constantI S_ 32 0#32) (constantI S_ 32 0#32)) (addi (constantI S_ 32 0#32) (constantI S_ 32 3584#32)) (constantI S_ 32 0#32), select (cmpi .slt (constantI S_ 32 0#32) (constantI S_ 32 0#32)) (addi (constantI S_ 32 0#32) (constantI S_ 32 1024#32)) (constantI S_ 32 0#32)] : Fin 3 → (⟨S_, .i32⟩ : BufTy).Contents (Elt F))) k (Shape.Idx.first h_S_)).toInt) sliceFits_S8x3584x1024_S1x3584x1024) shapeCasts_S1x3584x1024_S3584x1024))) (fun k => (((![V0 (Proc.devRef .tc main_v11_5), constantI S_ 32 0#32, constantI S_ 32 0#32] : Fin 3 → (⟨S_, .i32⟩ : BufTy).Contents (Elt F))) k (Shape.Idx.first h_S_)).toInt) updateFits_S320x128x1024_S1x128x1024 : (Proc.devRef .tc main_while0b_v53 : DevRef τ sig).ty.Contents (Elt F)) = Cert.MoeRefIdeal.Step.b91 j s := by
  unfold Cert.MoeRefIdeal.Step.b91
  rw [← al_88 h, ← al_89 h, ← al_90 h, h.f_6, h.n_5]
  try rfl

/-! One trip's step of the carried values is `step`, field by field; a counter steps to the next number. -/

theorem step_6 (h : Holds V0 s j) : step_main_v11_6 V0 = (step j s).main_v11_6 := by
  unfold step_main_v11_6 Cert.MoeRefIdeal.Step.step
  exact al_91 h
theorem step_5 (h : Holds V0 s j) : step_main_v11_5 V0 = constantI S_ 32 (BitVec.ofNat 32 (j + 1)) := by
  unfold step_main_v11_5
  rw [h.n_5]
  funext i
  show BitVec.ofNat 32 j + 1#32 = BitVec.ofNat 32 (j + 1)
  simp only [BitVec.ofNat_add]

set_option maxRecDepth 8192 in
theorem out_main_v12_holds (h : Holds V0 s j) : out_main_v12 V0 = Cert.MoeRefIdeal.Step.R_main_v12 s := by
  unfold out_main_v12 Cert.MoeRefIdeal.Step.R_main_v12
  rw [h.f_6]
  try rfl

/-- One trip keeps the valuation holding: `step` of the state, the same set-up values, the next number. -/
theorem holds_step (h : Holds V0 s j) : Holds (STEP V0) (step j s) (j + 1) where
  f_6 := (STEP_main_v11_6 V0).trans (step_6 h)
  n_5 := (STEP_main_v11_5 V0).trans (step_5 h)
  f_0 := (STEP_main_v11_0 V0).trans h.f_0
  f_1 := (STEP_main_v11_1 V0).trans h.f_1
  f_2 := (STEP_main_v11_2 V0).trans h.f_2
  f_3 := (STEP_main_v11_3 V0).trans h.f_3
  f_4 := (STEP_main_v11_4 V0).trans h.f_4

/-- The state the first trip starts from, of the memory the run starts from. -/
abbrev initState (m : (ℓ : Loc nD τ sig) → Buf (Elt F) ℓ) (c : Dev nD) : State F :=
  init (m ((c.tc : Thread nD τ).loc main_arg3)) (m ((c.tc : Thread nD τ).loc main_arg4)) (m ((c.tc : Thread nD τ).loc main_arg5)) (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `MoeRefIdeal` terminates with each result at its field of state
    number 320 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v12) = Cert.MoeRefIdeal.Step.R_main_v12 (it c 320)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 320
    ⟨(h c).1.trans (out_main_v12_holds hk), (h c).2.1, (h c).2.2.1, (h c).2.2.2.1, (h c).2.2.2.2.1, (h c).2.2.2.2.2.1, (h c).2.2.2.2.2.2⟩) (Value.run m ρ)

end Cert.MoeRefIdeal.StepRun

end
-- ==== Proof.MoeClaim.lean ====
module

public import proofs.«01_k».proof.Defs
public import proofs.«01_k».proof.Proof.MoePin
public import proofs.«01_k».proof.Proof.MoeValue
public import proofs.«01_k».proof.Proof.MoeRef
public import proofs.«01_k».proof.Proof.MoeStep
public import Idealize.ShloMosaic.Lib.Claim

@[expose] public section

set_option maxRecDepth 16384

noncomputable section

/-! The claims about the mixture of experts. -/

namespace Cert.MoeProof

open Idealize.ShloMosaic Idealize.ShloMosaic.TcCoe Idealize.SL.Sem
open Cert.MoeIdeal.Tables

theorem frame_ref : Cert.quiescent_MoeRefIdeal := fun m ρ _ =>
  (θ_run Cert.MoeRefIdeal.defs _ _).mono (fun r h => ⟨fun c => (h c).2, sem_eq_zero_of_no_sems (by decide) r.2⟩)
    (Cert.MoeRefIdeal.StepRun.run_iter m ρ (fun c => Cert.MoeRefIdeal.it (Cert.MoeRefIdeal.StepRun.initState m c)) (fun _ => rfl) (fun _ _ => rfl))

theorem frame_ref_pre : Cert.quiescent_MoeRefIdeal_pre_plan_in_range := fun m ρ _ => frame_ref m ρ trivial

/-- The layer of the stored arrays, under a table. -/
def out (ch : Tab Ideal) (m : (ℓ : Loc Cert.MoeIdeal.nD Cert.MoeIdeal.τ Cert.MoeIdeal.sig) → Buf (Elt Ideal) ℓ) (c : Dev Cert.MoeIdeal.nD) :
    FVec Ideal Cert.MoeIdeal.S40960x1024 .f32 :=
  fun y => Cert.MoeRefIdeal.layer (aX m c) ch.be ch.nu (aG m c) (aU m c) (aD m c) (y 0) (y 1)

/-- The reference's loop, begun at the stored arrays, ends with that layer. -/
theorem ref_result (ch : Tab Ideal) (m : (ℓ : Loc Cert.MoeIdeal.nD Cert.MoeIdeal.τ Cert.MoeIdeal.sig) → Buf (Elt Ideal) ℓ) (c : Dev Cert.MoeIdeal.nD) :
    Cert.MoeRefIdeal.Step.R_main_v12 (Cert.MoeRefIdeal.it (Cert.MoeRefIdeal.Step.init (aG m c) (aU m c) (aD m c) (aX m c) (pinT_0 ch) (pinT_1 ch)) 320)
      = out ch m c := by
  refine funext fun (y : Cert.MoeRefIdeal.S40960x1024.Idx) => ?_
  obtain ⟨r, k, rfl⟩ : ∃ r k, y = ix2 r k := ⟨y 0, y 1, eq_ix2 y⟩
  exact Cert.MoeRefIdeal.ref_at (aX m c) ch.be ch.nu (aG m c) (aU m c) (aD m c) r k

theorem algebraic : Cert.algebraic_MoeIdeal_MoeRefIdeal := by
  intro m g m' g' hpre hargs
  obtain ⟨ch, hp⟩ := pinned_of_pre m hpre
  refine ⟨out ch m, ?_, ?_⟩
  · refine (θ_run Cert.MoeIdeal.defs _ _).mono (fun r h c => ?_) (θ_run_and (run_main ch m g hp) (unchanged ch m g hp))
    exact ⟨((h.1 c).1 (4 : Fin 5)).trans (final ch m g c), h.2 c⟩
  · refine (θ_run Cert.MoeRefIdeal.defs _ _).mono (fun r h c => ?_)
      (Cert.MoeRefIdeal.StepRun.run_iter m' g' (fun c => Cert.MoeRefIdeal.it (Cert.MoeRefIdeal.StepRun.initState m' c)) (fun _ => rfl) (fun _ _ => rfl))
    refine ⟨(h c).1.trans ?_, (h c).2⟩
    obtain ⟨h0, h1, h2, h3, h4, h5⟩ := hargs c
    have e : Cert.MoeRefIdeal.StepRun.initState m' c = Cert.MoeRefIdeal.Step.init (aG m c) (aU m c) (aD m c) (aX m c) (pinT_0 ch) (pinT_1 ch) := by
      have h1' := h1.trans (hp.1 c)
      have h2' := h2.trans (hp.2 c)
      unfold Cert.MoeRefIdeal.StepRun.initState
      rw [h0, h1', h2', h3, h4, h5]
    show Cert.MoeRefIdeal.Step.R_main_v12 (Cert.MoeRefIdeal.it (Cert.MoeRefIdeal.StepRun.initState m' c) 320) = _
    rw [e]
    exact ref_result ch m c

end Cert.MoeProof

end
-- ==== Proof.OutMath.lean ====
module

public import Idealize.ShloMosaic.Lib.Pointwise

@[expose] public section

set_option maxRecDepth 16384

noncomputable section

/-! The arithmetic of one row of the output projection, over extended reals. -/

namespace Cert.OutMath

open Idealize.ShloMosaic

/-- One head's normalised output at a column, times the gain and the column's gate through silu. -/
def gated (o gn gg : Fin 128 → EReal) (k : Fin 128) : EReal :=
  o k * Ideal.rsqrt (Ideal.div (∑ i, o i * o i) (Ideal.ofBits FTy.f32 1124073472#32) + Ideal.ofBits FTy.f32 897988541#32) * gn k
    * (gg k * Ideal.div 1 (1 + Ideal.exp (-gg k)))

/-- A sum over 1024 columns is the sum over the first 256, the next 256, and the four heads of 128 that follow. -/
theorem sum_heads (f : Fin 1024 → EReal) :
    ∑ j, f j = (∑ l : Fin 256, f ⟨l, by omega⟩) + (∑ l : Fin 256, f ⟨256 + l, by omega⟩) + (∑ l : Fin 128, f ⟨512 + l, by omega⟩)
      + (∑ l : Fin 128, f ⟨640 + l, by omega⟩) + (∑ l : Fin 128, f ⟨768 + l, by omega⟩) + ∑ l : Fin 128, f ⟨896 + l, by omega⟩ :=
  (Fin.sum_univ_add (a := 896) (b := 128) f).trans <| congrArg (· + _) <|
    (Fin.sum_univ_add (a := 768) (b := 128) fun j => f ⟨j, by omega⟩).trans <| congrArg (· + _) <|
    (Fin.sum_univ_add (a := 640) (b := 128) fun j => f ⟨j, by omega⟩).trans <| congrArg (· + _) <|
    (Fin.sum_univ_add (a := 512) (b := 128) fun j => f ⟨j, by omega⟩).trans <| congrArg (· + _) <|
    Fin.sum_univ_add (a := 256) (b := 256) fun j => f ⟨j, by omega⟩

end Cert.OutMath

end
-- ==== Proof.OutPure.lean ====
module

public import proofs.«01_k».proof.Proof.Gen.OutIdeal.Skeleton
public import proofs.«01_k».proof.Proof.OutMath

@[expose] public section

set_option maxRecDepth 16384

noncomputable section

/-! What one point of the output projection computes, read at a row and a column. -/

namespace Cert.OutIdeal

open Idealize.ShloMosaic Idealize.ShloMosaic.TcCoe Idealize.SL.Sem
open Cert.OutIdeal.Gen

/-- The two attention parts: each is its 256 columns against their rows of the weights. -/
theorem pay2_at (a b : FVec Ideal S512x256 .f32) (u v : FVec Ideal S256x1024 .bf16) (r : Fin 512) (k : Fin 1024) :
    k0_pay2 (F := Ideal) a u b v (ix2 r k)
      = (∑ l : Fin 256, a (ix2 r l) * u (ix2 l k)) + ∑ l : Fin 256, b (ix2 r l) * v (ix2 l k) := by
  pointwise [k0_pay2]

/-- The first two heads are added. -/
theorem pay7_at (acc : FVec Ideal S512x1024 .f32) (o p gg hh : FVec Ideal S512x128 .f32) (gn : FVec Ideal S1x128 .f32)
    (u v : FVec Ideal S128x1024 .bf16) (r : Fin 512) (k : Fin 1024) :
    k0_pay7 (F := Ideal) acc (k0_pay3 o gn) (k0_pay4 gg) (k0_pay5 gg) k0_pay6 u p gn hh v (ix2 r k)
      = acc (ix2 r k)
        + (∑ l : Fin 128, OutMath.gated (fun i => o (ix2 r i)) (fun i => gn (ix2 0 i)) (fun i => gg (ix2 r i)) l * u (ix2 l k))
        + ∑ l : Fin 128, OutMath.gated (fun i => p (ix2 r i)) (fun i => gn (ix2 0 i)) (fun i => hh (ix2 r i)) l * v (ix2 l k) := by
  pointwise [k0_pay7, k0_pay3, k0_pay4, k0_pay5, k0_pay6]
  try simp only [zero_sub]
  rfl

/-- The third head is added. -/
theorem pay8_at (acc : FVec Ideal S512x1024 .f32) (o gg : FVec Ideal S512x128 .f32) (gn : FVec Ideal S1x128 .f32)
    (u : FVec Ideal S128x1024 .bf16) (r : Fin 512) (k : Fin 1024) :
    k0_pay8 (F := Ideal) acc o gn gg u (ix2 r k)
      = acc (ix2 r k)
        + ∑ l : Fin 128, OutMath.gated (fun i => o (ix2 r i)) (fun i => gn (ix2 0 i)) (fun i => gg (ix2 r i)) l * u (ix2 l k) := by
  pointwise [k0_pay8]
  try simp only [zero_sub]
  rfl

/-- The fourth head is added, and the sum to the input's rows. -/
theorem pay1_at (acc x : FVec Ideal S512x1024 .f32) (o gg : FVec Ideal S512x128 .f32) (gn : FVec Ideal S1x128 .f32)
    (u : FVec Ideal S128x1024 .bf16) (r : Fin 512) (k : Fin 1024) :
    k0_pay1 (F := Ideal) acc (k0_pay9 o) (k0_pay10 gn) (k0_pay11 o) gg u x (ix2 r k)
      = x (ix2 r k) + (acc (ix2 r k)
        + ∑ l : Fin 128, OutMath.gated (fun i => o (ix2 r i)) (fun i => gn (ix2 0 i)) (fun i => gg (ix2 r i)) l * u (ix2 l k)) := by
  pointwise [k0_pay1, k0_pay9, k0_pay10, k0_pay11]
  try simp only [zero_sub]
  rfl

end Cert.OutIdeal

end
-- ==== Proof.OutRefTerm.lean ====
module

public import proofs.«01_k».proof.Proof.Gen.OutRefIdeal.Run
public import proofs.«01_k».proof.Proof.OutMath

@[expose] public section

set_option maxRecDepth 16384

noncomputable section

/-! What the output projection's reference computes, as one function of its arrays, and that function read at a row and a column. -/

namespace Cert.OutRefIdeal

open Idealize.ShloMosaic Idealize.ShloMosaic.TcCoe Idealize.SL.Sem
open Cert.OutRefIdeal.Gen Cert.OutRefIdeal.Value

/-- The 1024 columns the output weights take: the two attention outputs, then the four gated heads. -/
def CAT (Of On : FVec Ideal S4x4096x256 .f32) (Og : FVec Ideal S4x4096x4x128 .f32)
    (Gg : FVec Ideal S4x4096x512 .f32) (Gn : FVec Ideal S128 .f32) : FVec Ideal S4x4096x1024 .f32 :=
  concatenate S4x4096x1024 2 [⟨S4x4096x256, (Of)⟩, ⟨S4x4096x256, (On)⟩, ⟨S4x4096x512, ((mulf (shapeCast _ (mulf (mulf Og (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf Og Og) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 Gn))) shapeCasts_S4x4096x4x128_S4x4096x512) (mulf Gg (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf Gg)))))))⟩] concatenates_S4x4096x256_S4x4096x256_S4x4096x512_S4x4096x1024_d2

/-- The reference's result as a term of its arrays. -/
def REF (X : FVec Ideal S4x4096x1024 .f32) (Of On : FVec Ideal S4x4096x256 .f32) (Og : FVec Ideal S4x4096x4x128 .f32)
    (Gg : FVec Ideal S4x4096x512 .f32) (Gn : FVec Ideal S128 .f32) (W : FVec Ideal S1024x1024 .f32) : FVec Ideal S16384x1024 .f32 :=
  shapeCast _ (addf X (Host.dotGeneral dot_S4x4096x1024_S1024x1024_S4x4096x1024_2_0_01_1_n_n none (CAT Of On Og Gg Gn) W)) shapeCasts_S4x4096x1024_S16384x1024

/-- Head `h` of position `p` of batch `b`, gated. -/
def head (Og : FVec Ideal S4x4096x4x128 .f32) (Gg : FVec Ideal S4x4096x512 .f32) (Gn : FVec Ideal S128 .f32)
    (b : Fin 4) (p : Fin 4096) (h : Fin 4) (l : Fin 128) : EReal :=
  OutMath.gated (fun i => Og (ix4 b p h i)) (fun i => Gn (ix1 i)) (fun i => Gg (ix3 b p ⟨h * 128 + i, by omega⟩)) l

/-- The first 256 columns are the first attention output. -/
theorem cat_fox (Of On : FVec Ideal S4x4096x256 .f32) (Og : FVec Ideal S4x4096x4x128 .f32)
    (Gg : FVec Ideal S4x4096x512 .f32) (Gn : FVec Ideal S128 .f32) (b : Fin 4) (p : Fin 4096) (l : Fin 256) :
    CAT Of On Og Gg Gn (ix3 b p ⟨l, by omega⟩) = Of (ix3 b p l) := by
  pointwise [CAT]

/-- The next 256 are the second. -/
theorem cat_nsa (Of On : FVec Ideal S4x4096x256 .f32) (Og : FVec Ideal S4x4096x4x128 .f32)
    (Gg : FVec Ideal S4x4096x512 .f32) (Gn : FVec Ideal S128 .f32) (b : Fin 4) (p : Fin 4096) (l : Fin 256) :
    CAT Of On Og Gg Gn (ix3 b p ⟨256 + l, by omega⟩) = On (ix3 b p l) := by
  pointwise [CAT]

/-- Each head's 128 columns are the head, gated. -/
theorem cat_head (Of On : FVec Ideal S4x4096x256 .f32) (Og : FVec Ideal S4x4096x4x128 .f32)
    (Gg : FVec Ideal S4x4096x512 .f32) (Gn : FVec Ideal S128 .f32) (b : Fin 4) (p : Fin 4096) (h : Fin 4) (l : Fin 128) :
    CAT Of On Og Gg Gn (ix3 b p ⟨512 + (h * 128 + l), by omega⟩) = head Og Gg Gn b p h l := by
  pointwise [CAT]
  rw [dif_neg (by omega), dif_neg (by omega)]
  unfold head OutMath.gated
  have e1 : 512 + (h.val * 128 + l.val) - 256 - 256 = h.val * 128 + l.val := by omega
  have e2 : (h.val * 128 + l.val) / 128 = h.val := by omega
  have e3 : (h.val * 128 + l.val) % 128 = l.val := by omega
  simp only [e1, e2, e3, Fin.eta]

/-- Row `r` of the input, the batch and the position read off the row's number. -/
def xrow (X : FVec Ideal S4x4096x1024 .f32) (r : Fin 16384) (k : Fin 1024) : EReal :=
  X (ix3 ⟨r / 4096, by omega⟩ ⟨r % 4096, by omega⟩ k)

/-- Row `r` of one of the attention outputs. -/
def arow (O : FVec Ideal S4x4096x256 .f32) (r : Fin 16384) (l : Fin 256) : EReal :=
  O (ix3 ⟨r / 4096, by omega⟩ ⟨r % 4096, by omega⟩ l)

/-- The heads of row `r`, gated. -/
def hrow (Og : FVec Ideal S4x4096x4x128 .f32) (Gg : FVec Ideal S4x4096x512 .f32) (Gn : FVec Ideal S128 .f32)
    (r : Fin 16384) (h : Fin 4) (l : Fin 128) : EReal :=
  head Og Gg Gn ⟨r / 4096, by omega⟩ ⟨r % 4096, by omega⟩ h l

/-- The reference at a row and a column: the row's entry plus the parts of the concatenated columns, one after another. -/
theorem ref_at (X : FVec Ideal S4x4096x1024 .f32) (Of On : FVec Ideal S4x4096x256 .f32) (Og : FVec Ideal S4x4096x4x128 .f32)
    (Gg : FVec Ideal S4x4096x512 .f32) (Gn : FVec Ideal S128 .f32) (W : FVec Ideal S1024x1024 .f32) (r : Fin 16384) (k : Fin 1024) :
    REF X Of On Og Gg Gn W (ix2 r k : S16384x1024.Idx) = xrow X r k +
      ((∑ l : Fin 256, arow Of r l * W (ix2 ⟨l, by omega⟩ k)) + (∑ l : Fin 256, arow On r l * W (ix2 ⟨256 + l, by omega⟩ k))
        + (∑ l : Fin 128, hrow Og Gg Gn r 0 l * W (ix2 ⟨512 + l, by omega⟩ k))
        + (∑ l : Fin 128, hrow Og Gg Gn r 1 l * W (ix2 ⟨640 + l, by omega⟩ k))
        + (∑ l : Fin 128, hrow Og Gg Gn r 2 l * W (ix2 ⟨768 + l, by omega⟩ k))
        + ∑ l : Fin 128, hrow Og Gg Gn r 3 l * W (ix2 ⟨896 + l, by omega⟩ k)) := by
  have e (h : Fin 4) (n : ℕ) (hn : n = 512 + h.val * 128) (l : Fin 128) (hl : n + l.val < 1024) :
      CAT Of On Og Gg Gn (ix3 ⟨r / 4096, by omega⟩ ⟨r % 4096, by omega⟩ ⟨n + l, hl⟩) = hrow Og Gg Gn r h l := by
    subst hn
    refine Eq.trans (congrArg _ ?_) (cat_head Of On Og Gg Gn ⟨r / 4096, by omega⟩ ⟨r % 4096, by omega⟩ h l)
    simp only [Nat.add_assoc]
  pointwise [REF]
  rw [OutMath.sum_heads]
  refine congrArg (xrow X r k + ·) ?_
  refine congrArg₂ (· + ·) (congrArg₂ (· + ·) (congrArg₂ (· + ·) (congrArg₂ (· + ·) (congrArg₂ (· + ·) ?_ ?_) ?_) ?_) ?_) ?_
  · exact Finset.sum_congr rfl fun l _ => congrArg (· * _) (cat_fox Of On Og Gg Gn _ _ l)
  · exact Finset.sum_congr rfl fun l _ => congrArg (· * _) (cat_nsa Of On Og Gg Gn _ _ l)
  · exact Finset.sum_congr rfl fun l _ => congrArg (· * _) (e 0 512 rfl l _)
  · exact Finset.sum_congr rfl fun l _ => congrArg (· * _) (e 1 640 rfl l _)
  · exact Finset.sum_congr rfl fun l _ => congrArg (· * _) (e 2 768 rfl l _)
  · exact Finset.sum_congr rfl fun l _ => congrArg (· * _) (e 3 896 rfl l _)

end Cert.OutRefIdeal

end
-- ==== Proof.OutValue.lean ====
module

public import proofs.«01_k».proof.Proof.Gen.OutIdeal.Value
public import proofs.«01_k».proof.Proof.OutPure
public import proofs.«01_k».proof.Proof.OutRefTerm
public import Idealize.ShloMosaic.Lib.Pipeline.ValueKit
public import Idealize.ShloMosaic.Lib.Tactic

@[expose] public section

set_option maxRecDepth 16384

noncomputable section

/-! What the output projection leaves in its result, tile by tile. -/

namespace Cert.OutIdeal

open Idealize.ShloMosaic Idealize.ShloMosaic.TcCoe Idealize.SL.Sem
open Cert.OutIdeal.Gen

/-- Where every window stands at a point: tile `t` of the rows, and the whole of the gain and the weights. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] :=
  (by decide +kernel : ∀ t : Fin grid0.N, _)

theorem lt_N (t : Fin cfg0.N) : t.val < 32 := lt_of_lt_of_eq t.isLt N_0

/-- The row of the whole array that row `r` of point `t`'s tile is. -/
def row (t : Fin cfg0.N) (r : Fin 512) : Fin 16384 := ⟨t.val * 512 + r, by have := lt_N t; omega⟩

variable (m : (ℓ : Loc nD τ sig) → Buf (Elt Ideal) ℓ)

/-- The input array. -/
abbrev aX (c : Dev nD) : FVec Ideal S4x4096x1024 .f32 := m ((c : Thread nD τ).loc main_arg0)
/-- The first attention output. -/
abbrev aOf (c : Dev nD) : FVec Ideal S4x4096x256 .f32 := m ((c : Thread nD τ).loc main_arg1)
/-- The second attention output. -/
abbrev aOn (c : Dev nD) : FVec Ideal S4x4096x256 .f32 := m ((c : Thread nD τ).loc main_arg2)
/-- The heads. -/
abbrev aOg (c : Dev nD) : FVec Ideal S4x4096x4x128 .f32 := m ((c : Thread nD τ).loc main_arg3)
/-- The heads' gates. -/
abbrev aGg (c : Dev nD) : FVec Ideal S4x4096x512 .f32 := m ((c : Thread nD τ).loc main_arg4)
/-- The heads' gain. -/
abbrev aGn (c : Dev nD) : FVec Ideal S128 .f32 := m ((c : Thread nD τ).loc main_arg5)
/-- The output weights. -/
abbrev aW (c : Dev nD) : FVec Ideal S1024x1024 .f32 := m ((c : Thread nD τ).loc main_arg6)

/-- The input's tile. -/
abbrev bX (c : Dev nD) (t : Fin cfg0.N) : FVec Ideal S512x1024 .f32 := iblk m c 0 t
/-- The first attention output's tile. -/
abbrev bOf (c : Dev nD) (t : Fin cfg0.N) : FVec Ideal S512x256 .f32 := iblk m c 1 t
/-- The second attention output's tile. -/
abbrev bOn (c : Dev nD) (t : Fin cfg0.N) : FVec Ideal S512x256 .f32 := iblk m c 2 t
/-- The heads' tile. -/
abbrev bOg (c : Dev nD) (t : Fin cfg0.N) : FVec Ideal S512x512 .f32 := iblk m c 3 t
/-- The gates' tile. -/
abbrev bGg (c : Dev nD) (t : Fin cfg0.N) : FVec Ideal S512x512 .f32 := iblk m c 4 t
/-- The gain, whole. -/
abbrev bGn (c : Dev nD) (t : Fin cfg0.N) : FVec Ideal S1x128 .f32 := iblk m c 5 t
/-- The weights, whole. -/
abbrev bW (c : Dev nD) (t : Fin cfg0.N) : FVec Ideal S1024x1024 .bf16 := iblk m c 6 t

theorem blk0 (c : Dev nD) (t : Fin cfg0.N) (r : Fin 512) (k : Fin 1024) :
    bX m c t (ix2 r k) = OutRefIdeal.xrow (aX m c) (row t r) k := by
  unfold OutRefIdeal.xrow row bX
  blk_point [iblk, V, idx t]

theorem blk1 (c : Dev nD) (t : Fin cfg0.N) (r : Fin 512) (k : Fin 256) :
    bOf m c t (ix2 r k) = OutRefIdeal.arow (aOf m c) (row t r) k := by
  unfold OutRefIdeal.arow row bOf
  blk_point [iblk, V, idx t]

theorem blk2 (c : Dev nD) (t : Fin cfg0.N) (r : Fin 512) (k : Fin 256) :
    bOn m c t (ix2 r k) = OutRefIdeal.arow (aOn m c) (row t r) k := by
  unfold OutRefIdeal.arow row bOn
  blk_point [iblk, V, idx t]

theorem blk3 (c : Dev nD) (t : Fin cfg0.N) (r : Fin 512) (k : Fin 512) :
    bOg m c t (ix2 r k) = aOg m c (ix4 ⟨row t r / 4096, by omega⟩ ⟨row t r % 4096, by omega⟩ ⟨k / 128, by omega⟩ ⟨k % 128, by omega⟩) := by
  unfold row bOg
  blk_point [iblk, V, idx t]

theorem blk4 (c : Dev nD) (t : Fin cfg0.N) (r : Fin 512) (k : Fin 512) :
    bGg m c t (ix2 r k) = aGg m c (ix3 ⟨row t r / 4096, by omega⟩ ⟨row t r % 4096, by omega⟩ k) := by
  unfold row bGg
  blk_point [iblk, V, idx t]

theorem blk5 (c : Dev nD) (t : Fin cfg0.N) (k : Fin 128) : bGn m c t (ix2 0 k) = aGn m c (ix1 k) := by
  unfold bGn
  blk_point [iblk, V, idx t]

theorem blk6 (c : Dev nD) (t : Fin cfg0.N) (l k : Fin 1024) : bW m c t (ix2 l k) = aW m c (ix2 l k) := by
  unfold bW
  blk_ext [iblk, V, idx t]

/-- A load of a part of a block reads the block's entry at the part's offsets. -/
theorem part2 {a b p q : ℕ} {e : EltTy} (X : (⟨2, ![a, b]⟩ : Shape).Idx → Elt Ideal e) {off : Fin 2 → ℕ} (inb : ∀ i, off i + (![p, q] : Fin 2 → ℕ) i ≤ (![a, b] : Fin 2 → ℕ) i)
    (r : Fin p) (l : Fin q) (r' : Fin a) (l' : Fin b) (hr : (r' : ℕ) = off 0 + r) (hl : (l' : ℕ) = off 1 + l) :
    View.ld (Val := Elt Ideal) X (Rect.unit (s := ⟨2, ![a, b]⟩) off ![p, q] inb) (ix2 r l) = X (ix2 r' l') :=
  View.ld_unit_apply_of X off ![p, q] inb (ix2 r l) (ix2 r' l') (Fin.forall_fin_two.mpr ⟨hr, hl⟩)

/-- A head's columns of the two tiles, gated, are the head of the reference's row. -/
theorem heads (c : Dev nD) (t : Fin cfg0.N) (r : Fin 512) (h : Fin 4) (o gg : Fin 128 → EReal) (gn : Fin 128 → EReal)
    (ho : ∀ l : Fin 128, o l = bOg m c t (ix2 r ⟨h * 128 + l, by omega⟩))
    (hg : ∀ l : Fin 128, gg l = bGg m c t (ix2 r ⟨h * 128 + l, by omega⟩)) (hn : ∀ l : Fin 128, gn l = bGn m c t (ix2 0 l)) :
    OutMath.gated o gn gg = OutRefIdeal.hrow (aOg m c) (aGg m c) (aGn m c) (row t r) h := by
  have e2 (l : Fin 128) : (h.val * 128 + l.val) / 128 = h.val := by omega
  have e3 (l : Fin 128) : (h.val * 128 + l.val) % 128 = l.val := by omega
  unfold OutRefIdeal.hrow OutRefIdeal.head
  refine congr (congr (congrArg OutMath.gated ?_) ?_) ?_
  · funext l
    rw [ho, blk3]
    simp only [e2, e3, Fin.eta]
  · funext l
    rw [hn, blk5]
  · funext l
    rw [hg, blk4]

/-- What a point writes back: the reference's rows. -/
theorem point (c : Dev nD) (t : Fin cfg0.N) (r : Fin 512) (k : Fin 1024) :
    out0_7 (F := Ideal) (bX m c t) (bOf m c t) (bOn m c t) (bOg m c t) (bGg m c t) (bGn m c t) (bW m c t) (ix2 r k)
      = OutRefIdeal.REF (aX m c) (aOf m c) (aOn m c) (aOg m c) (aGg m c) (aGn m c) (aW m c) (ix2 (row t r) k) := by
  unfold out0_7
  frame_out
  refine (pay1_at _ _ _ _ _ _ r k).trans ?_
  rw [pay8_at, pay7_at, pay2_at, OutRefIdeal.ref_at]
  refine congrArg₂ (· + ·) ?_ ?_
  · refine Eq.trans ?_ (blk0 m c t r k)
    frame_out
  refine congrArg₂ (· + ·) (congrArg₂ (· + ·) (congrArg₂ (· + ·) (congrArg₂ (· + ·) (congrArg₂ (· + ·) ?_ ?_) ?_) ?_) ?_) ?_
  · refine Finset.sum_congr rfl fun l _ => congrArg₂ (· * ·) (Eq.trans ?_ (blk1 m c t r l)) (Eq.trans ?_ (blk6 m c t _ k))
    · frame_out
    · exact part2 _ _ _ _ _ _ (by simp) (by simp)
  · refine Finset.sum_congr rfl fun l _ => congrArg₂ (· * ·) (Eq.trans ?_ (blk2 m c t r l)) (Eq.trans ?_ (blk6 m c t _ k))
    · frame_out
    · exact part2 _ _ _ _ _ _ (by simp) (by simp)
  · refine Finset.sum_congr rfl fun l _ => congrArg₂ (· * ·) (congrFun (heads m c t r 0 _ _ _ ?_ ?_ ?_) l) (Eq.trans ?_ (blk6 m c t _ k))
    · intro l; exact part2 _ _ _ _ _ _ (by simp) (by simp)
    · intro l; exact part2 _ _ _ _ _ _ (by simp) (by simp)
    · intro l; frame_out
    · exact part2 _ _ _ _ _ _ (by simp) (by simp)
  · refine Finset.sum_congr rfl fun l _ => congrArg₂ (· * ·) (congrFun (heads m c t r 1 _ _ _ ?_ ?_ ?_) l) (Eq.trans ?_ (blk6 m c t _ k))
    · intro l; exact part2 _ _ _ _ _ _ (by simp) (by simp)
    · intro l; exact part2 _ _ _ _ _ _ (by simp) (by simp)
    · intro l; frame_out
    · exact part2 _ _ _ _ _ _ (by simp) (by simp)
  · refine Finset.sum_congr rfl fun l _ => congrArg₂ (· * ·) (congrFun (heads m c t r 2 _ _ _ ?_ ?_ ?_) l) (Eq.trans ?_ (blk6 m c t _ k))
    · intro l; exact part2 _ _ _ _ _ _ (by simp) (by simp)
    · intro l; exact part2 _ _ _ _ _ _ (by simp) (by simp)
    · intro l; frame_out
    · exact part2 _ _ _ _ _ _ (by simp) (by simp)
  · refine Finset.sum_congr rfl fun l _ => congrArg₂ (· * ·) (congrFun (heads m c t r 3 _ _ _ ?_ ?_ ?_) l) (Eq.trans ?_ (blk6 m c t _ k))
    · intro l; exact part2 _ _ _ _ _ _ (by simp) (by simp)
    · intro l; exact part2 _ _ _ _ _ _ (by simp) (by simp)
    · intro l; frame_out
    · exact part2 _ _ _ _ _ _ (by simp) (by simp)

/-- The result array is the reference's. -/
theorem final (c : Dev nD) : (dats m 0 c).arrAt 7 (cfgs 0).N
    = OutRefIdeal.REF (aX m c) (aOf m c) (aOn m c) (aOg m c) (aGg m c) (aGn m c) (aW m c) := by
  refine (dats m 0 c).arrAt_eq_of_covers 7 _ (by decide +kernel) fun t hf y => ?_
  obtain ⟨r, k, rfl⟩ : ∃ r k, y = ix2 r k := ⟨y 0, y 1, eq_ix2 y⟩
  blk_simp
  rw [after0_7]
  refine (point m c t r k).trans ?_
  unfold row
  blk_ext [idx t]

end Cert.OutIdeal

end
-- ==== Proof.OutClaim.lean ====
module

public import proofs.«01_k».proof.Defs
public import proofs.«01_k».proof.Proof.Gen.Out.Frame
public import proofs.«01_k».proof.Proof.OutValue
public import Idealize.ShloMosaic.Lib.Claim

@[expose] public section

set_option maxRecDepth 16384

noncomputable section

/-! The claims about the output projection. -/

namespace Cert.OutProof

open Idealize.ShloMosaic Idealize.ShloMosaic.TcCoe Idealize.SL.Sem

theorem frame_out : Cert.quiescent_Out := fun m ρ _ => Cert.Out.Gen.frame m ρ

theorem frame_ideal : Cert.quiescent_OutIdeal := fun m ρ _ => Cert.OutIdeal.Gen.frame m ρ

theorem frame_ref : Cert.quiescent_OutRefIdeal := fun m ρ _ =>
  (θ_run Cert.OutRefIdeal.defs _ _).mono (fun r h => ⟨fun c => (h c).2, sem_eq_zero_of_no_sems (by decide) r.2⟩) (Cert.OutRefIdeal.Value.run m ρ)

theorem algebraic : Cert.algebraic_OutIdeal_OutRefIdeal := by
  pair_intro
  · run_from Cert.OutIdeal.Value.run_blocks m g
  · run_from Cert.OutRefIdeal.Value.run m' g'
    refine Eq.trans ?_ (Cert.OutIdeal.final m c).symm
    obtain ⟨-, e1, e2, e3, e4, e5, -⟩ := hagree c
    refine Eq.trans (b := Cert.OutRefIdeal.REF (Cert.OutIdeal.aX m c) (m' ((c.tc : Thread Cert.OutRefIdeal.nD Cert.OutRefIdeal.τ).loc Cert.OutRefIdeal.main_arg1)) (m' ((c.tc : Thread Cert.OutRefIdeal.nD Cert.OutRefIdeal.τ).loc Cert.OutRefIdeal.main_arg2)) (m' ((c.tc : Thread Cert.OutRefIdeal.nD Cert.OutRefIdeal.τ).loc Cert.OutRefIdeal.main_arg3)) (m' ((c.tc : Thread Cert.OutRefIdeal.nD Cert.OutRefIdeal.τ).loc Cert.OutRefIdeal.main_arg4)) (m' ((c.tc : Thread Cert.OutRefIdeal.nD Cert.OutRefIdeal.τ).loc Cert.OutRefIdeal.main_arg5)) (Cert.OutIdeal.aW m c)) rfl ?_
    rw [e1, e2, e3, e4, e5]

end Cert.OutProof

end
-- ==== Proof.InMath.lean ====
module

public import proofs.«01_k».proof.Proof.DenseMath

@[expose] public section

set_option maxRecDepth 16384

noncomputable section

/-! The arithmetic of one row of the input projection, over extended reals. -/

namespace Cert.InMath

open Idealize.ShloMosaic

/-- One column of the product: the normalised row `x` under the gain `g`, against the column `w`. -/
def dot (x g w : Fin 1024 → EReal) : EReal := ∑ k, DenseMath.hrow x g k * w k

/-- One head of 64 columns, its first 16 turned: column `d` of the first eight goes with column `d + 8`. -/
def rope (x : Fin 64 → EReal) (c s : Fin 8 → EReal) (d : Fin 64) : EReal :=
  if h : d.val < 8 then x d * c ⟨d, h⟩ - x ⟨d + 8, by omega⟩ * s ⟨d, h⟩
  else if h' : d.val < 16 then x d * c ⟨d - 8, by omega⟩ + x ⟨d - 8, by omega⟩ * s ⟨d - 8, by omega⟩
  else x d

/-- The two numbers on which a column's gate rests: the greater of `-y` and zero, and the logarithm's part. -/
def soft (y : EReal) : EReal := max (-y) 0 + Ideal.log1p (Ideal.exp (-(max y (-y))))

end Cert.InMath

end
-- ==== Proof.InPure.lean ====
module

public import proofs.«01_k».proof.Proof.Gen.InIdeal.Skeleton
public import proofs.«01_k».proof.Proof.InMath

@[expose] public section

set_option maxRecDepth 16384

noncomputable section

/-! What one point of the input projection computes, read at a row and a column. -/

namespace Cert.InIdeal

open Idealize.ShloMosaic Idealize.ShloMosaic.TcCoe Idealize.SL.Sem
open Cert.InIdeal.Gen

/-- The normalised row. -/
theorem pay3_at (x : FVec Ideal S512x1024 .f32) (g : FVec Ideal S1x1024 .f32) (r : Fin 512) (k : Fin 1024) :
    k0_pay3 (F := Ideal) x g (ix2 r k) = DenseMath.hrow (fun i => x (ix2 r i)) (fun i => g (ix2 0 i)) k := by
  unfold DenseMath.hrow
  pointwise [k0_pay3]

theorem pay4_at (x : FVec Ideal S512x1024 .f32) (g : FVec Ideal S1x1024 .f32) (w : FVec Ideal S1024x256 .bf16) (r : Fin 512) (j : Fin 256) :
    k0_pay4 (F := Ideal) x g w (ix2 r j) = InMath.dot (fun i => x (ix2 r i)) (fun i => g (ix2 0 i)) (fun k => w (ix2 k j)) := by
  unfold InMath.dot
  pointwise [k0_pay4]
  simp only [pay3_at]

theorem pay5_at (x : FVec Ideal S512x1024 .f32) (g : FVec Ideal S1x1024 .f32) (w : FVec Ideal S1024x512 .bf16) (r : Fin 512) (j : Fin 512) :
    k0_pay5 (F := Ideal) x g w (ix4 0 0 j r) = InMath.dot (fun i => x (ix2 r i)) (fun i => g (ix2 0 i)) (fun k => w (ix2 k j)) := by
  unfold InMath.dot
  pointwise [k0_pay5]
  simp only [pay3_at]

theorem pay13_at (h : FVec Ideal S512x1024 .bf16) (w : FVec Ideal S1024x256 .bf16) (r : Fin 512) (j : Fin 256) :
    k0_pay13 (F := Ideal) h w (ix2 r j) = ∑ k, h (ix2 r k) * w (ix2 k j) := by
  pointwise [k0_pay13]

theorem pay16_at (h : FVec Ideal S512x1024 .bf16) (w : FVec Ideal S1024x384 .bf16) (r : Fin 512) (j : Fin 384) :
    k0_pay16 (F := Ideal) h w (ix2 r j) = ∑ k, h (ix2 r k) * w (ix2 k j) := by
  pointwise [k0_pay16]

theorem pay20_at (h : FVec Ideal S512x1024 .bf16) (w : FVec Ideal S1024x512 .bf16) (r : Fin 512) (j : Fin 512) :
    k0_pay20 (F := Ideal) h w (ix2 r j) = ∑ k, h (ix2 r k) * w (ix2 k j) := by
  pointwise [k0_pay20]

theorem pay21_at (h : FVec Ideal S512x1024 .bf16) (w : FVec Ideal S1024x512 .bf16) (r : Fin 512) (j : Fin 512) :
    k0_pay21 (F := Ideal) h w (ix2 r j) = ∑ k, h (ix2 r k) * w (ix2 k j) := by
  pointwise [k0_pay21]

theorem pay22_at (h : FVec Ideal S512x1024 .bf16) (w : FVec Ideal S1024x512 .bf16) (r : Fin 512) (j : Fin 512) :
    k0_pay22 (F := Ideal) h w (ix2 r j) = ∑ k, h (ix2 r k) * w (ix2 k j) := by
  pointwise [k0_pay22]

theorem pay23_at (h : FVec Ideal S512x1024 .bf16) (w : FVec Ideal S1024x128 .bf16) (r : Fin 512) (j : Fin 128) :
    k0_pay23 (F := Ideal) h w (ix2 r j) = ∑ k, h (ix2 r k) * w (ix2 k j) := by
  pointwise [k0_pay23]

/-- Columns turned by the tables: each goes with the one eight before it and the one eight after it, round the 128. -/
def turn (y a p q : Fin 128 → EReal) (j : Fin 128) : EReal :=
  y j * a j + y ⟨(j + 128 - 8) % 128, by omega⟩ * p j + y ⟨(j + 128 - 120) % 128, by omega⟩ * q j

theorem pay14_at (h : FVec Ideal S512x1024 .bf16) (a p q : FVec Ideal S512x128 .f32) (w : FVec Ideal S1024x256 .bf16) (r : Fin 512) (j : Fin 128) :
    k0_pay14 (F := Ideal) h a p q w (ix2 r j)
      = turn (fun j => k0_pay13 (F := Ideal) h w (ix2 r ⟨j, by omega⟩)) (fun j => a (ix2 r j)) (fun j => p (ix2 r j)) (fun j => q (ix2 r j)) j := by
  unfold turn
  pointwise [k0_pay14]

theorem pay15_at (h : FVec Ideal S512x1024 .bf16) (a p q : FVec Ideal S512x128 .f32) (w : FVec Ideal S1024x256 .bf16) (r : Fin 512) (j : Fin 128) :
    k0_pay15 (F := Ideal) h a p q w (ix2 r j)
      = turn (fun j => k0_pay13 (F := Ideal) h w (ix2 r ⟨128 + j, by omega⟩)) (fun j => a (ix2 r j)) (fun j => p (ix2 r j)) (fun j => q (ix2 r j)) j := by
  unfold turn
  pointwise [k0_pay15]

/-- The first 128 rows of the transposed block are columns as they are. -/
theorem pay18_lo (h : FVec Ideal S512x1024 .bf16) (a p q : FVec Ideal S512x128 .f32) (w : FVec Ideal S1024x384 .bf16) (r : Fin 512) (j : Fin 128) :
    k0_pay18 (F := Ideal) (k0_pay17 h a p q w) (ix4 0 0 ⟨j, by omega⟩ r) = k0_pay16 (F := Ideal) h w (ix2 r ⟨j, by omega⟩) := by
  pointwise [k0_pay18, k0_pay17]

/-- The next 128 are columns turned. -/
theorem pay18_hi (h : FVec Ideal S512x1024 .bf16) (a p q : FVec Ideal S512x128 .f32) (w : FVec Ideal S1024x384 .bf16) (r : Fin 512) (j : Fin 128) :
    k0_pay18 (F := Ideal) (k0_pay17 h a p q w) (ix4 0 0 ⟨128 + j, by omega⟩ r)
      = turn (fun j => k0_pay16 (F := Ideal) h w (ix2 r ⟨128 + j, by omega⟩)) (fun j => a (ix2 r j)) (fun j => p (ix2 r j)) (fun j => q (ix2 r j)) j := by
  unfold turn
  pointwise [k0_pay18, k0_pay17]

theorem pay19_at (a p q : FVec Ideal S512x128 .f32) (v : FVec Ideal S512x384 .f32) (r : Fin 512) (j : Fin 128) :
    k0_pay19 (F := Ideal) a p q v (ix3 0 j r)
      = turn (fun j => v (ix2 r ⟨256 + j, by omega⟩)) (fun j => a (ix2 r j)) (fun j => p (ix2 r j)) (fun j => q (ix2 r j)) j := by
  unfold turn
  pointwise [k0_pay19]

theorem pay7_at (v : FVec Ideal S512x768 .f32) (r : Fin 512) (j : Fin 128) : k0_pay7 (F := Ideal) v (ix2 r j) = v (ix2 r ⟨j, by omega⟩) := by
  pointwise [k0_pay7, k0_pay6]

theorem pay8_at (v : FVec Ideal S512x768 .f32) (r : Fin 512) (j : Fin 128) : k0_pay8 (F := Ideal) v (ix2 r j) = v (ix2 r ⟨128 + j, by omega⟩) := by
  pointwise [k0_pay8, k0_pay6]

theorem pay9_at (v : FVec Ideal S512x768 .f32) (r : Fin 512) (j : Fin 128) : k0_pay9 (F := Ideal) v (ix2 r j) = v (ix2 r ⟨256 + j, by omega⟩) := by
  pointwise [k0_pay9, k0_pay6]

theorem pay10_at (v : FVec Ideal S512x768 .f32) (r : Fin 512) (j : Fin 128) : k0_pay10 (F := Ideal) v (ix2 r j) = v (ix2 r ⟨384 + j, by omega⟩) := by
  pointwise [k0_pay10, k0_pay6]

theorem pay11_at (v : FVec Ideal S512x768 .f32) (r : Fin 512) (j : Fin 128) : k0_pay11 (F := Ideal) v (ix2 r j) = v (ix2 r ⟨512 + j, by omega⟩) := by
  pointwise [k0_pay11, k0_pay6]

theorem pay12_at (v : FVec Ideal S512x768 .f32) (r : Fin 512) (j : Fin 128) : k0_pay12 (F := Ideal) v (ix2 r j) = v (ix2 r ⟨640 + j, by omega⟩) := by
  pointwise [k0_pay12, k0_pay6]

theorem pay24_at (v : FVec Ideal S512x128 .f32) (w : FVec Ideal S128x256 .bf16) (b : FVec Ideal S1x256 .f32) (r : Fin 512) (j : Fin 256) :
    k0_pay24 (F := Ideal) v w b (ix2 r j) = -InMath.soft ((∑ l : Fin 128, v (ix2 r l) * w (ix2 l j)) + b (ix2 0 j)) * Ideal.ofBits FTy.f32 0x3D800000#32 := by
  unfold InMath.soft
  pointwise [k0_pay24]
  simp only [zero_sub]
  rfl

/-- Which of the eight columns are below four, as the word the comparison gives. -/
theorem below4 : ∀ j : Fin 8, IntOp.cmpi CmpIPredicate.slt (BitVec.ofNat 32 j) 4#32 = if j.val < 4 then 1#1 else 0#1 := by decide

theorem pay2_at (v : FVec Ideal S512x128 .f32) (b : FVec Ideal S1x128 .f32) (r : Fin 512) (j : Fin 8) :
    k0_pay2 (F := Ideal) (k0_pay25 v b) k0_pay26 (k0_pay27 v b) k0_pay28 (ix3 0 j r)
      = if j.val < 4 then -InMath.soft (v (ix2 r ⟨j, by omega⟩) + b (ix2 0 ⟨j, by omega⟩))
        else Ideal.div 1 (1 + Ideal.exp (-(v (ix2 r ⟨j, by omega⟩) + b (ix2 0 ⟨j, by omega⟩)))) := by
  unfold InMath.soft
  pointwise [k0_pay2, k0_pay1, k0_pay25, k0_pay26, k0_pay27, k0_pay28]
  simp only [zero_sub, below4]
  split_ifs <;> rfl

end Cert.InIdeal

end
-- ==== Proof.InRefTerm.lean ====
module

public import proofs.«01_k».proof.Proof.Gen.InRefIdeal.Run
public import proofs.«01_k».proof.Proof.InMath

@[expose] public section

set_option maxRecDepth 16384

noncomputable section

/-! What the reference of the input projection computes, as terms of its arrays, and the product under them. -/

namespace Cert.InRefIdeal

open Idealize.ShloMosaic Idealize.ShloMosaic.TcCoe Idealize.SL.Sem
open Cert.InRefIdeal.Gen Cert.InRefIdeal.Value

variable (V0 : Valuation τ sig (Elt Ideal))

/-- The forgetting queries, as a term of the arrays. -/
def RFQ : FVec Ideal S16384x256 .f32 :=
  shapeCast _ (extractStridedSlice S4x4096x256 ![0, 0, 0] (res_main_v13 V0) slices_S4x4096x2976_S4x4096x256_0_0_0) shapeCasts_S4x4096x256_S16384x256

/-- Both layers' forgetting keys and values, as a term of the arrays. -/
def RFKV : FVec Ideal S2x4x512x4096 .f32 :=
  concatenate S2x4x512x4096 0 [⟨S1x4x512x4096, (broadcastInDim S1x4x512x4096 ![1, 2, 3] bcast_S4x512x4096_S1x4x512x4096_1_2_3 (shapeCast _ (extractStridedSlice S1x4x512x4096 ![0, 0, 0, 0] (V0 (Proc.devRef .tc main_arg6)) slices_S2x4x512x4096_S1x4x512x4096_0_0_0_0) shapeCasts_S1x4x512x4096_S4x512x4096))⟩, ⟨S1x4x512x4096, (broadcastInDim S1x4x512x4096 ![1, 2, 3] bcast_S4x512x4096_S1x4x512x4096_1_2_3 (transpose S4x512x4096 [0, 2, 1] (concatenate S4x4096x512 2 [⟨S4x4096x256, (extractStridedSlice S4x4096x256 ![0, 0, 256] (res_main_v13 V0) slices_S4x4096x2976_S4x4096x256_0_0_256)⟩, ⟨S4x4096x256, (extractStridedSlice S4x4096x256 ![0, 0, 512] (res_main_v13 V0) slices_S4x4096x2976_S4x4096x256_0_0_512)⟩] concatenates_S4x4096x256_S4x4096x256_S4x4096x512_d2) transposes_S4x4096x512_S4x512x4096_0_2_1))⟩] concatenates_S1x4x512x4096_S1x4x512x4096_S2x4x512x4096_d0

/-- The queries, as a term of the arrays. -/
def RNQ : FVec Ideal S16384x256 .f32 :=
  shapeCast _ (res_main_v30 V0) shapeCasts_S4x4096x4x64_S16384x256

/-- The four heads, turned, as a term of the arrays. -/
def RH : FVec Ideal S4x4096x4x64 .f32 :=
  (concatenate S4x4096x4x64 3 [⟨S4x4096x4x8, ((subf (mulf (res_main_v68 V0) (broadcastInDim S4x4096x4x8 ![0, 1, 2, 3] bcast_S1x4096x1x8_S4x4096x4x8_0_1_2_3 (broadcastInDim S1x4096x1x8 ![1, 2, 3] bcast_S4096x1x8_S1x4096x1x8_1_2_3 (res_main_v65 V0)))) (mulf (res_main_v69 V0) (broadcastInDim S4x4096x4x8 ![0, 1, 2, 3] bcast_S1x4096x1x8_S4x4096x4x8_0_1_2_3 (broadcastInDim S1x4096x1x8 ![1, 2, 3] bcast_S4096x1x8_S1x4096x1x8_1_2_3 (res_main_v67 V0))))) : (⟨S4x4096x4x8, .f32⟩ : BufTy).Contents (Elt Ideal))⟩, ⟨S4x4096x4x8, ((addf (mulf (res_main_v69 V0) (broadcastInDim S4x4096x4x8 ![0, 1, 2, 3] bcast_S1x4096x1x8_S4x4096x4x8_0_1_2_3 (broadcastInDim S1x4096x1x8 ![1, 2, 3] bcast_S4096x1x8_S1x4096x1x8_1_2_3 (res_main_v65 V0)))) (mulf (res_main_v68 V0) (broadcastInDim S4x4096x4x8 ![0, 1, 2, 3] bcast_S1x4096x1x8_S4x4096x4x8_0_1_2_3 (broadcastInDim S1x4096x1x8 ![1, 2, 3] bcast_S4096x1x8_S1x4096x1x8_1_2_3 (res_main_v67 V0))))) : (⟨S4x4096x4x8, .f32⟩ : BufTy).Contents (Elt Ideal))⟩, ⟨S4x4096x4x48, ((extractStridedSlice S4x4096x4x48 ![0, 0, 0, 16] (res_main_v30 V0) slices_S4x4096x4x64_S4x4096x4x48_0_0_0_16) : (⟨S4x4096x4x48, .f32⟩ : BufTy).Contents (Elt Ideal))⟩] concatenates_S4x4096x4x8_S4x4096x4x8_S4x4096x4x48_S4x4096x4x64_d3 : (⟨S4x4096x4x64, .f32⟩ : BufTy).Contents (Elt Ideal))

/-- The queries, turned, as a term of the arrays. -/
def RNQR : FVec Ideal S16384x256 .f32 :=
  shapeCast _ ((RH V0)) shapeCasts_S4x4096x4x64_S16384x256

/-- The selected keys, turned, as a term of the arrays. -/
def RKS : FVec Ideal S4x4096x64 .f32 :=
  (concatenate S4x4096x64 2 [⟨S4x4096x8, ((subf (mulf (res_main_v100 V0) (broadcastInDim S4x4096x8 ![0, 1, 2] bcast_S1x4096x8_S4x4096x8_0_1_2 (broadcastInDim S1x4096x8 ![1, 2] bcast_S4096x8_S1x4096x8_1_2 (res_main_v98 V0)))) (mulf (res_main_v101 V0) (broadcastInDim S4x4096x8 ![0, 1, 2] bcast_S1x4096x8_S4x4096x8_0_1_2 (broadcastInDim S1x4096x8 ![1, 2] bcast_S4096x8_S1x4096x8_1_2 (res_main_v99 V0))))) : (⟨S4x4096x8, .f32⟩ : BufTy).Contents (Elt Ideal))⟩, ⟨S4x4096x8, ((addf (mulf (res_main_v101 V0) (broadcastInDim S4x4096x8 ![0, 1, 2] bcast_S1x4096x8_S4x4096x8_0_1_2 (broadcastInDim S1x4096x8 ![1, 2] bcast_S4096x8_S1x4096x8_1_2 (res_main_v98 V0)))) (mulf (res_main_v100 V0) (broadcastInDim S4x4096x8 ![0, 1, 2] bcast_S1x4096x8_S4x4096x8_0_1_2 (broadcastInDim S1x4096x8 ![1, 2] bcast_S4096x8_S1x4096x8_1_2 (res_main_v99 V0))))) : (⟨S4x4096x8, .f32⟩ : BufTy).Contents (Elt Ideal))⟩, ⟨S4x4096x48, ((extractStridedSlice S4x4096x48 ![0, 0, 16] (res_main_v45 V0) slices_S4x4096x64_S4x4096x48_0_0_16) : (⟨S4x4096x48, .f32⟩ : BufTy).Contents (Elt Ideal))⟩] concatenates_S4x4096x8_S4x4096x8_S4x4096x48_S4x4096x64_d2 : (⟨S4x4096x64, .f32⟩ : BufTy).Contents (Elt Ideal))

/-- Both layers' compressed and selected keys and values, as a term of the arrays. -/
def RROWS : FVec Ideal S2x4x256x4096 .f32 :=
  concatenate S2x4x256x4096 0 [⟨S1x4x256x4096, (broadcastInDim S1x4x256x4096 ![1, 2, 3] bcast_S4x256x4096_S1x4x256x4096_1_2_3 (shapeCast _ (extractStridedSlice S1x4x256x4096 ![0, 0, 0, 0] (V0 (Proc.devRef .tc main_arg7)) slices_S2x4x256x4096_S1x4x256x4096_0_0_0_0) shapeCasts_S1x4x256x4096_S4x256x4096))⟩, ⟨S1x4x256x4096, (broadcastInDim S1x4x256x4096 ![1, 2, 3] bcast_S4x256x4096_S1x4x256x4096_1_2_3 (transpose S4x256x4096 [0, 2, 1] ((concatenate S4x4096x256 2 [⟨S4x4096x64, ((shapeCast _ (extractStridedSlice S4x4096x1x64 ![0, 0, 0, 0] (res_main_v31 V0) slices_S4x4096x6x64_S4x4096x1x64_0_0_0_0) shapeCasts_S4x4096x1x64_S4x4096x64) : (⟨S4x4096x64, .f32⟩ : BufTy).Contents (Elt Ideal))⟩, ⟨S4x4096x64, ((shapeCast _ (extractStridedSlice S4x4096x1x64 ![0, 0, 1, 0] (res_main_v31 V0) slices_S4x4096x6x64_S4x4096x1x64_0_0_1_0) shapeCasts_S4x4096x1x64_S4x4096x64) : (⟨S4x4096x64, .f32⟩ : BufTy).Contents (Elt Ideal))⟩, ⟨S4x4096x64, (((RKS V0)) : (⟨S4x4096x64, .f32⟩ : BufTy).Contents (Elt Ideal))⟩, ⟨S4x4096x64, ((shapeCast _ (extractStridedSlice S4x4096x1x64 ![0, 0, 3, 0] (res_main_v31 V0) slices_S4x4096x6x64_S4x4096x1x64_0_0_3_0) shapeCasts_S4x4096x1x64_S4x4096x64) : (⟨S4x4096x64, .f32⟩ : BufTy).Contents (Elt Ideal))⟩] concatenates_S4x4096x64_S4x4096x64_S4x4096x64_S4x4096x64_S4x4096x256_d2 : (⟨S4x4096x256, .f32⟩ : BufTy).Contents (Elt Ideal))) transposes_S4x4096x256_S4x256x4096_0_2_1))⟩] concatenates_S1x4x256x4096_S1x4x256x4096_S2x4x256x4096_d0

/-- The window's keys, turned, as a term of the arrays. -/
def RKW : FVec Ideal S4x4096x64 .f32 :=
  (concatenate S4x4096x64 2 [⟨S4x4096x8, ((subf (mulf (res_main_v132 V0) (broadcastInDim S4x4096x8 ![0, 1, 2] bcast_S1x4096x8_S4x4096x8_0_1_2 (broadcastInDim S1x4096x8 ![1, 2] bcast_S4096x8_S1x4096x8_1_2 (res_main_v130 V0)))) (mulf (res_main_v133 V0) (broadcastInDim S4x4096x8 ![0, 1, 2] bcast_S1x4096x8_S4x4096x8_0_1_2 (broadcastInDim S1x4096x8 ![1, 2] bcast_S4096x8_S1x4096x8_1_2 (res_main_v131 V0))))) : (⟨S4x4096x8, .f32⟩ : BufTy).Contents (Elt Ideal))⟩, ⟨S4x4096x8, ((addf (mulf (res_main_v133 V0) (broadcastInDim S4x4096x8 ![0, 1, 2] bcast_S1x4096x8_S4x4096x8_0_1_2 (broadcastInDim S1x4096x8 ![1, 2] bcast_S4096x8_S1x4096x8_1_2 (res_main_v130 V0)))) (mulf (res_main_v132 V0) (broadcastInDim S4x4096x8 ![0, 1, 2] bcast_S1x4096x8_S4x4096x8_0_1_2 (broadcastInDim S1x4096x8 ![1, 2] bcast_S4096x8_S1x4096x8_1_2 (res_main_v131 V0))))) : (⟨S4x4096x8, .f32⟩ : BufTy).Contents (Elt Ideal))⟩, ⟨S4x4096x48, ((extractStridedSlice S4x4096x48 ![0, 0, 16] (res_main_v49 V0) slices_S4x4096x64_S4x4096x48_0_0_16) : (⟨S4x4096x48, .f32⟩ : BufTy).Contents (Elt Ideal))⟩] concatenates_S4x4096x8_S4x4096x8_S4x4096x48_S4x4096x64_d2 : (⟨S4x4096x64, .f32⟩ : BufTy).Contents (Elt Ideal))

/-- The window's keys and values, as a term of the arrays. -/
def RWIN : FVec Ideal S4x128x4096 .f32 :=
  transpose S4x128x4096 [0, 2, 1] (concatenate S4x4096x128 2 [⟨S4x4096x64, ((RKW V0))⟩, ⟨S4x4096x64, (shapeCast _ (extractStridedSlice S4x4096x1x64 ![0, 0, 5, 0] (res_main_v31 V0) slices_S4x4096x6x64_S4x4096x1x64_0_0_5_0) shapeCasts_S4x4096x1x64_S4x4096x64)⟩] concatenates_S4x4096x64_S4x4096x64_S4x4096x128_d2) transposes_S4x4096x128_S4x128x4096_0_2_1

/-- The gated queries and keys, as a term of the arrays. -/
def RGQK : FVec Ideal S16384x512 .f32 :=
  shapeCast _ (concatenate S4x4096x512 2 [⟨S4x4096x256, (extractStridedSlice S4x4096x256 ![0, 0, 1424] (res_main_v13 V0) slices_S4x4096x2976_S4x4096x256_0_0_1424)⟩, ⟨S4x4096x256, (extractStridedSlice S4x4096x256 ![0, 0, 1680] (res_main_v13 V0) slices_S4x4096x2976_S4x4096x256_0_0_1680)⟩] concatenates_S4x4096x256_S4x4096x256_S4x4096x512_d2) shapeCasts_S4x4096x512_S16384x512

/-- The gated values, as a term of the arrays. -/
def RGV : FVec Ideal S16384x512 .f32 :=
  shapeCast _ (extractStridedSlice S4x4096x512 ![0, 0, 1936] (res_main_v13 V0) slices_S4x4096x2976_S4x4096x512_0_0_1936) shapeCasts_S4x4096x512_S16384x512

/-- The output gates, as a term of the arrays. -/
def RGOG : FVec Ideal S16384x512 .f32 :=
  shapeCast _ (extractStridedSlice S4x4096x512 ![0, 0, 2464] (res_main_v13 V0) slices_S4x4096x2976_S4x4096x512_0_0_2464) shapeCasts_S4x4096x512_S16384x512

/-- The logarithms of the decay, as a term of the arrays. -/
def RGLOG : FVec Ideal S16384x256 .f32 :=
  shapeCast _ (Host.divf (Host.negf (select (cmpf .une (res_main_call1_call0_v3 V0) (res_main_call1_call0_v3 V0)) (addf (res_main_call1_v0 V0) (broadcastInDim S4x4096x256 ![] bcast_S_S4x4096x256 (res_main_call1_call0_cst V0))) (addf (maximumf (res_main_call1_v0 V0) (broadcastInDim S4x4096x256 ![] bcast_S_S4x4096x256 (res_main_call1_call0_cst V0))) (Host.log1p (Host.exp (Host.negf (Host.absf (res_main_call1_call0_v3 V0)))))))) (broadcastInDim S4x4096x256 ![] bcast_S_S4x4096x256 (constant S_ .f32 0x41800000#32))) shapeCasts_S4x4096x256_S16384x256

/-- The small gates, transposed, as a term of the arrays. -/
def RSMALLT : FVec Ideal S4x8x4096 .f32 :=
  transpose S4x8x4096 [0, 2, 1] (concatenate S4x4096x8 2 [⟨S4x4096x4, (Host.negf (select (cmpf .une (res_main_call0_call0_v3 V0) (res_main_call0_call0_v3 V0)) (addf (res_main_call0_v0 V0) (broadcastInDim S4x4096x4 ![] bcast_S_S4x4096x4 (res_main_call0_call0_cst V0))) (addf (maximumf (res_main_call0_v0 V0) (broadcastInDim S4x4096x4 ![] bcast_S_S4x4096x4 (res_main_call0_call0_cst V0))) (Host.log1p (Host.exp (Host.negf (Host.absf (res_main_call0_call0_v3 V0))))))))⟩, ⟨S4x4096x4, (extractStridedSlice S4x4096x4 ![0, 0, 0] (Host.divf (broadcastInDim S4x4096x12 ![] bcast_S_S4x4096x12 (constant S_ .f32 0x3F800000#32)) (addf (broadcastInDim S4x4096x12 ![] bcast_S_S4x4096x12 (constant S_ .f32 0x3F800000#32)) (Host.exp (Host.negf (extractStridedSlice S4x4096x12 ![0, 0, 1412] (res_main_v13 V0) slices_S4x4096x2976_S4x4096x12_0_0_1412))))) slices_S4x4096x12_S4x4096x4_0_0_0)⟩] concatenates_S4x4096x4_S4x4096x4_S4x4096x8_d2) transposes_S4x4096x8_S4x8x4096_0_2_1

/-- The input. -/
abbrev vX : FVec Ideal S4x4096x1024 .f32 := V0 (Proc.devRef .tc main_arg0)
/-- The gain. -/
abbrev vG : FVec Ideal S1024 .f32 := V0 (Proc.devRef .tc main_arg1)
/-- The weights. -/
abbrev vW : FVec Ideal S1024x2976 .f32 := V0 (Proc.devRef .tc main_arg2)
/-- The forgetting gate's bias. -/
abbrev vB : FVec Ideal S4 .f32 := V0 (Proc.devRef .tc main_arg3)
/-- The decay's second weights. -/
abbrev vU : FVec Ideal S16x256 .f32 := V0 (Proc.devRef .tc main_arg4)
/-- The decay's bias. -/
abbrev vD : FVec Ideal S256 .f32 := V0 (Proc.devRef .tc main_arg5)
/-- The first layer's forgetting keys and values. -/
abbrev vF : FVec Ideal S2x4x512x4096 .f32 := V0 (Proc.devRef .tc main_arg6)
/-- The first layer's compressed and selected keys and values. -/
abbrev vR : FVec Ideal S2x4x256x4096 .f32 := V0 (Proc.devRef .tc main_arg7)

/-- Column `j` of the projection of position `s` of batch `b`. -/
def proj (X : FVec Ideal S4x4096x1024 .f32) (G : FVec Ideal S1024 .f32) (W : FVec Ideal S1024x2976 .f32)
    (b : Fin 4) (s : Fin 4096) (j : Fin 2976) : EReal :=
  InMath.dot (fun k => X (ix3 b s k)) (fun k => G (ix1 k)) (fun k => W (ix2 k j))

theorem v13_at (b : Fin 4) (s : Fin 4096) (j : Fin 2976) :
    res_main_v13 V0 (ix3 b s j) = proj (vX V0) (vG V0) (vW V0) b s j := by
  unfold proj InMath.dot DenseMath.hrow
  pointwise [res_main_v13]

/-- Two numbers of one column name one entry. -/
theorem at_col {i j : ℕ} (b : Fin 4) (s : Fin 4096) {hi : i < 2976} {hj : j < 2976} (h : i = j) :
    res_main_v13 V0 (ix3 b s ⟨i, hi⟩) = res_main_v13 V0 (ix3 b s ⟨j, hj⟩) := by
  subst h
  rfl

/-- The angle of position `s` for the pair `d`. -/
def ang (s : Fin 4096) (d : Fin 8) : EReal :=
  FloatOps.sitofp (F := Ideal) FTy.f32 (BitVec.ofNat 32 s) * Ideal.pow (Ideal.ofBits FTy.f32 1223959552#32)
    (Ideal.div (-FloatOps.sitofp (F := Ideal) FTy.f32 (BitVec.ofNat 32 d)) (Ideal.ofBits FTy.f32 1090519040#32))

/-- A head of columns starting at `o`, turned for its position. -/
def turned (X : FVec Ideal S4x4096x1024 .f32) (G : FVec Ideal S1024 .f32) (W : FVec Ideal S1024x2976 .f32)
    (b : Fin 4) (s : Fin 4096) (o : ℕ) (ho : o + 64 ≤ 2976) (d : Fin 64) : EReal :=
  InMath.rope (fun d => proj X G W b s ⟨o + d, by omega⟩) (fun e => Ideal.cos (ang s e)) (fun e => Ideal.sin (ang s e)) d

end Cert.InRefIdeal

end
-- ==== Proof.InRefPlain.lean ====
module

public import proofs.«01_k».proof.Proof.InRefTerm

@[expose] public section

set_option maxRecDepth 16384

noncomputable section

/-! The reference's columns that are the product's as they are. -/

namespace Cert.InRefIdeal

open Idealize.ShloMosaic Idealize.ShloMosaic.TcCoe Idealize.SL.Sem
open Cert.InRefIdeal.Gen Cert.InRefIdeal.Value

variable (V0 : Valuation τ sig (Elt Ideal))

theorem fq_at (r : Fin 16384) (j : Fin 256) :
    RFQ V0 (ix2 r j) = proj (vX V0) (vG V0) (vW V0) ⟨r / 4096, by omega⟩ ⟨r % 4096, by omega⟩ ⟨j, by omega⟩ := by
  rw [← v13_at]
  pointwise [RFQ]

theorem nq_at (r : Fin 16384) (j : Fin 256) :
    RNQ V0 (ix2 r j) = proj (vX V0) (vG V0) (vW V0) ⟨r / 4096, by omega⟩ ⟨r % 4096, by omega⟩ ⟨772 + j, by omega⟩ := by
  rw [← v13_at]
  pointwise [RNQ, res_main_v30]

theorem gv_at (r : Fin 16384) (j : Fin 512) :
    RGV V0 (ix2 r j) = proj (vX V0) (vG V0) (vW V0) ⟨r / 4096, by omega⟩ ⟨r % 4096, by omega⟩ ⟨1936 + j, by omega⟩ := by
  rw [← v13_at]
  pointwise [RGV]

theorem gog_at (r : Fin 16384) (j : Fin 512) :
    RGOG V0 (ix2 r j) = proj (vX V0) (vG V0) (vW V0) ⟨r / 4096, by omega⟩ ⟨r % 4096, by omega⟩ ⟨2464 + j, by omega⟩ := by
  rw [← v13_at]
  pointwise [RGOG]

theorem gqk_at (r : Fin 16384) (j : Fin 512) :
    RGQK V0 (ix2 r j) = proj (vX V0) (vG V0) (vW V0) ⟨r / 4096, by omega⟩ ⟨r % 4096, by omega⟩ ⟨1424 + j, by omega⟩ := by
  rw [← v13_at]
  pointwise [RGQK]
  by_cases h : j.val < 256
  · rw [dif_pos h]
  · rw [dif_neg h]
    exact at_col V0 _ _ (by omega)

theorem fkv_0 (b : Fin 4) (j : Fin 512) (s : Fin 4096) : RFKV V0 (ix4 0 b j s) = vF V0 (ix4 0 b j s) := by
  pointwise [RFKV]

theorem fkv_1 (b : Fin 4) (j : Fin 512) (s : Fin 4096) :
    RFKV V0 (ix4 1 b j s) = proj (vX V0) (vG V0) (vW V0) b s ⟨256 + j, by omega⟩ := by
  rw [← v13_at]
  pointwise [RFKV]
  by_cases h : j.val < 256
  · rw [dif_pos h]
  · rw [dif_neg h]
    exact at_col V0 _ _ (by omega)

end Cert.InRefIdeal

end
-- ==== Proof.InBlocks.lean ====
module

public import proofs.«01_k».proof.Proof.Gen.InIdeal.Value
public import proofs.«01_k».proof.Proof.InPure
public import proofs.«01_k».proof.Proof.InRefPlain
public import Idealize.ShloMosaic.Lib.Pipeline.ValueKit
public import Idealize.ShloMosaic.Lib.Tactic
public import Idealize.ShloMosaic.Lib.StableHlo.ReadAt

@[expose] public section

set_option maxRecDepth 16384

noncomputable section

/-! What every input block of the input projection's points holds. -/

namespace Cert.InIdeal

open Idealize.ShloMosaic Idealize.ShloMosaic.TcCoe Idealize.SL.Sem
open Cert.InIdeal.Gen

/-- Where every input window stands at a point: tile `t` of the rows, the table's tile that goes with it, and the rest whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val % 8, 0] :=
  (by decide +kernel : ∀ t : Fin grid0.N, _)

theorem lt_N (t : Fin cfg0.N) : t.val < 32 := lt_of_lt_of_eq t.isLt N_0

/-- The batch of point `t`. -/
def bat (t : Fin cfg0.N) : Fin 4 := ⟨t.val / 8, by have := lt_N t; omega⟩

/-- The position that row `r` of point `t`'s tile is at. -/
def pos (t : Fin cfg0.N) (r : Fin 512) : Fin 4096 := ⟨t.val % 8 * 512 + r, by omega⟩

variable (m : (ℓ : Loc nD τ sig) → Buf (Elt Ideal) ℓ)

/-- The input. -/
abbrev aX (c : Dev nD) : FVec Ideal S4x4096x1024 .f32 := m ((c : Thread nD τ).loc main_arg0)
/-- The gain. -/
abbrev aG (c : Dev nD) : FVec Ideal S1024 .f32 := m ((c : Thread nD τ).loc main_arg1)
/-- The weights. -/
abbrev aW (c : Dev nD) : FVec Ideal S1024x2976 .f32 := m ((c : Thread nD τ).loc main_arg2)
/-- The forgetting gate's bias. -/
abbrev aB (c : Dev nD) : FVec Ideal S4 .f32 := m ((c : Thread nD τ).loc main_arg3)
/-- The decay's second weights. -/
abbrev aU (c : Dev nD) : FVec Ideal S16x256 .f32 := m ((c : Thread nD τ).loc main_arg4)
/-- The decay's bias. -/
abbrev aD (c : Dev nD) : FVec Ideal S256 .f32 := m ((c : Thread nD τ).loc main_arg5)
/-- The first layer's forgetting keys and values. -/
abbrev aF (c : Dev nD) : FVec Ideal S2x4x512x4096 .f32 := m ((c : Thread nD τ).loc main_arg6)
/-- The first layer's compressed and selected keys and values. -/
abbrev aR (c : Dev nD) : FVec Ideal S2x4x256x4096 .f32 := m ((c : Thread nD τ).loc main_arg7)

/-- The input's tile. -/
abbrev bX (c : Dev nD) (t : Fin cfg0.N) : FVec Ideal S512x1024 .f32 := iblk m c 0 t
/-- The gain, whole. -/
abbrev bG (c : Dev nD) (t : Fin cfg0.N) : FVec Ideal S1x1024 .f32 := iblk m c 1 t
/-- The weights, whole, their columns in the kernel's order. -/
abbrev bW (c : Dev nD) (t : Fin cfg0.N) : FVec Ideal S1024x3072 .bf16 := iblk m c 2 t
/-- The forgetting gate's bias, padded. -/
abbrev bB (c : Dev nD) (t : Fin cfg0.N) : FVec Ideal S1x128 .f32 := iblk m c 3 t
/-- The decay's second weights, padded. -/
abbrev bU (c : Dev nD) (t : Fin cfg0.N) : FVec Ideal S128x256 .bf16 := iblk m c 4 t
/-- The decay's bias. -/
abbrev bD (c : Dev nD) (t : Fin cfg0.N) : FVec Ideal S1x256 .f32 := iblk m c 5 t
/-- The table's tile. -/
abbrev bT (c : Dev nD) (t : Fin cfg0.N) : FVec Ideal S512x768 .f32 := iblk m c 6 t

/-- The weights with their columns in the kernel's order. -/
def WK (w : FVec Ideal S1024x2976 .f32) : FVec Ideal S1024x3072 .f32 :=
  concatenate S1024x3072 1 [⟨S1024x256, extractStridedSlice S1024x256 ![0, 0] w slices_S1024x2976_S1024x256_0_0⟩,
      ⟨S1024x256, extractStridedSlice S1024x256 ![0, 256] w slices_S1024x2976_S1024x256_0_256⟩,
      ⟨S1024x256, extractStridedSlice S1024x256 ![0, 512] w slices_S1024x2976_S1024x256_0_512⟩,
      ⟨S1024x256, extractStridedSlice S1024x256 ![0, 772] w slices_S1024x2976_S1024x256_0_772⟩,
      ⟨S1024x384, extractStridedSlice S1024x384 ![0, 1028] w slices_S1024x2976_S1024x384_0_1028⟩,
      ⟨S1024x256, extractStridedSlice S1024x256 ![0, 1424] w slices_S1024x2976_S1024x256_0_1424⟩,
      ⟨S1024x256, extractStridedSlice S1024x256 ![0, 1680] w slices_S1024x2976_S1024x256_0_1680⟩,
      ⟨S1024x512, extractStridedSlice S1024x512 ![0, 1936] w slices_S1024x2976_S1024x512_0_1936⟩,
      ⟨S1024x512, extractStridedSlice S1024x512 ![0, 2464] w slices_S1024x2976_S1024x512_0_2464⟩,
      ⟨S1024x4, extractStridedSlice S1024x4 ![0, 768] w slices_S1024x2976_S1024x4_0_768⟩,
      ⟨S1024x12, extractStridedSlice S1024x12 ![0, 1412] w slices_S1024x2976_S1024x12_0_1412⟩,
      ⟨S1024x16, extractStridedSlice S1024x16 ![0, 2448] w slices_S1024x2976_S1024x16_0_2448⟩,
      ⟨S1024x96, broadcastInDim S1024x96 ![] bcast_S_S1024x96 (constant S_ .f32 0x00000000#32)⟩] concatenates_S1024x256_S1024x256_S1024x256_S1024x256_S1024x384_S1024x256_S1024x256_S1024x512_S1024x512_S1024x4_S1024x12_S1024x16_S1024x96_S1024x3072_d1

set_option maxHeartbeats 4000000 in
/-- The weights as the call gets them. -/
theorem V24 (c : Dev nD) : V m c main_v24 = truncf .bf16 (WK (aW m c)) bitsLt_bf16_f32 := by
  show StableHlo.after hostOps0 _ _ = _
  after_reads_simp
  unfold WK
  show truncf (F := Ideal) .bf16 (concatenate S1024x3072 1 [⟨S1024x256, (StableHlo.upto hostOps0 (fun b => m (c, b)) 29 (Proc.tc.devRef main_v10) : FVec Ideal S1024x256 .f32)⟩, ⟨S1024x256, (StableHlo.upto hostOps0 (fun b => m (c, b)) 29 (Proc.tc.devRef main_v11) : FVec Ideal S1024x256 .f32)⟩, ⟨S1024x256, (StableHlo.upto hostOps0 (fun b => m (c, b)) 29 (Proc.tc.devRef main_v12) : FVec Ideal S1024x256 .f32)⟩, ⟨S1024x256, (StableHlo.upto hostOps0 (fun b => m (c, b)) 29 (Proc.tc.devRef main_v14) : FVec Ideal S1024x256 .f32)⟩, ⟨S1024x384, (StableHlo.upto hostOps0 (fun b => m (c, b)) 29 (Proc.tc.devRef main_v15) : FVec Ideal S1024x384 .f32)⟩, ⟨S1024x256, (StableHlo.upto hostOps0 (fun b => m (c, b)) 29 (Proc.tc.devRef main_v17) : FVec Ideal S1024x256 .f32)⟩, ⟨S1024x256, (StableHlo.upto hostOps0 (fun b => m (c, b)) 29 (Proc.tc.devRef main_v18) : FVec Ideal S1024x256 .f32)⟩, ⟨S1024x512, (StableHlo.upto hostOps0 (fun b => m (c, b)) 29 (Proc.tc.devRef main_v19) : FVec Ideal S1024x512 .f32)⟩, ⟨S1024x512, (StableHlo.upto hostOps0 (fun b => m (c, b)) 29 (Proc.tc.devRef main_v21) : FVec Ideal S1024x512 .f32)⟩, ⟨S1024x4, (StableHlo.upto hostOps0 (fun b => m (c, b)) 29 (Proc.tc.devRef main_v13) : FVec Ideal S1024x4 .f32)⟩, ⟨S1024x12, (StableHlo.upto hostOps0 (fun b => m (c, b)) 29 (Proc.tc.devRef main_v16) : FVec Ideal S1024x12 .f32)⟩, ⟨S1024x16, (StableHlo.upto hostOps0 (fun b => m (c, b)) 29 (Proc.tc.devRef main_v20) : FVec Ideal S1024x16 .f32)⟩, ⟨S1024x96, (StableHlo.upto hostOps0 (fun b => m (c, b)) 29 (Proc.tc.devRef main_v22) : FVec Ideal S1024x96 .f32)⟩] concatenates_S1024x256_S1024x256_S1024x256_S1024x256_S1024x384_S1024x256_S1024x256_S1024x512_S1024x512_S1024x4_S1024x12_S1024x16_S1024x96_S1024x3072_d1) bitsLt_bf16_f32 = _
  after_reads_simp
  rfl

/-- The column of the weights that the kernel's column `j` is. -/
def src (j : ℕ) : ℕ := if j < 768 then j else if j < 1408 then j + 4 else if j < 2432 then j + 16 else if j < 2944 then j + 32
  else if j < 2948 then j - 2176 else if j < 2960 then j - 1536 else j - 512

theorem src_lt (j : ℕ) (h : j < 2976) : src j < 2976 := by unfold src; split_ifs <;> omega

/-- A choice is what both of its sides are. -/
theorem by_dite {p : Prop} [Decidable p] {x : EReal} {a : p → EReal} {b : ¬p → EReal} (ha : ∀ h, a h = x) (hb : ∀ h, b h = x) : dite p a b = x := by
  by_cases h : p
  · rw [dif_pos h, ha]
  · rw [dif_neg h, hb]

set_option maxHeartbeats 4000000 in
theorem WK_at (w : FVec Ideal S1024x2976 .f32) (k : Fin 1024) (j : Fin 3072) (h : j.val < 2976) : WK w (ix2 k j) = w (ix2 k ⟨src j, src_lt j h⟩) := by
  unfold WK
  pointwise
  iterate 12
    refine by_dite (fun h1 => ?_) fun h1 => ?_
    · refine congrArg (fun q => w (ix2 k q)) (Fin.ext ?_)
      show _ = src j.val
      unfold src
      dsimp only
      split_ifs <;> omega
  omega

theorem blkW (c : Dev nD) (t : Fin cfg0.N) (k : Fin 1024) (j : Fin 3072) (h : j.val < 2976) :
    bW m c t (ix2 k j) = aW m c (ix2 k ⟨src j, src_lt j h⟩) := by
  refine Eq.trans ?_ (WK_at (aW m c) k j h)
  refine Eq.trans ?_ (congrFun (V24 m c) (ix2 k j))
  unfold bW
  blk_point [iblk, idx t]

theorem V8 (c : Dev nD) : V m c main_v8 = shapeCast S16384x1024 (aX m c) shapeCasts_S4x4096x1024_S16384x1024 := by
  show StableHlo.after hostOps0 _ _ = _
  after_reads_simp
  rfl
theorem V9 (c : Dev nD) : V m c main_v9 = shapeCast S1x1024 (aG m c) shapeCasts_S1024_S1x1024 := by
  show StableHlo.after hostOps0 _ _ = _
  after_reads_simp
  rfl
theorem V26 (c : Dev nD) : V m c main_v26 = shapeCast S1x256 (aD m c) shapeCasts_S256_S1x256 := by
  show StableHlo.after hostOps0 _ _ = _
  after_reads_simp
  rfl

theorem blkX (c : Dev nD) (t : Fin cfg0.N) (r : Fin 512) (k : Fin 1024) : bX m c t (ix2 r k) = aX m c (ix3 (bat t) (pos t r) k) := by
  have := lt_N t
  have e1 : (t.val * 512 + r.val) / 4096 = t.val / 8 := by omega
  have e2 : (t.val * 512 + r.val) % 4096 = t.val % 8 * 512 + r.val := by omega
  refine Eq.trans (b := V m c main_v8 (ix2 ⟨t.val * 512 + r.val, by omega⟩ k)) ?_ ?_
  · unfold bX
    blk_point [iblk, idx t]
  · rw [V8]
    pointwise
    unfold bat pos
    simp only [e1, e2]

theorem blkG (c : Dev nD) (t : Fin cfg0.N) (k : Fin 1024) : bG m c t (ix2 0 k) = aG m c (ix1 k) := by
  refine Eq.trans (b := V m c main_v9 (ix2 0 k)) ?_ ?_
  · unfold bG
    blk_point [iblk, idx t]
  · rw [V9]
    pointwise

theorem blkD (c : Dev nD) (t : Fin cfg0.N) (k : Fin 256) : bD m c t (ix2 0 k) = aD m c (ix1 k) := by
  refine Eq.trans (b := V m c main_v26 (ix2 0 k)) ?_ ?_
  · unfold bD
    blk_point [iblk, idx t]
  · rw [V26]
    pointwise

end Cert.InIdeal

end
-- ==== Proof.InValue.lean ====
module

public import proofs.«01_k».proof.Proof.Gen.InIdeal.Value
public import proofs.«01_k».proof.Proof.InBlocks
public import proofs.«01_k».proof.Proof.InPure
public import proofs.«01_k».proof.Proof.InRefPlain
public import Idealize.ShloMosaic.Lib.Pipeline.ValueKit.Partial

@[expose] public section

set_option maxRecDepth 16384

noncomputable section

/-! What the points of the input projection write where nothing is turned or gated, and what its result arrays hold of it. -/

namespace Cert.InIdeal

open Idealize.ShloMosaic Idealize.ShloMosaic.TcCoe Idealize.SL.Sem
open Cert.InIdeal.Gen

variable (m : (ℓ : Loc nD τ sig) → Buf (Elt Ideal) ℓ)

/-- One column of the product of a point is the reference's. -/
theorem dot_blk (c : Dev nD) (t : Fin cfg0.N) (r : Fin 512) (j : Fin 3072) (o : Fin 2976) (h : j.val < 2976) (e : src j = o.val) :
    InMath.dot (fun i => bX m c t (ix2 r i)) (fun i => bG m c t (ix2 0 i)) (fun k => bW m c t (ix2 k j))
      = InRefIdeal.proj (aX m c) (aG m c) (aW m c) (bat t) (pos t r) o := by
  unfold InRefIdeal.proj
  have e' : (⟨src j, src_lt j h⟩ : Fin 2976) = o := Fin.ext e
  simp only [blkX, blkG, blkW m c t _ j h, e']

/-- A load of a part of a block reads the block's entry at the part's offsets. -/
theorem part2 {a b p q : ℕ} {e : EltTy} (X : (⟨2, ![a, b]⟩ : Shape).Idx → Elt Ideal e) {off : Fin 2 → ℕ} (inb : ∀ i, off i + (![p, q] : Fin 2 → ℕ) i ≤ (![a, b] : Fin 2 → ℕ) i)
    (r : Fin p) (l : Fin q) (r' : Fin a) (l' : Fin b) (hr : (r' : ℕ) = off 0 + r) (hl : (l' : ℕ) = off 1 + l) :
    View.ld (Val := Elt Ideal) X (Rect.unit (s := ⟨2, ![a, b]⟩) off ![p, q] inb) (ix2 r l) = X (ix2 r' l') :=
  View.ld_unit_apply_of X off ![p, q] inb (ix2 r l) (ix2 r' l') (Fin.forall_fin_two.mpr ⟨hr, hl⟩)

/-- A group of columns of the weights, as the body loads them. -/
abbrev part (w : FVec Ideal S1024x3072 .bf16) {n o : ℕ} (inb : ∀ i, (![0, o] : Fin 2 → ℕ) i + (![1024, n] : Fin 2 → ℕ) i ≤ (![1024, 3072] : Fin 2 → ℕ) i) :
    FVec Ideal ⟨2, ![1024, n]⟩ .bf16 :=
  fun x => w ((Rect.unit (s := ⟨2, ![1024, 3072]⟩) ![0, o] ![1024, n] inb).idx x)

/-- The same of a group of columns of the weights, from its first column on. -/
theorem dot_part (c : Dev nD) (t : Fin cfg0.N) (r : Fin 512) {n o : ℕ} (inb : ∀ i, (![0, o] : Fin 2 → ℕ) i + (![1024, n] : Fin 2 → ℕ) i ≤ (![1024, 3072] : Fin 2 → ℕ) i)
    (j : Fin n) (p : Fin 2976) (hj : o + j.val < 2976) (e : src (o + j) = p.val) :
    InMath.dot (fun i => bX m c t (ix2 r i)) (fun i => bG m c t (ix2 0 i))
        (fun k => part (bW m c t) inb (ix2 k j))
      = InRefIdeal.proj (aX m c) (aG m c) (aW m c) (bat t) (pos t r) p := by
  refine Eq.trans ?_ (dot_blk m c t r ⟨o + j, by omega⟩ p hj e)
  refine congrArg (InMath.dot _ _) (funext fun k => ?_)
  exact part2 (e := .bf16) (bW m c t) _ _ _ _ _ (by simp) (by simp)

/-- The same where the normalised tile is one of the body's values. -/
theorem sum_part (c : Dev nD) (t : Fin cfg0.N) (r : Fin 512) {n o : ℕ} (inb : ∀ i, (![0, o] : Fin 2 → ℕ) i + (![1024, n] : Fin 2 → ℕ) i ≤ (![1024, 3072] : Fin 2 → ℕ) i)
    (j : Fin n) (p : Fin 2976) (hj : o + j.val < 2976) (e : src (o + j) = p.val) :
    (∑ k, k0_pay3 (F := Ideal) (bX m c t) (bG m c t) (ix2 r k) * part (bW m c t) inb (ix2 k j))
      = InRefIdeal.proj (aX m c) (aG m c) (aW m c) (bat t) (pos t r) p := by
  refine Eq.trans ?_ (dot_part m c t r inb j p hj e)
  unfold InMath.dot
  exact Finset.sum_congr rfl fun k _ => congrArg (· * _) (pay3_at _ _ r k)

theorem point_7 (c : Dev nD) (t : Fin cfg0.N) (r : Fin 512) (j : Fin 256) :
    (dats m 0 c).flushed 7 t (ix2 r j) = InRefIdeal.proj (aX m c) (aG m c) (aW m c) (bat t) (pos t r) ⟨j, by omega⟩ := by
  rw [Value.flushed7_A]
  unfold out0_A_7
  frame_out
  refine (pay4_at _ _ _ r j).trans (dot_part m c t r _ j _ (by omega) ?_)
  unfold src
  dsimp only
  split_ifs <;> omega

/-- The row of the result that row `r` of point `t`'s tile is. -/
def row (t : Fin cfg0.N) (r : Fin 512) : Fin 16384 := ⟨t.val * 512 + r, by have := lt_N t; omega⟩

theorem row_div (t : Fin cfg0.N) (r : Fin 512) : (⟨(row t r).val / 4096, by omega⟩ : Fin 4) = bat t := by
  unfold row bat
  have := lt_N t
  exact Fin.ext (by dsimp only; omega)

theorem row_mod (t : Fin cfg0.N) (r : Fin 512) : (⟨(row t r).val % 4096, by omega⟩ : Fin 4096) = pos t r := by
  unfold row pos
  have := lt_N t
  exact Fin.ext (by dsimp only; omega)

theorem final_7 (c : Dev nD) (Y : FVec Ideal S16384x256 .f32)
    (hY : ∀ r j, Y (ix2 r j) = InRefIdeal.proj (aX m c) (aG m c) (aW m c) ⟨r / 4096, by omega⟩ ⟨r % 4096, by omega⟩ ⟨j, by omega⟩) :
    (dats m 0 c).arrAt 7 (cfgs 0).N = Y := by
  refine (dats m 0 c).arrAt_eq_of_covers 7 _ (by decide +kernel) fun t hf y => ?_
  obtain ⟨r, j, rfl⟩ : ∃ r j, y = ix2 r j := ⟨y 0, y 1, eq_ix2 y⟩
  blk_simp
  refine (point_7 m c t r j).trans (Eq.trans (b := Y (ix2 (row t r) j)) ?_ ?_)
  · rw [hY, row_div, row_mod]
  · unfold row
    have hi : win0_7.index t = ![t.val, 0] := (by decide +kernel : ∀ t : Fin grid0.N, win0_7.index t = ![t.val, 0]) t
    blk_ext [hi]

theorem only4 {a b : ℕ} (y : (⟨4, ![1, 1, a, b]⟩ : Shape).Idx) : ∃ j r, y = ix4 0 0 j r :=
  ⟨y 2, y 3, (eq_ix4 y).trans (by
    rw [show y 0 = (0 : Fin 1) from Subsingleton.elim (α := Fin 1) _ _, show y 1 = (0 : Fin 1) from Subsingleton.elim (α := Fin 1) _ _])⟩

theorem point_8 (c : Dev nD) (t : Fin cfg0.N) (r : Fin 512) (j : Fin 512) :
    (dats m 0 c).flushed 8 t (ix4 0 0 j r) = InRefIdeal.proj (aX m c) (aG m c) (aW m c) (bat t) (pos t r) ⟨256 + j, by omega⟩ := by
  rw [Value.flushed8_A]
  unfold out0_A_8
  frame_out
  refine (pay5_at _ _ _ r j).trans (dot_part m c t r _ j _ (by omega) ?_)
  unfold src
  dsimp only
  split_ifs <;> omega

theorem V52_1 (c : Dev nD) : V m c main_v52_1 = aF m c := by
  show StableHlo.after hostOps0 _ _ = _
  after_reads_simp
  rfl

theorem V52_4 (c : Dev nD) : V m c main_v52_4 = aR m c := by
  show StableHlo.after hostOps0 _ _ = _
  after_reads_simp
  rfl

set_option maxHeartbeats 1000000 in
theorem final_8 (c : Dev nD) (Y : FVec Ideal S2x4x512x4096 .f32)
    (h0 : ∀ b j s, Y (ix4 0 b j s) = aF m c (ix4 0 b j s))
    (h1 : ∀ b (j : Fin 512) s, Y (ix4 1 b j s) = InRefIdeal.proj (aX m c) (aG m c) (aW m c) b s ⟨256 + j, by omega⟩) :
    (dats m 0 c).arrAt 8 (cfgs 0).N = Y := by
  refine (dats m 0 c).arrAt_eq_of_coversWhere_of_agree 8 _ (fun β => β (0 : Fin 4) = 1) (by decide +kernel) (fun t hf y => ?_) (fun i hi => ?_)
  · obtain ⟨j, r, rfl⟩ : ∃ j r, y = ix4 0 0 j r := only4 y
    blk_simp
    refine (point_8 m c t r j).trans (Eq.trans (b := Y (ix4 1 (bat t) j (pos t r))) ?_ ?_)
    · rw [h1]
    · unfold bat pos
      have hi : win0_8.index t = ![1, t.val / 8, 0, t.val % 8] := (by decide +kernel : ∀ t : Fin grid0.N, win0_8.index t = ![1, t.val / 8, 0, t.val % 8]) t
      blk_ext [hi]
  · obtain ⟨l, b, j, s, rfl⟩ : ∃ l b j s, i = ix4 l b j s := ⟨i 0, i 1, i 2, i 3, eq_ix4 i⟩
    have hl : l = 0 := by
      by_contra hne
      refine hi ?_
      have : l.val = 1 := by have := l.isLt; have : l.val ≠ 0 := fun h => hne (Fin.ext h); omega
      blk_simp [Pipeline.Window.cell_apply]
      omega
    subst hl
    refine Eq.trans ?_ (h0 b j s).symm
    exact congrFun (V52_1 m c) (ix4 0 b j s)

theorem point_9 (c : Dev nD) (t : Fin cfg0.N) (r : Fin 512) (j : Fin 256) :
    (dats m 0 c).flushed 9 t (ix2 r j) = InRefIdeal.proj (aX m c) (aG m c) (aW m c) (bat t) (pos t r) ⟨772 + j, by omega⟩ := by
  rw [Value.flushed9_A]
  unfold out0_A_9
  frame_out
  refine (pay13_at _ _ r j).trans (sum_part m c t r _ j _ (by omega) ?_)
  unfold src
  dsimp only
  split_ifs <;> omega

theorem final_9 (c : Dev nD) (Y : FVec Ideal S16384x256 .f32)
    (hY : ∀ r (j : Fin 256), Y (ix2 r j) = InRefIdeal.proj (aX m c) (aG m c) (aW m c) ⟨r / 4096, by omega⟩ ⟨r % 4096, by omega⟩ ⟨772 + j, by omega⟩) :
    (dats m 0 c).arrAt 9 (cfgs 0).N = Y := by
  refine (dats m 0 c).arrAt_eq_of_covers 9 _ (by decide +kernel) fun t hf y => ?_
  obtain ⟨r, j, rfl⟩ : ∃ r j, y = ix2 r j := ⟨y 0, y 1, eq_ix2 y⟩
  blk_simp
  refine (point_9 m c t r j).trans (Eq.trans (b := Y (ix2 (row t r) j)) ?_ ?_)
  · rw [hY, row_div, row_mod]
  · unfold row
    have hi : win0_9.index t = ![t.val, 0] := (by decide +kernel : ∀ t : Fin grid0.N, win0_9.index t = ![t.val, 0]) t
    blk_ext [hi]

theorem point_13 (c : Dev nD) (t : Fin cfg0.N) (r : Fin 512) (j : Fin 512) :
    (dats m 0 c).flushed 13 t (ix2 r j) = InRefIdeal.proj (aX m c) (aG m c) (aW m c) (bat t) (pos t r) ⟨1424 + j, by omega⟩ := by
  rw [Value.flushed13_A]
  unfold out0_A_13
  frame_out
  refine (pay20_at _ _ r j).trans (sum_part m c t r _ j _ (by omega) ?_)
  unfold src
  dsimp only
  split_ifs <;> omega

theorem final_13 (c : Dev nD) (Y : FVec Ideal S16384x512 .f32)
    (hY : ∀ r (j : Fin 512), Y (ix2 r j) = InRefIdeal.proj (aX m c) (aG m c) (aW m c) ⟨r / 4096, by omega⟩ ⟨r % 4096, by omega⟩ ⟨1424 + j, by omega⟩) :
    (dats m 0 c).arrAt 13 (cfgs 0).N = Y := by
  refine (dats m 0 c).arrAt_eq_of_covers 13 _ (by decide +kernel) fun t hf y => ?_
  obtain ⟨r, j, rfl⟩ : ∃ r j, y = ix2 r j := ⟨y 0, y 1, eq_ix2 y⟩
  blk_simp
  refine (point_13 m c t r j).trans (Eq.trans (b := Y (ix2 (row t r) j)) ?_ ?_)
  · rw [hY, row_div, row_mod]
  · unfold row
    have hi : win0_13.index t = ![t.val, 0] := (by decide +kernel : ∀ t : Fin grid0.N, win0_13.index t = ![t.val, 0]) t
    blk_ext [hi]

theorem point_14 (c : Dev nD) (t : Fin cfg0.N) (r : Fin 512) (j : Fin 512) :
    (dats m 0 c).flushed 14 t (ix2 r j) = InRefIdeal.proj (aX m c) (aG m c) (aW m c) (bat t) (pos t r) ⟨1936 + j, by omega⟩ := by
  rw [Value.flushed14_A]
  unfold out0_A_14
  frame_out
  refine (pay21_at _ _ r j).trans (sum_part m c t r _ j _ (by omega) ?_)
  unfold src
  dsimp only
  split_ifs <;> omega

theorem final_14 (c : Dev nD) (Y : FVec Ideal S16384x512 .f32)
    (hY : ∀ r (j : Fin 512), Y (ix2 r j) = InRefIdeal.proj (aX m c) (aG m c) (aW m c) ⟨r / 4096, by omega⟩ ⟨r % 4096, by omega⟩ ⟨1936 + j, by omega⟩) :
    (dats m 0 c).arrAt 14 (cfgs 0).N = Y := by
  refine (dats m 0 c).arrAt_eq_of_covers 14 _ (by decide +kernel) fun t hf y => ?_
  obtain ⟨r, j, rfl⟩ : ∃ r j, y = ix2 r j := ⟨y 0, y 1, eq_ix2 y⟩
  blk_simp
  refine (point_14 m c t r j).trans (Eq.trans (b := Y (ix2 (row t r) j)) ?_ ?_)
  · rw [hY, row_div, row_mod]
  · unfold row
    have hi : win0_14.index t = ![t.val, 0] := (by decide +kernel : ∀ t : Fin grid0.N, win0_14.index t = ![t.val, 0]) t
    blk_ext [hi]

theorem point_15 (c : Dev nD) (t : Fin cfg0.N) (r : Fin 512) (j : Fin 512) :
    (dats m 0 c).flushed 15 t (ix2 r j) = InRefIdeal.proj (aX m c) (aG m c) (aW m c) (bat t) (pos t r) ⟨2464 + j, by omega⟩ := by
  rw [Value.flushed15_A]
  unfold out0_A_15
  frame_out
  refine (pay22_at _ _ r j).trans (sum_part m c t r _ j _ (by omega) ?_)
  unfold src
  dsimp only
  split_ifs <;> omega

theorem final_15 (c : Dev nD) (Y : FVec Ideal S16384x512 .f32)
    (hY : ∀ r (j : Fin 512), Y (ix2 r j) = InRefIdeal.proj (aX m c) (aG m c) (aW m c) ⟨r / 4096, by omega⟩ ⟨r % 4096, by omega⟩ ⟨2464 + j, by omega⟩) :
    (dats m 0 c).arrAt 15 (cfgs 0).N = Y := by
  refine (dats m 0 c).arrAt_eq_of_covers 15 _ (by decide +kernel) fun t hf y => ?_
  obtain ⟨r, j, rfl⟩ : ∃ r j, y = ix2 r j := ⟨y 0, y 1, eq_ix2 y⟩
  blk_simp
  refine (point_15 m c t r j).trans (Eq.trans (b := Y (ix2 (row t r) j)) ?_ ?_)
  · rw [hY, row_div, row_mod]
  · unfold row
    have hi : win0_15.index t = ![t.val, 0] := (by decide +kernel : ∀ t : Fin grid0.N, win0_15.index t = ![t.val, 0]) t
    blk_ext [hi]

end Cert.InIdeal

end
-- ==== Proof.InTable.lean ====
module

public import proofs.«01_k».proof.Proof.InBlocks
public import Idealize.ShloMosaic.Lib.StableHlo.ReadAt

@[expose] public section

set_option maxRecDepth 16384

noncomputable section

/-! The table of cosines and sines the input projection turns columns by. -/

namespace Cert.InIdeal

open Idealize.ShloMosaic Idealize.ShloMosaic.TcCoe Idealize.SL.Sem
open Cert.InIdeal.Gen

/-- The angle of every position, for each of the eight pairs. -/
def ANG : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))))))
/-- Zeros beside the turned columns, and over the rest of the head. -/
def Z8 : FVec Ideal S4096x8 .f32 := broadcastInDim S4096x8 ![] bcast_S_S4096x8 (constant S_ .f32 0x00000000#32)
def Z48 : FVec Ideal S4096x48 .f32 := broadcastInDim S4096x48 ![] bcast_S_S4096x48 (constant S_ .f32 0x00000000#32)
def E48 : FVec Ideal S4096x48 .f32 := broadcastInDim S4096x48 ![] bcast_S_S4096x48 (constant S_ .f32 0x3F800000#32)
/-- What a column itself, the one eight before it, and the one eight after it are multiplied by. -/
def A64 : FVec Ideal S4096x64 .f32 := concatenate S4096x64 1 [⟨S4096x8, Host.cos ANG⟩, ⟨S4096x8, Host.cos ANG⟩, ⟨S4096x48, E48⟩] concatenates_S4096x8_S4096x8_S4096x48_S4096x64_d1
def P64 : FVec Ideal S4096x64 .f32 := concatenate S4096x64 1 [⟨S4096x8, Z8⟩, ⟨S4096x8, Host.sin ANG⟩, ⟨S4096x48, Z48⟩] concatenates_S4096x8_S4096x8_S4096x48_S4096x64_d1
def M64 : FVec Ideal S4096x64 .f32 := concatenate S4096x64 1 [⟨S4096x8, Host.negf (Host.sin ANG)⟩, ⟨S4096x8, Z8⟩, ⟨S4096x48, Z48⟩] concatenates_S4096x8_S4096x8_S4096x48_S4096x64_d1
def I64 : FVec Ideal S4096x64 .f32 := broadcastInDim S4096x64 ![] bcast_S_S4096x64 (constant S_ .f32 0x3F800000#32)
def O64 : FVec Ideal S4096x64 .f32 := broadcastInDim S4096x64 ![] bcast_S_S4096x64 (constant S_ .f32 0x00000000#32)
/-- The table. -/
def TAB : FVec Ideal S4096x768 .f32 := concatenate S4096x768 1 [⟨S4096x64, A64⟩, ⟨S4096x64, A64⟩, ⟨S4096x64, P64⟩, ⟨S4096x64, P64⟩, ⟨S4096x64, M64⟩, ⟨S4096x64, M64⟩, ⟨S4096x64, A64⟩, ⟨S4096x64, I64⟩, ⟨S4096x64, P64⟩, ⟨S4096x64, O64⟩, ⟨S4096x64, M64⟩, ⟨S4096x64, O64⟩] concatenates_S4096x64_S4096x64_S4096x64_S4096x64_S4096x64_S4096x64_S4096x64_S4096x64_S4096x64_S4096x64_S4096x64_S4096x64_S4096x768_d1

variable (m : (ℓ : Loc nD τ sig) → Buf (Elt Ideal) ℓ)

set_option maxHeartbeats 4000000 in
theorem U_v45 (c : Dev nD) : StableHlo.upto hostOps0 (fun b => m (c, b)) 64 (Proc.tc.devRef main_v45) = A64 := by
  after_reads_simp
  show concatenate (α := Ideal .f32) S4096x64 1 [⟨S4096x8, (StableHlo.upto hostOps0 (fun b => m (c, b)) 56 (Proc.tc.devRef main_v40) : FVec Ideal S4096x8 .f32)⟩, ⟨S4096x8, (StableHlo.upto hostOps0 (fun b => m (c, b)) 56 (Proc.tc.devRef main_v40) : FVec Ideal S4096x8 .f32)⟩, ⟨S4096x48, (StableHlo.upto hostOps0 (fun b => m (c, b)) 56 (Proc.tc.devRef main_v42) : FVec Ideal S4096x48 .f32)⟩] concatenates_S4096x8_S4096x8_S4096x48_S4096x64_d1 = _
  rw [show StableHlo.upto hostOps0 (fun b => m (c, b)) 56 (Proc.tc.devRef main_v40) = Host.cos ANG by after_reads_simp; rfl,
    show StableHlo.upto hostOps0 (fun b => m (c, b)) 56 (Proc.tc.devRef main_v42) = E48 by after_reads_simp; rfl]
  rfl

set_option maxHeartbeats 4000000 in
theorem U_v46 (c : Dev nD) : StableHlo.upto hostOps0 (fun b => m (c, b)) 64 (Proc.tc.devRef main_v46) = P64 := by
  after_reads_simp
  show concatenate (α := Ideal .f32) S4096x64 1 [⟨S4096x8, (StableHlo.upto hostOps0 (fun b => m (c, b)) 57 (Proc.tc.devRef main_v44) : FVec Ideal S4096x8 .f32)⟩, ⟨S4096x8, (StableHlo.upto hostOps0 (fun b => m (c, b)) 57 (Proc.tc.devRef main_v41) : FVec Ideal S4096x8 .f32)⟩, ⟨S4096x48, (StableHlo.upto hostOps0 (fun b => m (c, b)) 57 (Proc.tc.devRef main_v43) : FVec Ideal S4096x48 .f32)⟩] concatenates_S4096x8_S4096x8_S4096x48_S4096x64_d1 = _
  rw [show StableHlo.upto hostOps0 (fun b => m (c, b)) 57 (Proc.tc.devRef main_v44) = Z8 by after_reads_simp; rfl,
    show StableHlo.upto hostOps0 (fun b => m (c, b)) 57 (Proc.tc.devRef main_v41) = Host.sin ANG by after_reads_simp; rfl,
    show StableHlo.upto hostOps0 (fun b => m (c, b)) 57 (Proc.tc.devRef main_v43) = Z48 by after_reads_simp; rfl]
  rfl

set_option maxHeartbeats 4000000 in
theorem U_v48 (c : Dev nD) : StableHlo.upto hostOps0 (fun b => m (c, b)) 64 (Proc.tc.devRef main_v48) = M64 := by
  after_reads_simp
  show concatenate (α := Ideal .f32) S4096x64 1 [⟨S4096x8, (StableHlo.upto hostOps0 (fun b => m (c, b)) 59 (Proc.tc.devRef main_v47) : FVec Ideal S4096x8 .f32)⟩, ⟨S4096x8, (StableHlo.upto hostOps0 (fun b => m (c, b)) 59 (Proc.tc.devRef main_v44) : FVec Ideal S4096x8 .f32)⟩, ⟨S4096x48, (StableHlo.upto hostOps0 (fun b => m (c, b)) 59 (Proc.tc.devRef main_v43) : FVec Ideal S4096x48 .f32)⟩] concatenates_S4096x8_S4096x8_S4096x48_S4096x64_d1 = _
  rw [show StableHlo.upto hostOps0 (fun b => m (c, b)) 59 (Proc.tc.devRef main_v47) = Host.negf (Host.sin ANG) by after_reads_simp; rfl,
    show StableHlo.upto hostOps0 (fun b => m (c, b)) 59 (Proc.tc.devRef main_v44) = Z8 by after_reads_simp; rfl,
    show StableHlo.upto hostOps0 (fun b => m (c, b)) 59 (Proc.tc.devRef main_v43) = Z48 by after_reads_simp; rfl]
  rfl

theorem U_v49 (c : Dev nD) : StableHlo.upto hostOps0 (fun b => m (c, b)) 64 (Proc.tc.devRef main_v49) = I64 := by
  after_reads_simp
  rfl
theorem U_v50 (c : Dev nD) : StableHlo.upto hostOps0 (fun b => m (c, b)) 64 (Proc.tc.devRef main_v50) = O64 := by
  after_reads_simp
  rfl

set_option maxHeartbeats 4000000 in
theorem V51 (c : Dev nD) : V m c main_v51 = TAB := by
  have h45 := U_v45 m c
  have h46 := U_v46 m c
  have h48 := U_v48 m c
  have h49 := U_v49 m c
  have h50 := U_v50 m c
  show StableHlo.after hostOps0 _ _ = _
  after_reads_simp
  show concatenate (α := Ideal .f32) S4096x768 1 [⟨S4096x64, (StableHlo.upto hostOps0 (fun b => m (c, b)) 64 (Proc.tc.devRef main_v45) : FVec Ideal S4096x64 .f32)⟩, ⟨S4096x64, (StableHlo.upto hostOps0 (fun b => m (c, b)) 64 (Proc.tc.devRef main_v45) : FVec Ideal S4096x64 .f32)⟩, ⟨S4096x64, (StableHlo.upto hostOps0 (fun b => m (c, b)) 64 (Proc.tc.devRef main_v46) : FVec Ideal S4096x64 .f32)⟩, ⟨S4096x64, (StableHlo.upto hostOps0 (fun b => m (c, b)) 64 (Proc.tc.devRef main_v46) : FVec Ideal S4096x64 .f32)⟩, ⟨S4096x64, (StableHlo.upto hostOps0 (fun b => m (c, b)) 64 (Proc.tc.devRef main_v48) : FVec Ideal S4096x64 .f32)⟩, ⟨S4096x64, (StableHlo.upto hostOps0 (fun b => m (c, b)) 64 (Proc.tc.devRef main_v48) : FVec Ideal S4096x64 .f32)⟩, ⟨S4096x64, (StableHlo.upto hostOps0 (fun b => m (c, b)) 64 (Proc.tc.devRef main_v45) : FVec Ideal S4096x64 .f32)⟩, ⟨S4096x64, (StableHlo.upto hostOps0 (fun b => m (c, b)) 64 (Proc.tc.devRef main_v49) : FVec Ideal S4096x64 .f32)⟩, ⟨S4096x64, (StableHlo.upto hostOps0 (fun b => m (c, b)) 64 (Proc.tc.devRef main_v46) : FVec Ideal S4096x64 .f32)⟩, ⟨S4096x64, (StableHlo.upto hostOps0 (fun b => m (c, b)) 64 (Proc.tc.devRef main_v50) : FVec Ideal S4096x64 .f32)⟩, ⟨S4096x64, (StableHlo.upto hostOps0 (fun b => m (c, b)) 64 (Proc.tc.devRef main_v48) : FVec Ideal S4096x64 .f32)⟩, ⟨S4096x64, (StableHlo.upto hostOps0 (fun b => m (c, b)) 64 (Proc.tc.devRef main_v50) : FVec Ideal S4096x64 .f32)⟩] concatenates_S4096x64_S4096x64_S4096x64_S4096x64_S4096x64_S4096x64_S4096x64_S4096x64_S4096x64_S4096x64_S4096x64_S4096x64_S4096x768_d1 = _
  unfold TAB
  rw [h45, h46, h48, h49, h50]

/-- One group of 64 columns of the table. -/
def grp : ℕ → FVec Ideal S4096x64 .f32
  | 0 => A64 | 1 => A64 | 2 => P64 | 3 => P64 | 4 => M64 | 5 => M64 | 6 => A64 | 7 => I64 | 8 => P64 | 9 => O64 | 10 => M64 | _ => O64

theorem leaf (s : Fin 4096) (j : Fin 768) (k : ℕ) (x : Fin 64) (hk : j.val / 64 = k) (hx : x.val = j.val % 64) :
    grp k (ix2 s x) = grp (j / 64) (ix2 s ⟨j % 64, Nat.mod_lt _ (by omega)⟩) := by
  subst hk
  exact congrArg (fun q => grp (j / 64) (ix2 s q)) (Fin.ext hx)

set_option maxHeartbeats 4000000 in
theorem TAB_at (s : Fin 4096) (j : Fin 768) : TAB (ix2 s j) = grp (j / 64) (ix2 s ⟨j % 64, Nat.mod_lt _ (by omega)⟩) := by
  unfold TAB
  pointwise
  refine by_dite (fun h0 => ?_) fun h0 => ?_
  · exact leaf s j 0 _ (by omega) (by dsimp only; omega)
  refine by_dite (fun h1 => ?_) fun h1 => ?_
  · exact leaf s j 1 _ (by omega) (by dsimp only; omega)
  refine by_dite (fun h2 => ?_) fun h2 => ?_
  · exact leaf s j 2 _ (by omega) (by dsimp only; omega)
  refine by_dite (fun h3 => ?_) fun h3 => ?_
  · exact leaf s j 3 _ (by omega) (by dsimp only; omega)
  refine by_dite (fun h4 => ?_) fun h4 => ?_
  · exact leaf s j 4 _ (by omega) (by dsimp only; omega)
  refine by_dite (fun h5 => ?_) fun h5 => ?_
  · exact leaf s j 5 _ (by omega) (by dsimp only; omega)
  refine by_dite (fun h6 => ?_) fun h6 => ?_
  · exact leaf s j 6 _ (by omega) (by dsimp only; omega)
  refine by_dite (fun h7 => ?_) fun h7 => ?_
  · exact leaf s j 7 _ (by omega) (by dsimp only; omega)
  refine by_dite (fun h8 => ?_) fun h8 => ?_
  · exact leaf s j 8 _ (by omega) (by dsimp only; omega)
  refine by_dite (fun h9 => ?_) fun h9 => ?_
  · exact leaf s j 9 _ (by omega) (by dsimp only; omega)
  refine by_dite (fun h10 => ?_) fun h10 => ?_
  · exact leaf s j 10 _ (by omega) (by dsimp only; omega)
  exact leaf s j 11 _ (by omega) (by dsimp only; omega)

theorem blkT (c : Dev nD) (t : Fin cfg0.N) (r : Fin 512) (j : Fin 768) : bT m c t (ix2 r j) = TAB (ix2 (pos t r) j) := by
  refine Eq.trans ?_ (congrFun (V51 m c) (ix2 (pos t r) j))
  unfold bT pos
  blk_point [iblk, idx t]

theorem A64_at (s : Fin 4096) (d : Fin 64) : A64 (ix2 s d) = if h : d.val < 8 then Ideal.cos (InRefIdeal.ang s ⟨d, h⟩)
    else if h : d.val < 16 then Ideal.cos (InRefIdeal.ang s ⟨d - 8, by omega⟩) else 1 := by
  unfold A64 InRefIdeal.ang
  pointwise [ANG, E48]
  by_cases h8 : d.val < 8
  · rw [dif_pos h8, dif_pos h8]
  · rw [dif_neg h8, dif_neg h8]
    by_cases h16 : d.val < 16
    · rw [dif_pos (by omega), dif_pos h16]
    · rw [dif_neg (by omega), dif_neg h16]

theorem P64_at (s : Fin 4096) (d : Fin 64) : P64 (ix2 s d) = if h : d.val < 8 then 0
    else if h : d.val < 16 then Ideal.sin (InRefIdeal.ang s ⟨d - 8, by omega⟩) else 0 := by
  unfold P64 InRefIdeal.ang
  pointwise [ANG, Z8, Z48]
  by_cases h8 : d.val < 8
  · rw [dif_pos h8, dif_pos h8]
  · rw [dif_neg h8, dif_neg h8]
    by_cases h16 : d.val < 16
    · rw [dif_pos (by omega), dif_pos h16]
    · rw [dif_neg (by omega), dif_neg h16]

theorem M64_at (s : Fin 4096) (d : Fin 64) : M64 (ix2 s d) = if h : d.val < 8 then -Ideal.sin (InRefIdeal.ang s ⟨d, h⟩) else 0 := by
  unfold M64 InRefIdeal.ang
  pointwise [ANG, Z8, Z48]
  by_cases h8 : d.val < 8
  · rw [dif_pos h8, dif_pos h8]
  · rw [dif_neg h8, dif_neg h8]
    try exact ite_self _

theorem I64_at (s : Fin 4096) (d : Fin 64) : I64 (ix2 s d) = (1 : EReal) := by
  pointwise [I64]
theorem O64_at (s : Fin 4096) (d : Fin 64) : O64 (ix2 s d) = (0 : EReal) := by
  pointwise [O64]

end Cert.InIdeal

end
-- ==== Proof.InTurn.lean ====
module

public import proofs.«01_k».proof.Proof.InValue
public import proofs.«01_k».proof.Proof.InTable

@[expose] public section

set_option maxRecDepth 16384

noncomputable section

/-! The turned queries of the input projection. -/

namespace Cert.InIdeal

open Idealize.ShloMosaic Idealize.ShloMosaic.TcCoe Idealize.SL.Sem
open Cert.InIdeal.Gen

variable (m : (ℓ : Loc nD τ sig) → Buf (Elt Ideal) ℓ)

theorem canon_hi (A B : FVec Ideal S512x128 .f32) (ia : ∀ i, (![0, 128] : Fin 2 → ℕ) i + (![512, 128] : Fin 2 → ℕ) i ≤ (![512, 256] : Fin 2 → ℕ) i)
    (ib : ∀ i, (![0, 0] : Fin 2 → ℕ) i + (![512, 128] : Fin 2 → ℕ) i ≤ (![512, 256] : Fin 2 → ℕ) i) (r : Fin 512) (j : Fin 128) :
    View.canon (Val := Elt Ideal) (s := S512x256) (e := .f32) [⟨Rect.unit ![0, 128] ![512, 128] ia, A⟩, ⟨Rect.unit ![0, 0] ![512, 128] ib, B⟩] (ix2 r ⟨128 + j, by omega⟩) = A (ix2 r j) := by
  have e : (ix2 r ⟨128 + j, by omega⟩ : S512x256.Idx) = (Rect.unit (s := S512x256) ![0, 128] ![512, 128] ia).emb (ix2 r j) :=
    funext (Fin.forall_fin_two.mpr ⟨Fin.ext (by show r.val = 0 + 1 * r.val; omega), Fin.ext (by show 128 + j.val = 128 + 1 * j.val; omega)⟩)
  rw [e]
  exact View.canon_cons_emb _ _ _ _

theorem canon_lo (A B : FVec Ideal S512x128 .f32) (ia : ∀ i, (![0, 128] : Fin 2 → ℕ) i + (![512, 128] : Fin 2 → ℕ) i ≤ (![512, 256] : Fin 2 → ℕ) i)
    (ib : ∀ i, (![0, 0] : Fin 2 → ℕ) i + (![512, 128] : Fin 2 → ℕ) i ≤ (![512, 256] : Fin 2 → ℕ) i) (r : Fin 512) (j : Fin 128) :
    View.canon (Val := Elt Ideal) (s := S512x256) (e := .f32) [⟨Rect.unit ![0, 128] ![512, 128] ia, A⟩, ⟨Rect.unit ![0, 0] ![512, 128] ib, B⟩] (ix2 r ⟨j, by omega⟩) = B (ix2 r j) := by
  refine (View.canon_cons_of_not_mem _ _ fun h => ?_).trans ?_
  · have h' := (Rect.mem_set_unit (inb := ia)).mp h (1 : Fin 2)
    have : 128 ≤ j.val := h'.1
    omega
  have e : (ix2 r ⟨j, by omega⟩ : S512x256.Idx) = (Rect.unit (s := S512x256) ![0, 0] ![512, 128] ib).emb (ix2 r j) :=
    funext (Fin.forall_fin_two.mpr ⟨Fin.ext (by show r.val = 0 + 1 * r.val; omega), Fin.ext (by show j.val = 0 + 1 * j.val; omega)⟩)
  rw [e]
  exact View.canon_cons_emb _ _ _ _

theorem turn_congr {y y' a a' p p' q q' : Fin 128 → EReal} (hy : ∀ j, y j = y' j) (ha : ∀ j, a j = a' j) (hp : ∀ j, p j = p' j) (hq : ∀ j, q j = q' j) (j : Fin 128) :
    turn y a p q j = turn y' a' p' q' j := by
  rw [funext hy, funext ha, funext hp, funext hq]

/-- Where the table holds a head's cosines and sines, the columns are turned. -/
theorem turn_head (y a p q : Fin 128 → EReal) (s : Fin 4096) (h : ℕ) (hh : h < 2) (d : Fin 64)
    (ha : a ⟨h * 64 + d, by omega⟩ = A64 (ix2 s d)) (hp : p ⟨h * 64 + d, by omega⟩ = P64 (ix2 s d)) (hq : q ⟨h * 64 + d, by omega⟩ = M64 (ix2 s d)) :
    turn y a p q ⟨h * 64 + d, by omega⟩
      = InMath.rope (fun d => y ⟨h * 64 + d, by omega⟩) (fun e => Ideal.cos (InRefIdeal.ang s e)) (fun e => Ideal.sin (InRefIdeal.ang s e)) d := by
  unfold turn InMath.rope
  rw [ha, hp, hq, A64_at, P64_at, M64_at]
  by_cases h8 : d.val < 8
  · simp only [dif_pos h8]
    rw [mul_zero, add_zero, mul_neg, ← sub_eq_add_neg]
    refine congrArg (fun x => _ - y x * _) (Fin.ext ?_)
    dsimp only
    omega
  · simp only [dif_neg h8]
    by_cases h16 : d.val < 16
    · simp only [dif_pos h16]
      rw [mul_zero, add_zero]
      refine congrArg (fun x => _ + y x * _) (Fin.ext ?_)
      dsimp only
      omega
    · simp only [dif_neg h16]
      rw [mul_zero, mul_zero, add_zero, add_zero, mul_one]

/-- Where it holds ones and zeros, they stay. -/
theorem turn_plain (y a p q : Fin 128 → EReal) (j : Fin 128) (ha : a j = 1) (hp : p j = 0) (hq : q j = 0) : turn y a p q j = y j := by
  unfold turn
  rw [ha, hp, hq, mul_zero, mul_zero, add_zero, add_zero, mul_one]

theorem tab_at (c : Dev nD) (t : Fin cfg0.N) (r : Fin 512) (g : ℕ) (hg : g < 12) (d : Fin 64) (j : Fin 768) (hj : j.val = g * 64 + d.val) :
    bT m c t (ix2 r j) = grp g (ix2 (pos t r) d) := by
  rw [blkT, TAB_at]
  exact (leaf (pos t r) j g d (by omega) (by omega)).symm

theorem point_10_lo (c : Dev nD) (t : Fin cfg0.N) (r : Fin 512) (j : Fin 128) :
    (dats m 0 c).flushed 10 t (ix2 r ⟨j, by omega⟩) = turn (fun j => InRefIdeal.proj (aX m c) (aG m c) (aW m c) (bat t) (pos t r) ⟨772 + j, by omega⟩)
      (fun j => bT m c t (ix2 r ⟨j, by omega⟩)) (fun j => bT m c t (ix2 r ⟨128 + j, by omega⟩)) (fun j => bT m c t (ix2 r ⟨256 + j, by omega⟩)) j := by
  rw [Value.flushed10_A]
  unfold out0_A_10
  frame_out
  refine (canon_lo _ _ _ _ r j).trans ((pay14_at _ _ _ _ _ r j).trans (turn_congr (fun j => ?_) (fun j => pay7_at _ r j) (fun j => pay8_at _ r j) (fun j => pay9_at _ r j) j))
  refine (pay13_at _ _ r _).trans (sum_part m c t r _ ⟨j, by omega⟩ _ (by dsimp only; omega) ?_)
  unfold src
  dsimp only
  split_ifs <;> omega

theorem point_10_hi (c : Dev nD) (t : Fin cfg0.N) (r : Fin 512) (j : Fin 128) :
    (dats m 0 c).flushed 10 t (ix2 r ⟨128 + j, by omega⟩) = turn (fun j => InRefIdeal.proj (aX m c) (aG m c) (aW m c) (bat t) (pos t r) ⟨900 + j, by omega⟩)
      (fun j => bT m c t (ix2 r ⟨j, by omega⟩)) (fun j => bT m c t (ix2 r ⟨128 + j, by omega⟩)) (fun j => bT m c t (ix2 r ⟨256 + j, by omega⟩)) j := by
  rw [Value.flushed10_A]
  unfold out0_A_10
  frame_out
  refine (canon_hi _ _ _ _ r j).trans ((pay15_at _ _ _ _ _ r j).trans (turn_congr (fun j => ?_) (fun j => pay7_at _ r j) (fun j => pay8_at _ r j) (fun j => pay9_at _ r j) j))
  refine (pay13_at _ _ r _).trans (sum_part m c t r _ ⟨128 + j, by omega⟩ _ (by dsimp only; omega) ?_)
  unfold src
  dsimp only
  split_ifs <;> omega

/-- One turned head of the queries. -/
theorem head_10 (c : Dev nD) (t : Fin cfg0.N) (r : Fin 512) (o h : ℕ) (ho : o + 128 ≤ 2976) (hh : h < 2) (d : Fin 64) (p : ℕ) (hp : p + 64 ≤ 2976) (e : p = o + h * 64) :
    turn (fun j => InRefIdeal.proj (aX m c) (aG m c) (aW m c) (bat t) (pos t r) ⟨o + j, by omega⟩)
      (fun j => bT m c t (ix2 r ⟨j, by omega⟩)) (fun j => bT m c t (ix2 r ⟨128 + j, by omega⟩)) (fun j => bT m c t (ix2 r ⟨256 + j, by omega⟩)) ⟨h * 64 + d, by omega⟩
      = InRefIdeal.turned (aX m c) (aG m c) (aW m c) (bat t) (pos t r) p hp d := by
  subst e
  have hg : h = 0 ∨ h = 1 := by omega
  refine (turn_head _ _ _ _ (pos t r) h hh d ?_ ?_ ?_).trans ?_
  · refine (tab_at m c t r h (by omega) d _ rfl).trans ?_
    rcases hg with rfl | rfl <;> rfl
  · refine (tab_at m c t r (2 + h) (by omega) d _ (by dsimp only; omega)).trans ?_
    rcases hg with rfl | rfl <;> rfl
  · refine (tab_at m c t r (4 + h) (by omega) d _ (by dsimp only; omega)).trans ?_
    rcases hg with rfl | rfl <;> rfl
  · unfold InRefIdeal.turned
    refine congrArg (fun f => InMath.rope f _ _ d) (funext fun x => congrArg (InRefIdeal.proj (aX m c) (aG m c) (aW m c) (bat t) (pos t r)) (Fin.ext ?_))
    dsimp only
    omega

theorem point_10 (c : Dev nD) (t : Fin cfg0.N) (r : Fin 512) (h : Fin 4) (d : Fin 64) :
    (dats m 0 c).flushed 10 t (ix2 r ⟨h * 64 + d, by omega⟩) = InRefIdeal.turned (aX m c) (aG m c) (aW m c) (bat t) (pos t r) (772 + h * 64) (by omega) d := by
  by_cases hh : h.val < 2
  · exact (point_10_lo m c t r ⟨h * 64 + d, by omega⟩).trans (head_10 m c t r 772 h (by omega) hh d _ _ rfl)
  · refine Eq.trans ?_ ((point_10_hi m c t r ⟨(h.val - 2) * 64 + d, by omega⟩).trans (head_10 m c t r 900 (h.val - 2) (by omega) (by omega) d _ _ (by omega)))
    exact congrArg (fun q : Fin 256 => (dats m 0 c).flushed 10 t (ix2 r q)) (Fin.ext (by dsimp only; omega))

theorem final_10 (c : Dev nD) (Y : FVec Ideal S16384x256 .f32)
    (hY : ∀ r (h : Fin 4) (d : Fin 64), Y (ix2 r ⟨h * 64 + d, by omega⟩)
      = InRefIdeal.turned (aX m c) (aG m c) (aW m c) ⟨r / 4096, by omega⟩ ⟨r % 4096, by omega⟩ (772 + h * 64) (by omega) d) :
    (dats m 0 c).arrAt 10 (cfgs 0).N = Y := by
  refine (dats m 0 c).arrAt_eq_of_covers 10 _ (by decide +kernel) fun t hf y => ?_
  obtain ⟨r, j, rfl⟩ : ∃ r j, y = ix2 r j := ⟨y 0, y 1, eq_ix2 y⟩
  obtain ⟨h, d, rfl⟩ : ∃ (h : Fin 4) (d : Fin 64), j = (⟨h * 64 + d, by omega⟩ : Fin 256) :=
    ⟨⟨(show Fin 256 from j).val / 64, by omega⟩, ⟨(show Fin 256 from j).val % 64, by omega⟩, Fin.ext (by show (show Fin 256 from j).val = _; dsimp only; omega)⟩
  blk_simp
  refine (point_10 m c t r h d).trans (Eq.trans (b := Y (ix2 (row t r) ⟨h * 64 + d, by omega⟩)) ?_ ?_)
  · rw [hY, row_div, row_mod]
  · unfold row
    have hi : win0_10.index t = ![t.val, 0] := (by decide +kernel : ∀ t : Fin grid0.N, win0_10.index t = ![t.val, 0]) t
    blk_ext [hi]

end Cert.InIdeal

end
-- ==== Proof.InRows.lean ====
module

public import proofs.«01_k».proof.Proof.InTurn
public import Idealize.ShloMosaic.Lib.Pipeline.ValueKit.Partial

@[expose] public section

set_option maxRecDepth 16384

noncomputable section

/-! The keys and values of the input projection, the selected and the window ones turned. -/

namespace Cert.InIdeal

open Idealize.ShloMosaic Idealize.ShloMosaic.TcCoe Idealize.SL.Sem
open Cert.InIdeal.Gen

variable (m : (ℓ : Loc nD τ sig) → Buf (Elt Ideal) ℓ)

/-- Keys and values side by side against the second table: the keys turned. -/
abbrev kv (c : Dev nD) (t : Fin cfg0.N) (r : Fin 512) (o : ℕ) (ho : o + 128 ≤ 2976) (j : Fin 128) : EReal :=
  turn (fun j => InRefIdeal.proj (aX m c) (aG m c) (aW m c) (bat t) (pos t r) ⟨o + j, by omega⟩)
    (fun j => bT m c t (ix2 r ⟨384 + j, by omega⟩)) (fun j => bT m c t (ix2 r ⟨512 + j, by omega⟩)) (fun j => bT m c t (ix2 r ⟨640 + j, by omega⟩)) j

theorem kv_k (c : Dev nD) (t : Fin cfg0.N) (r : Fin 512) (o : ℕ) (ho : o + 128 ≤ 2976) (d : Fin 64) :
    kv m c t r o ho ⟨d, by omega⟩ = InRefIdeal.turned (aX m c) (aG m c) (aW m c) (bat t) (pos t r) o (by omega) d := by
  unfold kv
  have e : (⟨d.val, by omega⟩ : Fin 128) = ⟨0 * 64 + d.val, by omega⟩ := Fin.ext (by dsimp only; omega)
  rw [e]
  refine (turn_head _ _ _ _ (pos t r) 0 (by omega) d ?_ ?_ ?_).trans ?_
  · exact tab_at m c t r 6 (by omega) d _ (by dsimp only; omega)
  · exact tab_at m c t r 8 (by omega) d _ (by dsimp only; omega)
  · exact tab_at m c t r 10 (by omega) d _ (by dsimp only; omega)
  · unfold InRefIdeal.turned
    refine congrArg (fun f => InMath.rope f _ _ d) (funext fun x => congrArg (InRefIdeal.proj (aX m c) (aG m c) (aW m c) (bat t) (pos t r)) (Fin.ext ?_))
    dsimp only
    omega

theorem kv_v (c : Dev nD) (t : Fin cfg0.N) (r : Fin 512) (o : ℕ) (ho : o + 128 ≤ 2976) (d : Fin 64) (p : Fin 2976) (hp : p.val = o + 64 + d.val) :
    kv m c t r o ho ⟨64 + d, by omega⟩ = InRefIdeal.proj (aX m c) (aG m c) (aW m c) (bat t) (pos t r) p := by
  unfold kv
  refine (turn_plain _ _ _ _ _ ?_ ?_ ?_).trans (congrArg (InRefIdeal.proj (aX m c) (aG m c) (aW m c) (bat t) (pos t r)) (Fin.ext (by dsimp only; omega)))
  · exact (tab_at m c t r 7 (by omega) d _ (by dsimp only; omega)).trans (I64_at _ d)
  · exact (tab_at m c t r 9 (by omega) d _ (by dsimp only; omega)).trans (O64_at _ d)
  · exact (tab_at m c t r 11 (by omega) d _ (by dsimp only; omega)).trans (O64_at _ d)

theorem point_11_lo (c : Dev nD) (t : Fin cfg0.N) (r : Fin 512) (j : Fin 128) :
    (dats m 0 c).flushed 11 t (ix4 0 0 ⟨j, by omega⟩ r) = InRefIdeal.proj (aX m c) (aG m c) (aW m c) (bat t) (pos t r) ⟨1028 + j, by omega⟩ := by
  rw [Value.flushed11_A]
  unfold out0_A_11
  frame_out
  refine (pay18_lo _ _ _ _ _ r j).trans ((pay16_at _ _ r _).trans (sum_part m c t r _ ⟨j, by omega⟩ _ (by dsimp only; omega) ?_))
  unfold src
  dsimp only
  split_ifs <;> omega

theorem point_11_hi (c : Dev nD) (t : Fin cfg0.N) (r : Fin 512) (j : Fin 128) :
    (dats m 0 c).flushed 11 t (ix4 0 0 ⟨128 + j, by omega⟩ r) = kv m c t r 1156 (by omega) j := by
  rw [Value.flushed11_A]
  unfold out0_A_11
  frame_out
  refine (pay18_hi _ _ _ _ _ r j).trans (turn_congr (fun j => ?_) (fun j => pay10_at _ r j) (fun j => pay11_at _ r j) (fun j => pay12_at _ r j) j)
  refine (pay16_at _ _ r _).trans (sum_part m c t r _ ⟨128 + j, by omega⟩ _ (by dsimp only; omega) ?_)
  unfold src
  dsimp only
  split_ifs <;> omega

theorem point_12 (c : Dev nD) (t : Fin cfg0.N) (r : Fin 512) (j : Fin 128) :
    (dats m 0 c).flushed 12 t (ix3 0 j r) = kv m c t r 1284 (by omega) j := by
  rw [Value.flushed12_A]
  unfold out0_A_12
  frame_out
  refine (pay19_at _ _ _ _ r j).trans (turn_congr (fun j => ?_) (fun j => pay10_at _ r j) (fun j => pay11_at _ r j) (fun j => pay12_at _ r j) j)
  refine (pay16_at _ _ r _).trans (sum_part m c t r _ ⟨256 + j, by omega⟩ _ (by dsimp only; omega) ?_)
  unfold src
  dsimp only
  split_ifs <;> omega

theorem point_11 (c : Dev nD) (t : Fin cfg0.N) (r : Fin 512) (j : Fin 256) (Y : FVec Ideal S2x4x256x4096 .f32)
    (hlo : ∀ b (j : Fin 128) s, Y (ix4 1 b ⟨j, by omega⟩ s) = InRefIdeal.proj (aX m c) (aG m c) (aW m c) b s ⟨1028 + j, by omega⟩)
    (hks : ∀ b (d : Fin 64) s, Y (ix4 1 b ⟨128 + d, by omega⟩ s) = InRefIdeal.turned (aX m c) (aG m c) (aW m c) b s 1156 (by omega) d)
    (hvs : ∀ b (d : Fin 64) s, Y (ix4 1 b ⟨192 + d, by omega⟩ s) = InRefIdeal.proj (aX m c) (aG m c) (aW m c) b s ⟨1220 + d, by omega⟩) :
    (dats m 0 c).flushed 11 t (ix4 0 0 j r) = Y (ix4 1 (bat t) j (pos t r)) := by
  have b1 : ∀ d : Fin 64, 128 + d.val < 256 := fun d => by omega
  have b2 : ∀ d : Fin 64, 192 + d.val < 256 := fun d => by omega
  by_cases h1 : j.val < 128
  · exact (point_11_lo m c t r ⟨j, h1⟩).trans (hlo (bat t) ⟨j, h1⟩ (pos t r)).symm
  by_cases h2 : j.val < 192
  · obtain ⟨d, rfl⟩ : ∃ d : Fin 64, j = ⟨128 + d, b1 d⟩ := ⟨⟨j - 128, by omega⟩, Fin.ext (by dsimp only; omega)⟩
    exact (point_11_hi m c t r ⟨d, by omega⟩).trans ((kv_k m c t r 1156 (by omega) d).trans (hks (bat t) d (pos t r)).symm)
  · obtain ⟨d, rfl⟩ : ∃ d : Fin 64, j = ⟨192 + d, b2 d⟩ := ⟨⟨j - 192, by omega⟩, Fin.ext (by dsimp only; omega)⟩
    refine Eq.trans ?_ ((point_11_hi m c t r ⟨64 + d, by omega⟩).trans ((kv_v m c t r 1156 (by omega) d ⟨1220 + d, by omega⟩ (by dsimp only)).trans (hvs (bat t) d (pos t r)).symm))
    exact congrArg (fun q : Fin 256 => (dats m 0 c).flushed 11 t (ix4 0 0 q r)) (Fin.ext (by dsimp only; omega))

set_option maxHeartbeats 1000000 in
theorem final_11 (c : Dev nD) (Y : FVec Ideal S2x4x256x4096 .f32)
    (h0 : ∀ b j s, Y (ix4 0 b j s) = aR m c (ix4 0 b j s))
    (hlo : ∀ b (j : Fin 128) s, Y (ix4 1 b ⟨j, by omega⟩ s) = InRefIdeal.proj (aX m c) (aG m c) (aW m c) b s ⟨1028 + j, by omega⟩)
    (hks : ∀ b (d : Fin 64) s, Y (ix4 1 b ⟨128 + d, by omega⟩ s) = InRefIdeal.turned (aX m c) (aG m c) (aW m c) b s 1156 (by omega) d)
    (hvs : ∀ b (d : Fin 64) s, Y (ix4 1 b ⟨192 + d, by omega⟩ s) = InRefIdeal.proj (aX m c) (aG m c) (aW m c) b s ⟨1220 + d, by omega⟩) :
    (dats m 0 c).arrAt 11 (cfgs 0).N = Y := by
  refine (dats m 0 c).arrAt_eq_of_coversWhere_of_agree 11 _ (fun β => β (0 : Fin 4) = 1) (by decide +kernel) (fun t hf y => ?_) (fun i hi => ?_)
  · obtain ⟨j, r, rfl⟩ : ∃ j r, y = ix4 0 0 j r := only4 y
    blk_simp
    refine (point_11 m c t r j Y hlo hks hvs).trans ?_
    unfold bat pos
    have hi : win0_11.index t = ![1, t.val / 8, 0, t.val % 8] := (by decide +kernel : ∀ t : Fin grid0.N, win0_11.index t = ![1, t.val / 8, 0, t.val % 8]) t
    blk_ext [hi]
  · obtain ⟨l, b, j, s, rfl⟩ : ∃ l b j s, i = ix4 l b j s := ⟨i 0, i 1, i 2, i 3, eq_ix4 i⟩
    have hl : l = 0 := by
      by_contra hne
      refine hi ?_
      have : l.val = 1 := by have := l.isLt; have : l.val ≠ 0 := fun h => hne (Fin.ext h); omega
      blk_simp [Pipeline.Window.cell_apply]
      omega
    subst hl
    refine Eq.trans ?_ (h0 b j s).symm
    exact congrFun (V52_4 m c) (ix4 0 b j s)

theorem only3 {a b : ℕ} (y : (⟨3, ![1, a, b]⟩ : Shape).Idx) : ∃ j r, y = ix3 0 j r :=
  ⟨y 1, y 2, (eq_ix3 y).trans (by rw [show y 0 = (0 : Fin 1) from Subsingleton.elim (α := Fin 1) _ _])⟩

theorem last_12 (c : Dev nD) (t : Fin cfg0.N) (r : Fin 512) (j : Fin 128) (Y : FVec Ideal S4x128x4096 .f32)
    (hk : ∀ b (d : Fin 64) s, Y (ix3 b ⟨d, by omega⟩ s) = InRefIdeal.turned (aX m c) (aG m c) (aW m c) b s 1284 (by omega) d)
    (hv : ∀ b (d : Fin 64) s, Y (ix3 b ⟨64 + d, by omega⟩ s) = InRefIdeal.proj (aX m c) (aG m c) (aW m c) b s ⟨1348 + d, by omega⟩) :
    (dats m 0 c).flushed 12 t (ix3 0 j r) = Y (ix3 (bat t) j (pos t r)) := by
  have b3 : ∀ d : Fin 64, 64 + d.val < 128 := fun d => by omega
  refine (point_12 m c t r j).trans ?_
  by_cases h1 : j.val < 64
  · exact (kv_k m c t r 1284 (by omega) ⟨j, h1⟩).trans (hk (bat t) ⟨j, h1⟩ (pos t r)).symm
  · obtain ⟨d, rfl⟩ : ∃ d : Fin 64, j = ⟨64 + d, b3 d⟩ := ⟨⟨j - 64, by omega⟩, Fin.ext (by dsimp only; omega)⟩
    exact (kv_v m c t r 1284 (by omega) d ⟨1348 + d, by omega⟩ (by dsimp only)).trans (hv (bat t) d (pos t r)).symm

theorem final_12 (c : Dev nD) (Y : FVec Ideal S4x128x4096 .f32)
    (hk : ∀ b (d : Fin 64) s, Y (ix3 b ⟨d, by omega⟩ s) = InRefIdeal.turned (aX m c) (aG m c) (aW m c) b s 1284 (by omega) d)
    (hv : ∀ b (d : Fin 64) s, Y (ix3 b ⟨64 + d, by omega⟩ s) = InRefIdeal.proj (aX m c) (aG m c) (aW m c) b s ⟨1348 + d, by omega⟩) :
    (dats m 0 c).arrAt 12 (cfgs 0).N = Y := by
  refine (dats m 0 c).arrAt_eq_of_covers 12 _ (by decide +kernel) fun t hf y => ?_
  obtain ⟨j, r, rfl⟩ : ∃ j r, y = ix3 0 j r := only3 y
  blk_simp
  refine (last_12 m c t r j Y hk hv).trans ?_
  · unfold bat pos
    have hi : win0_12.index t = ![t.val / 8, 0, t.val % 8] := (by decide +kernel : ∀ t : Fin grid0.N, win0_12.index t = ![t.val / 8, 0, t.val % 8]) t
    blk_ext [hi]

end Cert.InIdeal

end
-- ==== Proof.InPads.lean ====
module

public import proofs.«01_k».proof.Proof.InBlocks
public import Idealize.ShloMosaic.Lib.StableHlo.ReadAt
public import Idealize.ShloMosaic.Lib.Routing.OpsSet

@[expose] public section

set_option maxRecDepth 16384

noncomputable section

/-! The padded bias and second weights of the input projection. -/

namespace Cert.InIdeal

open Idealize.ShloMosaic Idealize.ShloMosaic.TcCoe Idealize.SL.Sem
open Cert.InIdeal.Gen

variable (m : (ℓ : Loc nD τ sig) → Buf (Elt Ideal) ℓ)

/-- Where the bias goes. -/
abbrev IB : IVec S2 32 := concatenate S2 0 [⟨S1, broadcastInDim S1 ![] bcast_S_S1 (constantI S_ 32 0#32)⟩, ⟨S1, broadcastInDim S1 ![] bcast_S_S1 (constantI S_ 32 0#32)⟩] concatenates_S1_S1_S2_d0
/-- Where the decay's second weights go. -/
abbrev IU : IVec S1 32 := broadcastInDim S1 ![] bcast_S_S1 (constantI S_ 32 16#32)
def SB (x : FVec Ideal S4 .f32) : FVec Ideal S1x128 .f32 :=
  Host.scatter scatter_S1x128_S2_S4_0_0_01_0 (fun _ b => b) (broadcastInDim S1x128 ![] bcast_S_S1x128 (constant S_ .f32 0x00000000#32)) IB x
def SU (x : FVec Ideal S16x256 .f32) : FVec Ideal S128x256 .f32 :=
  Host.scatter scatter_S128x256_S1_S16x256_01_n_0_0 (fun _ b => b) (broadcastInDim S128x256 ![] bcast_S_S128x256 (constant S_ .f32 0x00000000#32)) IU x

theorem landB : ∀ k : Fin 4, scatter_S1x128_S2_S4_0_0_01_0.resultIdx? (ix1 k) IB = some (ix2 0 ⟨k, by omega⟩) := by decide +kernel
theorem landU : ∀ (l : Fin 16) (j : Fin 256), scatter_S128x256_S1_S16x256_01_n_0_0.resultIdx? (ix2 l j) IU = some (ix2 ⟨16 + l, by omega⟩ j) := by decide +kernel

theorem V4 (c : Dev nD) : V m c main_v4 = SB (aB m c) := by
  show StableHlo.after hostOps0 _ _ = _
  after_reads_simp
  rfl
theorem V25 (c : Dev nD) : V m c main_v25 = truncf .bf16 (SU (aU m c)) bitsLt_bf16_f32 := by
  show StableHlo.after hostOps0 _ _ = _
  after_reads_simp
  rfl

theorem SB_hit (x : FVec Ideal S4 .f32) (k : Fin 4) : SB x (ix2 0 ⟨k, by omega⟩) = x (ix1 k) := by
  refine Routing.scatter_set_hit _ _ _ _ _ _ (fun k' h => ?_) (ix1 k) (landB k)
  obtain ⟨i, rfl⟩ : ∃ i, k' = ix1 i := ⟨k' 0, eq_ix1 k'⟩
  have e := Option.some.inj ((landB i).symm.trans h)
  have e1 : i.val = k.val := congrArg (fun q : S1x128.Idx => (q 1).val) e
  rw [Fin.ext e1]
theorem SB_miss (x : FVec Ideal S4 .f32) (j : Fin 128) (hj : 4 ≤ j.val) : SB x (ix2 0 j) = (0 : EReal) := by
  refine (Routing.scatter_set_miss _ _ _ _ _ fun k' h => ?_).trans (by pointwise)
  obtain ⟨i, rfl⟩ : ∃ i, k' = ix1 i := ⟨k' 0, eq_ix1 k'⟩
  have e := Option.some.inj ((landB i).symm.trans h)
  have e1 : i.val = j.val := congrArg (fun q : S1x128.Idx => (q 1).val) e
  omega
theorem SU_hit (x : FVec Ideal S16x256 .f32) (l : Fin 16) (j : Fin 256) : SU x (ix2 ⟨16 + l, by omega⟩ j) = x (ix2 l j) := by
  refine Routing.scatter_set_hit _ _ _ _ _ _ (fun k' h => ?_) (ix2 l j) (landU l j)
  obtain ⟨a, b, rfl⟩ : ∃ a b, k' = ix2 a b := ⟨k' 0, k' 1, eq_ix2 k'⟩
  have e := Option.some.inj ((landU a b).symm.trans h)
  have e0 : 16 + a.val = 16 + l.val := congrArg (fun q : S128x256.Idx => (q 0).val) e
  have e1 : b.val = j.val := congrArg (fun q : S128x256.Idx => (q 1).val) e
  rw [show a = l from Fin.ext (by omega), show b = j from Fin.ext e1]
theorem SU_miss (x : FVec Ideal S16x256 .f32) (l : Fin 128) (j : Fin 256) (hl : l.val < 16 ∨ 32 ≤ l.val) : SU x (ix2 l j) = (0 : EReal) := by
  refine (Routing.scatter_set_miss _ _ _ _ _ fun k' h => ?_).trans (by pointwise)
  obtain ⟨a, b, rfl⟩ : ∃ a b, k' = ix2 a b := ⟨k' 0, k' 1, eq_ix2 k'⟩
  have e := Option.some.inj ((landU a b).symm.trans h)
  have e0 : 16 + a.val = l.val := congrArg (fun q : S128x256.Idx => (q 0).val) e
  omega

theorem blkB (c : Dev nD) (t : Fin cfg0.N) (j : Fin 128) : bB m c t (ix2 0 j) = SB (aB m c) (ix2 0 j) := by
  refine Eq.trans ?_ (congrFun (V4 m c) (ix2 0 j))
  unfold bB
  blk_point [iblk, idx t]
theorem blkU (c : Dev nD) (t : Fin cfg0.N) (l : Fin 128) (j : Fin 256) : bU m c t (ix2 l j) = SU (aU m c) (ix2 l j) := by
  refine Eq.trans ?_ (congrFun (V25 m c) (ix2 l j))
  unfold bU
  blk_point [iblk, idx t]

/-- The decay's second weights are met by sixteen of the tile's last columns alone. -/
theorem sumU (v : Fin 128 → EReal) (x : FVec Ideal S16x256 .f32) (j : Fin 256) :
    (∑ l : Fin 128, v l * SU x (ix2 l j)) = ∑ l : Fin 16, v ⟨16 + l, by omega⟩ * x (ix2 l j) := by
  symm
  refine Finset.sum_of_injOn (fun l : Fin 16 => (⟨16 + l, by omega⟩ : Fin 128)) ?_ ?_ ?_ ?_
  · intro a _ b _ h
    have := congrArg Fin.val h
    exact Fin.ext (by dsimp only at this; omega)
  · intro a _
    exact Finset.mem_coe.mpr (Finset.mem_univ _)
  · intro l _ h
    rw [SU_miss x l j, mul_zero]
    by_contra hc
    exact h ⟨⟨l.val - 16, by omega⟩, Finset.mem_coe.mpr (Finset.mem_univ _), Fin.ext (by dsimp only; omega)⟩
  · intro l _
    rw [SU_hit]

end Cert.InIdeal

end
-- ==== Proof.InGates.lean ====
module

public import proofs.«01_k».proof.Proof.InRows
public import proofs.«01_k».proof.Proof.InPads

@[expose] public section

set_option maxRecDepth 16384

noncomputable section

/-! The input projection's gates. -/

namespace Cert.InIdeal

open Idealize.ShloMosaic Idealize.ShloMosaic.TcCoe Idealize.SL.Sem
open Cert.InIdeal.Gen

variable (m : (ℓ : Loc nD τ sig) → Buf (Elt Ideal) ℓ)

theorem sixteenth : Ideal.ofBits .f32 0x3D800000#32 = (((1 : ℝ) / 16 : ℝ) : EReal) := by
  simp [Ideal.ofBits, Ideal.ieee, -EReal.coe_mul]; norm_num

theorem sixteen : Ideal.ofBits .f32 1098907648#32 = ((16 : ℝ) : EReal) := by
  simp [Ideal.ofBits, Ideal.ieee, -EReal.coe_mul]; norm_num

/-- A sixteenth of a number is the number over sixteen. -/
theorem over_sixteen (x : EReal) : x * Ideal.ofBits .f32 0x3D800000#32 = Ideal.div x (Ideal.ofBits .f32 1098907648#32) := by
  rw [sixteenth, sixteen, Ideal.div_coe (by norm_num)]

/-- One of the tile's last columns. -/
theorem small_at (c : Dev nD) (t : Fin cfg0.N) (r : Fin 512) (j : Fin 128) (p : Fin 2976) (hj : j.val < 32) (e : src (2944 + j) = p.val) :
    k0_pay23 (F := Ideal) (k0_pay3 (bX m c t) (bG m c t)) (part (bW m c t) inb_S1024x3072_S1024x128_0_2944) (ix2 r j) = InRefIdeal.proj (aX m c) (aG m c) (aW m c) (bat t) (pos t r) p :=
  (pay23_at _ _ r j).trans (sum_part m c t r _ j p (by omega) e)

theorem point_16 (c : Dev nD) (t : Fin cfg0.N) (r : Fin 512) (j : Fin 256) :
    (dats m 0 c).flushed 16 t (ix2 r j) = Ideal.div (-InMath.soft ((∑ l : Fin 16, InRefIdeal.proj (aX m c) (aG m c) (aW m c) (bat t) (pos t r) ⟨2448 + l, by omega⟩ * aU m c (ix2 l j)) + aD m c (ix1 j)))
      (Ideal.ofBits FTy.f32 1098907648#32) := by
  rw [Value.flushed16_A]
  unfold out0_A_16
  frame_out
  refine (pay24_at _ _ _ r j).trans ((over_sixteen _).trans ?_)
  refine congrArg (fun x => Ideal.div (-InMath.soft x) _) (congrArg₂ (· + ·) ?_ (blkD m c t j))
  refine Eq.trans ?_ ((sumU (fun l => k0_pay23 (F := Ideal) (k0_pay3 (bX m c t) (bG m c t)) (part (bW m c t) inb_S1024x3072_S1024x128_0_2944) (ix2 r l)) (aU m c) j).trans ?_)
  · exact Finset.sum_congr rfl fun l _ => congrArg (_ * ·) (blkU m c t l j)
  · refine Finset.sum_congr rfl fun l _ => congrArg (· * _) (small_at m c t r _ _ (by dsimp only; omega) ?_)
    unfold src
    dsimp only
    split_ifs <;> omega

theorem final_16 (c : Dev nD) (Y : FVec Ideal S16384x256 .f32)
    (hY : ∀ r (j : Fin 256), Y (ix2 r j) = Ideal.div (-InMath.soft ((∑ l : Fin 16, InRefIdeal.proj (aX m c) (aG m c) (aW m c) ⟨r / 4096, by omega⟩ ⟨r % 4096, by omega⟩ ⟨2448 + l, by omega⟩
      * aU m c (ix2 l j)) + aD m c (ix1 j))) (Ideal.ofBits FTy.f32 1098907648#32)) :
    (dats m 0 c).arrAt 16 (cfgs 0).N = Y := by
  refine (dats m 0 c).arrAt_eq_of_covers 16 _ (by decide +kernel) fun t hf y => ?_
  obtain ⟨r, j, rfl⟩ : ∃ r j, y = ix2 r j := ⟨y 0, y 1, eq_ix2 y⟩
  blk_simp
  refine (point_16 m c t r j).trans (Eq.trans (b := Y (ix2 (row t r) j)) ?_ ?_)
  · rw [hY, row_div, row_mod]
  · unfold row
    have hi : win0_16.index t = ![t.val, 0] := (by decide +kernel : ∀ t : Fin grid0.N, win0_16.index t = ![t.val, 0]) t
    blk_ext [hi]

theorem point_18 (c : Dev nD) (t : Fin cfg0.N) (r : Fin 512) (j : Fin 8) (Y : FVec Ideal S4x8x4096 .f32)
    (hlo : ∀ b (j : Fin 4) s, Y (ix3 b ⟨j, by omega⟩ s) = -InMath.soft (InRefIdeal.proj (aX m c) (aG m c) (aW m c) b s ⟨768 + j, by omega⟩ + aB m c (ix1 j)))
    (hhi : ∀ b (j : Fin 4) s, Y (ix3 b ⟨4 + j, by omega⟩ s) = Ideal.div 1 (1 + Ideal.exp (-InRefIdeal.proj (aX m c) (aG m c) (aW m c) b s ⟨1412 + j, by omega⟩))) :
    (dats m 0 c).flushed 18 t (ix3 0 j r) = Y (ix3 (bat t) j (pos t r)) := by
  have b1 : ∀ d : Fin 4, 4 + d.val < 8 := fun d => by omega
  have b2 : ∀ d : Fin 4, d.val < 8 := fun d => by omega
  rw [Value.flushed18_A]
  unfold out0_A_18
  frame_out
  refine (pay2_at _ _ r j).trans ?_
  by_cases h : j.val < 4
  · rw [if_pos h]
    obtain ⟨d, rfl⟩ : ∃ d : Fin 4, j = ⟨d, b2 d⟩ := ⟨⟨j, h⟩, rfl⟩
    refine Eq.trans ?_ (hlo (bat t) d (pos t r)).symm
    refine congrArg (fun x => -InMath.soft x) (congrArg₂ (· + ·) ?_ ((blkB m c t _).trans (SB_hit _ d)))
    refine small_at m c t r _ _ (by dsimp only; omega) ?_
    unfold src
    dsimp only
    split_ifs <;> omega
  · rw [if_neg h]
    obtain ⟨d, rfl⟩ : ∃ d : Fin 4, j = ⟨4 + d, b1 d⟩ := ⟨⟨j - 4, by omega⟩, Fin.ext (by dsimp only; omega)⟩
    refine Eq.trans ?_ (hhi (bat t) d (pos t r)).symm
    refine congrArg (fun x => Ideal.div 1 (1 + Ideal.exp (-x))) ?_
    refine Eq.trans (congrArg₂ (· + ·) (?_ : _ = InRefIdeal.proj (aX m c) (aG m c) (aW m c) (bat t) (pos t r) ⟨1412 + d, by omega⟩) ((blkB m c t _).trans (SB_miss _ _ (by dsimp only; omega)))) (add_zero _)
    refine small_at m c t r _ _ (by dsimp only; omega) ?_
    unfold src
    dsimp only
    split_ifs <;> omega

theorem final_18 (c : Dev nD) (Y : FVec Ideal S4x8x4096 .f32)
    (hlo : ∀ b (j : Fin 4) s, Y (ix3 b ⟨j, by omega⟩ s) = -InMath.soft (InRefIdeal.proj (aX m c) (aG m c) (aW m c) b s ⟨768 + j, by omega⟩ + aB m c (ix1 j)))
    (hhi : ∀ b (j : Fin 4) s, Y (ix3 b ⟨4 + j, by omega⟩ s) = Ideal.div 1 (1 + Ideal.exp (-InRefIdeal.proj (aX m c) (aG m c) (aW m c) b s ⟨1412 + j, by omega⟩))) :
    (dats m 0 c).arrAt 18 (cfgs 0).N = Y := by
  refine (dats m 0 c).arrAt_eq_of_covers 18 _ (by decide +kernel) fun t hf y => ?_
  obtain ⟨j, r, rfl⟩ : ∃ j r, y = ix3 0 j r := only3 y
  blk_simp
  refine (point_18 m c t r j Y hlo hhi).trans ?_
  unfold bat pos
  have hi : win0_18.index t = ![t.val / 8, 0, t.val % 8] := (by decide +kernel : ∀ t : Fin grid0.N, win0_18.index t = ![t.val / 8, 0, t.val % 8]) t
  blk_ext [hi]

end Cert.InIdeal

end
-- ==== Proof.InRefGates.lean ====
module

public import proofs.«01_k».proof.Proof.InRefTerm

@[expose] public section

set_option maxRecDepth 16384

noncomputable section

/-! The reference's gates. -/

namespace Cert.InRefIdeal

open Idealize.ShloMosaic Idealize.ShloMosaic.TcCoe Idealize.SL.Sem
open Cert.InRefIdeal.Gen Cert.InRefIdeal.Value

variable (V0 : Valuation τ sig (Elt Ideal))

/-- The gate's logarithm, as the reference takes it: its own argument never differs from itself. -/
theorem soft_ref (y : EReal) : max (-y) 0 + Ideal.log1p (Ideal.exp (-FloatOps.absf (F := Ideal) (φ := FTy.f32) (-y))) = InMath.soft y := by
  unfold InMath.soft
  show max (-y) 0 + Ideal.log1p (Ideal.exp (-max (-y) (- -y))) = _
  rw [neg_neg, max_comm (-y) y]

theorem glog_at (r : Fin 16384) (j : Fin 256) :
    RGLOG V0 (ix2 r j) = Ideal.div (-InMath.soft ((∑ l : Fin 16, proj (vX V0) (vG V0) (vW V0) ⟨r / 4096, by omega⟩ ⟨r % 4096, by omega⟩ ⟨2448 + l, by omega⟩
      * vU V0 (ix2 l j)) + vD V0 (ix1 j))) (Ideal.ofBits FTy.f32 1098907648#32) := by
  simp only [← v13_at, ← soft_ref]
  pointwise [RGLOG, res_main_call1_call0_v3, res_main_call1_v0, res_main_call1_call0_cst]
  rw [if_neg (by simp)]

theorem smallt_lo (b : Fin 4) (j : Fin 4) (s : Fin 4096) :
    RSMALLT V0 (ix3 b ⟨j, by omega⟩ s) = -InMath.soft (proj (vX V0) (vG V0) (vW V0) b s ⟨768 + j, by omega⟩ + vB V0 (ix1 j)) := by
  simp only [← v13_at, ← soft_ref]
  pointwise [RSMALLT, res_main_call0_call0_v3, res_main_call0_v0, res_main_call0_call0_cst]
  rw [if_neg (by simp)]

theorem smallt_hi (b : Fin 4) (j : Fin 4) (s : Fin 4096) :
    RSMALLT V0 (ix3 b ⟨4 + j, by omega⟩ s)
      = Ideal.div 1 (1 + Ideal.exp (-proj (vX V0) (vG V0) (vW V0) b s ⟨1412 + j, by omega⟩)) := by
  simp only [← v13_at]
  pointwise [RSMALLT, res_main_call0_call0_v3, res_main_call0_v0, res_main_call0_call0_cst]

end Cert.InRefIdeal

end
-- ==== Proof.InRefTurned.lean ====
module

public import proofs.«01_k».proof.Proof.InRefTerm

@[expose] public section

set_option maxRecDepth 16384

noncomputable section

/-! The reference's columns that are turned for their position. -/

namespace Cert.InRefIdeal

open Idealize.ShloMosaic Idealize.ShloMosaic.TcCoe Idealize.SL.Sem
open Cert.InRefIdeal.Gen Cert.InRefIdeal.Value

variable (V0 : Valuation τ sig (Elt Ideal))

theorem v63_at (s : Fin 4096) (d : Fin 8) : res_main_v63 V0 (ix2 s d) = ang s d := by
  unfold ang
  pointwise [res_main_v63, res_main_v39]

theorem v97_at (s : Fin 4096) (d : Fin 8) : res_main_v97 V0 (ix2 s d) = ang s d := v63_at V0 s d

theorem v129_at (s : Fin 4096) (d : Fin 8) : res_main_v129 V0 (ix2 s d) = ang s d := v63_at V0 s d

set_option maxHeartbeats 4000000 in
/-- Each of the four heads of the queries is its 64 columns, turned. -/
theorem heads_at (b : Fin 4) (s : Fin 4096) (h : Fin 4) (d : Fin 64) :
    RH V0 (ix4 b s h d) = turned (vX V0) (vG V0) (vW V0) b s (772 + h * 64) (by omega) d := by
  unfold turned InMath.rope
  simp only [← v13_at, ← v63_at V0]
  pointwise [RH, res_main_v65, res_main_v67, res_main_v68, res_main_v69, res_main_v30]
  by_cases h8 : d.val < 8
  · rw [dif_pos h8, dif_pos h8]
    refine congrArg₂ (· - ·) (congrArg (· * _) (at_col V0 _ _ ?_)) (congrArg (· * _) (at_col V0 _ _ ?_)) <;> omega
  · rw [dif_neg h8, dif_neg h8]
    by_cases h16 : d.val < 16
    · rw [dif_pos (by omega), dif_pos h16]
      refine congrArg₂ (· + ·) (congrArg (· * _) (at_col V0 _ _ ?_)) (congrArg (· * _) (at_col V0 _ _ ?_)) <;> omega
    · rw [dif_neg (by omega), dif_neg h16]
      exact at_col V0 _ _ (by omega)

set_option maxHeartbeats 4000000 in
/-- The selected keys. -/
theorem ks_at (b : Fin 4) (s : Fin 4096) (d : Fin 64) :
    RKS V0 (ix3 b s d) = turned (vX V0) (vG V0) (vW V0) b s 1156 (by omega) d := by
  unfold turned InMath.rope
  simp only [← v13_at, ← v97_at V0]
  pointwise [RKS, res_main_v31, res_main_v45, res_main_v98, res_main_v99, res_main_v100, res_main_v101]
  by_cases h8 : d.val < 8
  · rw [dif_pos h8, dif_pos h8]
    refine congrArg₂ (· - ·) (congrArg (· * _) (at_col V0 _ _ ?_)) (congrArg (· * _) (at_col V0 _ _ ?_)) <;> omega
  · rw [dif_neg h8, dif_neg h8]
    by_cases h16 : d.val < 16
    · rw [dif_pos (by omega), dif_pos h16]
      refine congrArg₂ (· + ·) (congrArg (· * _) (at_col V0 _ _ ?_)) (congrArg (· * _) (at_col V0 _ _ ?_)) <;> omega
    · rw [dif_neg (by omega), dif_neg h16]
      exact at_col V0 _ _ (by omega)

set_option maxHeartbeats 4000000 in
/-- The window's keys. -/
theorem kw_at (b : Fin 4) (s : Fin 4096) (d : Fin 64) :
    RKW V0 (ix3 b s d) = turned (vX V0) (vG V0) (vW V0) b s 1284 (by omega) d := by
  unfold turned InMath.rope
  simp only [← v13_at, ← v129_at V0]
  pointwise [RKW, res_main_v31, res_main_v49, res_main_v130, res_main_v131, res_main_v132, res_main_v133]
  by_cases h8 : d.val < 8
  · rw [dif_pos h8, dif_pos h8]
    refine congrArg₂ (· - ·) (congrArg (· * _) (at_col V0 _ _ ?_)) (congrArg (· * _) (at_col V0 _ _ ?_)) <;> omega
  · rw [dif_neg h8, dif_neg h8]
    by_cases h16 : d.val < 16
    · rw [dif_pos (by omega), dif_pos h16]
      refine congrArg₂ (· + ·) (congrArg (· * _) (at_col V0 _ _ ?_)) (congrArg (· * _) (at_col V0 _ _ ?_)) <;> omega
    · rw [dif_neg (by omega), dif_neg h16]
      exact at_col V0 _ _ (by omega)

theorem nqr_at (r : Fin 16384) (h : Fin 4) (d : Fin 64) :
    RNQR V0 (ix2 r ⟨h * 64 + d, by omega⟩)
      = turned (vX V0) (vG V0) (vW V0) ⟨r / 4096, by omega⟩ ⟨r % 4096, by omega⟩ (772 + h * 64) (by omega) d := by
  rw [← heads_at]
  have e1 : (h.val * 64 + d.val) / 64 = h.val := by omega
  have e2 : (h.val * 64 + d.val) % 64 = d.val := by omega
  pointwise [RNQR]
  try simp only [e1, e2, Fin.eta]

end Cert.InRefIdeal

end
-- ==== Proof.InRefRows.lean ====
module

public import proofs.«01_k».proof.Proof.InRefTurned

@[expose] public section

set_option maxRecDepth 16384

noncomputable section

/-! The reference's columns that are turned for their position. -/

namespace Cert.InRefIdeal

open Idealize.ShloMosaic Idealize.ShloMosaic.TcCoe Idealize.SL.Sem
open Cert.InRefIdeal.Gen Cert.InRefIdeal.Value

variable (V0 : Valuation τ sig (Elt Ideal))

theorem rows_0 (b : Fin 4) (j : Fin 256) (s : Fin 4096) : RROWS V0 (ix4 0 b j s) = vR V0 (ix4 0 b j s) := by
  pointwise [RROWS]

theorem rows_lo (b : Fin 4) (j : Fin 128) (s : Fin 4096) :
    RROWS V0 (ix4 1 b ⟨j, by omega⟩ s) = proj (vX V0) (vG V0) (vW V0) b s ⟨1028 + j, by omega⟩ := by
  rw [← v13_at]
  pointwise [RROWS, res_main_v31]
  by_cases h : j.val < 64
  · rw [dif_pos h]
  · rw [dif_neg h, dif_pos (by omega)]
    exact at_col V0 _ _ (by omega)

theorem rows_ks (b : Fin 4) (d : Fin 64) (s : Fin 4096) :
    RROWS V0 (ix4 1 b ⟨128 + d, by omega⟩ s) = turned (vX V0) (vG V0) (vW V0) b s 1156 (by omega) d := by
  rw [← ks_at]
  have e : 128 + d.val - 64 - 64 = d.val := by omega
  pointwise [RROWS, res_main_v31]
  rw [dif_neg (by omega), dif_neg (by omega), dif_pos (by omega)]
  simp only [e, Fin.eta]

theorem rows_vs (b : Fin 4) (d : Fin 64) (s : Fin 4096) :
    RROWS V0 (ix4 1 b ⟨192 + d, by omega⟩ s) = proj (vX V0) (vG V0) (vW V0) b s ⟨1220 + d, by omega⟩ := by
  rw [← v13_at]
  pointwise [RROWS, res_main_v31]
  rw [dif_neg (by omega), dif_neg (by omega), dif_neg (by omega)]
  exact at_col V0 _ _ (by omega)

theorem win_k (b : Fin 4) (d : Fin 64) (s : Fin 4096) :
    RWIN V0 (ix3 b ⟨d, by omega⟩ s) = turned (vX V0) (vG V0) (vW V0) b s 1284 (by omega) d := by
  rw [← kw_at]
  pointwise [RWIN, res_main_v31]

theorem win_v (b : Fin 4) (d : Fin 64) (s : Fin 4096) :
    RWIN V0 (ix3 b ⟨64 + d, by omega⟩ s) = proj (vX V0) (vG V0) (vW V0) b s ⟨1348 + d, by omega⟩ := by
  rw [← v13_at]
  pointwise [RWIN, res_main_v31]
  try exact at_col V0 _ _ (by omega)

end Cert.InRefIdeal

end
-- ==== Proof.InClaim.lean ====
module

public import proofs.«01_k».proof.Defs
public import proofs.«01_k».proof.Proof.Gen.In.Frame
public import proofs.«01_k».proof.Proof.InGates
public import proofs.«01_k».proof.Proof.InTurn
public import proofs.«01_k».proof.Proof.InRefGates
public import proofs.«01_k».proof.Proof.InRefPlain
public import proofs.«01_k».proof.Proof.InRefRows
public import Idealize.ShloMosaic.Lib.Claim

@[expose] public section

set_option maxRecDepth 16384

noncomputable section

/-! The claims about the input projection. -/

namespace Cert.InProof

open Idealize.ShloMosaic Idealize.ShloMosaic.TcCoe Idealize.ShloMosaic.StableHlo Idealize.SL.Sem
open Cert.InRefIdeal (vX vG vW vB vU vD vF vR)
open Cert.InIdeal (aX aG aW aB aU aD aF aR)

theorem frame_in : Cert.quiescent_In := fun m ρ _ => Cert.In.Gen.frame m ρ

theorem frame_ideal : Cert.quiescent_InIdeal := fun m ρ _ => Cert.InIdeal.Gen.frame m ρ

set_option maxHeartbeats 1000000 in
theorem frame_ref : Cert.quiescent_InRefIdeal := fun m ρ _ =>
  (θ_run Cert.InRefIdeal.defs _ _).mono (fun r h => ⟨fun c => by obtain ⟨-, -, -, -, -, -, -, -, -, -, -, h⟩ := h c; exact h,
    sem_eq_zero_of_no_sems (by decide) r.2⟩) (Cert.InRefIdeal.Value.run m ρ)

set_option maxHeartbeats 4000000 in
theorem algebraic : Cert.algebraic_InIdeal_InRefIdeal := by
  intro m g m' g' _ hagree
  refine ⟨fun c => Cert.InRefIdeal.RFQ (launchContents m' c), fun c => Cert.InRefIdeal.RFKV (launchContents m' c),
    fun c => Cert.InRefIdeal.RNQ (launchContents m' c), fun c => Cert.InRefIdeal.RNQR (launchContents m' c),
    fun c => Cert.InRefIdeal.RROWS (launchContents m' c), fun c => Cert.InRefIdeal.RWIN (launchContents m' c),
    fun c => Cert.InRefIdeal.RGQK (launchContents m' c), fun c => Cert.InRefIdeal.RGV (launchContents m' c),
    fun c => Cert.InRefIdeal.RGOG (launchContents m' c), fun c => Cert.InRefIdeal.RGLOG (launchContents m' c),
    fun c => Cert.InRefIdeal.RSMALLT (launchContents m' c), ?_, (θ_run Cert.InRefIdeal.defs _ _).mono (fun r h => h) (Cert.InRefIdeal.Value.run m' g')⟩
  refine (θ_run Cert.InIdeal.defs _ _).mono (fun r h c => ?_) (Cert.InIdeal.Value.run_blocks m g)
  obtain ⟨k0, k1, k2, k3, k4, k5, k6, k7, k8, k9, -, k11, k⟩ := h c
  obtain ⟨e0, e1, e2, e3, e4, e5, e6, e7⟩ := hagree c
  have eX : vX (launchContents m' c) = aX m c := e0
  have eG : vG (launchContents m' c) = aG m c := e1
  have eW : vW (launchContents m' c) = aW m c := e2
  have eB : vB (launchContents m' c) = aB m c := e3
  have eU : vU (launchContents m' c) = aU m c := e4
  have eD : vD (launchContents m' c) = aD m c := e5
  have eF : vF (launchContents m' c) = aF m c := e6
  have eR : vR (launchContents m' c) = aR m c := e7
  refine ⟨k0.trans (Cert.InIdeal.final_7 m c _ fun r j => (Cert.InRefIdeal.fq_at _ r j).trans (by rw [eX, eG, eW])),
    k1.trans (Cert.InIdeal.final_8 m c _ (fun b j s => (Cert.InRefIdeal.fkv_0 _ b j s).trans (congrFun eF _)) fun b j s => (Cert.InRefIdeal.fkv_1 _ b j s).trans (by rw [eX, eG, eW])),
    k2.trans (Cert.InIdeal.final_9 m c _ fun r j => (Cert.InRefIdeal.nq_at _ r j).trans (by rw [eX, eG, eW])),
    k3.trans (Cert.InIdeal.final_10 m c _ fun r a d => (Cert.InRefIdeal.nqr_at _ r a d).trans (by rw [eX, eG, eW])),
    k4.trans (Cert.InIdeal.final_11 m c _ (fun b j s => (Cert.InRefIdeal.rows_0 _ b j s).trans (congrFun eR _)) (fun b j s => (Cert.InRefIdeal.rows_lo _ b j s).trans (by rw [eX, eG, eW]))
      (fun b j s => (Cert.InRefIdeal.rows_ks _ b j s).trans (by rw [eX, eG, eW])) fun b j s => (Cert.InRefIdeal.rows_vs _ b j s).trans (by rw [eX, eG, eW])),
    k5.trans (Cert.InIdeal.final_12 m c _ (fun b j s => (Cert.InRefIdeal.win_k _ b j s).trans (by rw [eX, eG, eW])) fun b j s => (Cert.InRefIdeal.win_v _ b j s).trans (by rw [eX, eG, eW])),
    k6.trans (Cert.InIdeal.final_13 m c _ fun r j => (Cert.InRefIdeal.gqk_at _ r j).trans (by rw [eX, eG, eW])),
    k7.trans (Cert.InIdeal.final_14 m c _ fun r j => (Cert.InRefIdeal.gv_at _ r j).trans (by rw [eX, eG, eW])),
    k8.trans (Cert.InIdeal.final_15 m c _ fun r j => (Cert.InRefIdeal.gog_at _ r j).trans (by rw [eX, eG, eW])),
    k9.trans (Cert.InIdeal.final_16 m c _ fun r j => (Cert.InRefIdeal.glog_at _ r j).trans (by rw [eX, eG, eW, eU, eD])),
    k11.trans (Cert.InIdeal.final_18 m c _ (fun b j s => (Cert.InRefIdeal.smallt_lo _ b j s).trans (by rw [eX, eG, eW, eB])) fun b j s => (Cert.InRefIdeal.smallt_hi _ b j s).trans (by rw [eX, eG, eW])), k⟩

end Cert.InProof

end
-- ==== Proof.lean ====
module

public import proofs.«01_k».proof.Proof.Gen.Dense
public import proofs.«01_k».proof.Proof.Gen.DenseIdeal
public import proofs.«01_k».proof.Proof.Gen.DenseRefIdeal
public import proofs.«01_k».proof.Proof.Gen.DenseIdeal.Value
public import proofs.«01_k».proof.Proof.Gen.DenseRefIdeal.Run
public import proofs.«01_k».proof.Proof.Gen.Moe
public import proofs.«01_k».proof.Proof.Gen.MoeIdeal
public import proofs.«01_k».proof.Proof.Gen.MoeRefIdeal
public import proofs.«01_k».proof.Proof.Gen.Out
public import proofs.«01_k».proof.Proof.Gen.OutIdeal
public import proofs.«01_k».proof.Proof.Gen.OutRefIdeal
public import proofs.«01_k».proof.Proof.Gen.OutIdeal.Value
public import proofs.«01_k».proof.Proof.Gen.OutRefIdeal.Run
public import proofs.«01_k».proof.Proof.Gen.In
public import proofs.«01_k».proof.Proof.Gen.InIdeal
public import proofs.«01_k».proof.Proof.Gen.InRefIdeal
public import proofs.«01_k».proof.Proof.Gen.In.Frame
public import proofs.«01_k».proof.Proof.Gen.InIdeal.Value
public import proofs.«01_k».proof.Proof.Gen.InIdeal.Skeleton
public import proofs.«01_k».proof.Proof.Gen.InRefIdeal.Run
public import proofs.«01_k».proof.Proof.Gen.Pre_plan_in_range
public import proofs.«01_k».proof.Proof.DenseClaim
public import proofs.«01_k».proof.Proof.MoePin
public import proofs.«01_k».proof.Proof.MoeClaim
public import proofs.«01_k».proof.Proof.OutClaim
public import proofs.«01_k».proof.Proof.InClaim
public import Idealize.ShloMosaic.Adequacy
public import Idealize.ShloMosaic.Init

@[expose] public section

noncomputable section

namespace Cert.Proof

open Idealize.ShloMosaic Idealize.SL.Sem

theorem claim : Cert.Claim := ⟨Cert.Dense.Gen.facts, Cert.DenseIdeal.Gen.facts, Cert.DenseRefIdeal.Gen.facts,
  Cert.Moe.Gen.facts, Cert.MoeIdeal.Gen.facts, Cert.MoeRefIdeal.Gen.facts,
  Cert.Out.Gen.facts, Cert.OutIdeal.Gen.facts, Cert.OutRefIdeal.Gen.facts,
  Cert.In.Gen.facts, Cert.InIdeal.Gen.facts, Cert.InRefIdeal.Gen.facts, Cert.Pre_plan_in_range.Gen.facts,
  DenseProof.frame_dense, DenseProof.frame_ideal, DenseProof.frame_ref,
  MoeProof.frame_moe, MoeProof.frame_ideal, MoeProof.frame_ref, MoeProof.frame_ref_pre,
  OutProof.frame_out, OutProof.frame_ideal, OutProof.frame_ref,
  InProof.frame_in, InProof.frame_ideal, InProof.frame_ref,
  trivial, DenseProof.algebraic, trivial, MoeProof.algebraic, trivial, OutProof.algebraic, trivial, InProof.algebraic⟩

end Cert.Proof

end
